-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_head_finite [hPre_head_finite : Cert.Pre_head_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_head_finite [hPre_head_finite : Cert.Pre_head_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_head_finite [hKernel3Ideal : Cert.Kernel3Ideal.Facts] [hPre_head_finite : Cert.Pre_head_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_head_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_head_finite [hReference3Ideal : Cert.Reference3Ideal.Facts] [hPre_head_finite : Cert.Pre_head_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_head_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_head_finite [hKernel3Ideal : Cert.Kernel3Ideal.Facts] [hReference3Ideal : Cert.Reference3Ideal.Facts] [hPre_head_finite : Cert.Pre_head_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_head_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)) (v6 : (c : Dev Cert.Kernel3Ideal.nD) → Buf (Elt Ideal) ((c.tc : Thread Cert.Kernel3Ideal.nD Cert.Kernel3Ideal.τ).loc Cert.Kernel3Ideal.main_v8_6)) (v7 : (c : Dev Cert.Kernel3Ideal.nD) → Buf (Elt Ideal) ((c.tc : Thread Cert.Kernel3Ideal.nD Cert.Kernel3Ideal.τ).loc Cert.Kernel3Ideal.main_v8_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_v8_6) = v6 c
          ∧ r.2.mem ((c.tc : Thread Cert.Kernel3Ideal.nD Cert.Kernel3Ideal.τ).loc Cert.Kernel3Ideal.main_v8_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v178) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v181) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v177) = v4 c
          ∧ r.2.mem ((c.tc : Thread Cert.Reference3Ideal.nD Cert.Reference3Ideal.τ).loc Cert.Reference3Ideal.main_v183) = v5 c
          ∧ r.2.mem ((c.tc : Thread Cert.Reference3Ideal.nD Cert.Reference3Ideal.τ).loc Cert.Reference3Ideal.main_v186) = v6 c
          ∧ r.2.mem ((c.tc : Thread Cert.Reference3Ideal.nD Cert.Reference3Ideal.τ).loc Cert.Reference3Ideal.main_v189) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v8) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_head_finite : Cert.Pre_head_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_head_finite (hKernel3Ideal := hKernel3Ideal) (hPre_head_finite := hPre_head_finite)
    ∧ quiescent_Reference3Ideal (hReference3Ideal := hReference3Ideal)
    ∧ quiescent_Reference3Ideal_pre_head_finite (hReference3Ideal := hReference3Ideal) (hPre_head_finite := hPre_head_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_head_finite (hKernel3Ideal := hKernel3Ideal) (hReference3Ideal := hReference3Ideal) (hPre_head_finite := hPre_head_finite)
    ∧ preserves_Kernel4_Kernel4Ideal
    ∧ algebraic_Kernel4Ideal_Reference4Ideal (hKernel4Ideal := hKernel4Ideal) (hReference4Ideal := hReference4Ideal)
-- ==== Pre_finite.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S4x6144 : S_.BroadcastsInDim S4x6144 (![] : Fin 0 → Fin S4x6144.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S4x2048x1024 .f32) (main_arg1 : FVec F S4x6144 .f32) (main_arg2 : FVec F S1x1024x5632 .f32) (main_arg3 : FVec F S1x3x2816 .f32) (main_arg4 : FVec F S1x2816 .f32) (main_arg5 : FVec F S1x2816x1024 .f32) (main_arg6 : FVec F S4x2048x1024 .f32) : IVec S4x2048x1024 1 × IVec S4x6144 1 × IVec S1x1024x5632 1 × IVec S1x2816x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x6144 .f32 := Host.absf main_arg1
  let main_cst_0 : FVec F S_ .f32 := constant S_ .f32 0x7F800000#32
  let main_v4 : FVec F S4x6144 .f32 := broadcastInDim S4x6144 ![] bcast_S_S4x6144 main_cst_0
  let main_v5 : IVec S4x6144 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg5
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S4x2048x1024 .f32 := Host.absf main_arg6
  let main_cst_3 : FVec F S_ .f32 := constant S_ .f32 0x7F800000#32
  let main_v13 : FVec F S4x2048x1024 .f32 := broadcastInDim S4x2048x1024 ![] bcast_S_S4x2048x1024 main_cst_3
  let main_v14 : IVec S4x2048x1024 1 := cmpf .olt main_v12 main_v13
  (main_v2, main_v5, main_v8, main_v11, main_v14)
-- ==== Pre_head_finite.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S4x6144 .f32) (main_arg2 : FVec F S1x1024x5632 .f32) (main_arg3 : FVec F S1x3x2816 .f32) (main_arg4 : FVec F S1x2816 .f32) (main_arg5 : FVec F S1x2816x1024 .f32) (main_arg6 : FVec F S1x1024 .f32) (main_arg7 : FVec F S1x1024 .f32) (main_arg8 : FVec F S4x2048x1024 .f32) : IVec S1x1024 1 × IVec S1x1024 1 × IVec S4x2048x1024 1 :=
  let main_v0 : FVec F S1x1024 .f32 := Host.absf main_arg6
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg7
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4x2048x1024 .f32 := Host.absf main_arg8
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  (main_v2, main_v5, main_v8)
-- ==== Kernel.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S4x1024 : Shape := ⟨2, ![4, 1024]⟩
abbrev S4x1x1024 : Shape := ⟨3, ![4, 1, 1024]⟩
abbrev S1024x5632 : Shape := ⟨2, ![1024, 5632]⟩
abbrev S_ : Shape := ⟨0, ![]⟩
abbrev S4x2048x5632 : Shape := ⟨3, ![4, 2048, 5632]⟩
abbrev S4x2048x2816 : Shape := ⟨3, ![4, 2048, 2816]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S1024x4x1408 : Shape := ⟨3, ![1024, 4, 1408]⟩
abbrev S4x1024x1408 : Shape := ⟨3, ![4, 1024, 1408]⟩
abbrev S4x1x6144 : Shape := ⟨3, ![4, 1, 6144]⟩
abbrev S2816x1024 : Shape := ⟨2, ![2816, 1024]⟩
abbrev S4x2816 : Shape := ⟨2, ![4, 2816]⟩
abbrev S4x2x1024 : Shape := ⟨3, ![4, 2, 1024]⟩
abbrev S1x256x1024 : Shape := ⟨3, ![1, 256, 1024]⟩
abbrev S1x256x5632 : Shape := ⟨3, ![1, 256, 5632]⟩
abbrev S1x256x2816 : Shape := ⟨3, ![1, 256, 2816]⟩
abbrev S1x1x6144 : Shape := ⟨3, ![1, 1, 6144]⟩
abbrev S1x2x1024 : Shape := ⟨3, ![1, 2, 1024]⟩
abbrev S264x1408 : Shape := ⟨2, ![264, 1408]⟩
abbrev S2x8x1408 : Shape := ⟨3, ![2, 8, 1408]⟩
abbrev S2x1024 : Shape := ⟨2, ![2, 1024]⟩
abbrev S1x1x1024 : Shape := ⟨3, ![1, 1, 1024]⟩
abbrev S1x1024 : Shape := ⟨2, ![1, 1024]⟩
abbrev S256x1024 : Shape := ⟨2, ![256, 1024]⟩
abbrev S1x256x1408 : Shape := ⟨3, ![1, 256, 1408]⟩
abbrev S256x1408 : Shape := ⟨2, ![256, 1408]⟩
abbrev S1408x1024 : Shape := ⟨2, ![1408, 1024]⟩
abbrev S1x1408 : Shape := ⟨2, ![1, 1408]⟩
abbrev S128x1408 : Shape := ⟨2, ![128, 1408]⟩
abbrev S64x1408 : Shape := ⟨2, ![64, 1408]⟩
abbrev S32x1408 : Shape := ⟨2, ![32, 1408]⟩
abbrev S16x1408 : Shape := ⟨2, ![16, 1408]⟩
abbrev S8x1408 : Shape := ⟨2, ![8, 1408]⟩
abbrev S1408 : Shape := ⟨1, ![1408]⟩
abbrev S1x8x1408 : Shape := ⟨3, ![1, 8, 1408]⟩
abbrev S1x1024x1408 : Shape := ⟨3, ![1, 1024, 1408]⟩
abbrev S1024x1408 : Shape := ⟨2, ![1024, 1408]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S1024 : Shape := ⟨1, ![1024]⟩

abbrev nBuf : Space → Nat
  | .hbm => 65
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S4x2048x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S1024x5632, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x5632, .f32⟩
  | .hbm, ⟨20, _⟩ => ⟨S4x2048x2816, .f32⟩
  | .hbm, ⟨21, _⟩ => ⟨S3x2816, .f32⟩
  | .hbm, ⟨22, _⟩ => ⟨S2816, .f32⟩
  | .hbm, ⟨23, _⟩ => ⟨S_, .f32⟩
  | .hbm, ⟨24, _⟩ => ⟨S4x2x2816, .f32⟩
  | .hbm, ⟨25, _⟩ => ⟨S4x2050x2816, .f32⟩
  | .hbm, ⟨26, _⟩ => ⟨S1x2816, .f32⟩
  | .hbm, ⟨27, _⟩ => ⟨S2816, .f32⟩
  | .hbm, ⟨28, _⟩ => ⟨S4x2048x2816, .f32⟩
  | .hbm, ⟨29, _⟩ => ⟨S1x1x2816, .f32⟩
  | .hbm, ⟨30, _⟩ => ⟨S4x2048x2816, .f32⟩
  | .hbm, ⟨31, _⟩ => ⟨S4x2048x2816, .f32⟩
  | .hbm, ⟨32, _⟩ => ⟨S_, .f32⟩
  | .hbm, ⟨33, _⟩ => ⟨S4x2048x2816, .f32⟩
  | .hbm, ⟨34, _⟩ => ⟨S4x2048x2816, .f32⟩
  | .hbm, ⟨35, _⟩ => ⟨S1x2816, .f32⟩
  | .hbm, ⟨36, _⟩ => ⟨S2816, .f32⟩
  | .hbm, ⟨37, _⟩ => ⟨S4x2048x2816, .f32⟩
  | .hbm, ⟨38, _⟩ => ⟨S1x1x2816, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S1x2816, .f32⟩
  | .hbm, ⟨43, _⟩ => ⟨S2816, .f32⟩
  | .hbm, ⟨44, _⟩ => ⟨S4x2048x2816, .f32⟩
  | .hbm, ⟨45, _⟩ => ⟨S1x1x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S1x1x2816, .f32⟩
  | .hbm, ⟨50, _⟩ => ⟨S4x2048x2816, .f32⟩
  | .hbm, ⟨51, _⟩ => ⟨S4x2048x2816, .f32⟩
  | .hbm, ⟨52, _⟩ => ⟨S1024x5632, .f32⟩
  | .hbm, ⟨53, _⟩ => ⟨S1024x5632, .bf16⟩
  | .hbm, ⟨54, _⟩ => ⟨S1024x4x1408, .bf16⟩
  | .hbm, ⟨55, _⟩ => ⟨S4x1024x1408, .bf16⟩
  | .hbm, ⟨56, _⟩ => ⟨S4x1x6144, .f32⟩
  | .hbm, ⟨57, _⟩ => ⟨S2816x1024, .f32⟩
  | .hbm, ⟨58, _⟩ => ⟨S2816x1024, .bf16⟩
  | .hbm, ⟨59, _⟩ => ⟨S3x2816, .f32⟩
  | .hbm, ⟨60, _⟩ => ⟨S4x2048x1024, .f32⟩
  | .hbm, ⟨61, _⟩ => ⟨S4x2048x1024, .bf16⟩
  | .hbm, ⟨62, _⟩ => ⟨S4x2048x5632, .bf16⟩
  | .hbm, ⟨63, _⟩ => ⟨S4x2816, .f32⟩
  | .hbm, ⟨64, _⟩ => ⟨S4x2x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x5632, .f32⟩
  | .local _ .vmem, ⟨5, _⟩ => ⟨S1x256x5632, .f32⟩
  | .local _ .vmem, ⟨6, _⟩ => ⟨S1x256x2816, .f32⟩
  | .local _ .vmem, ⟨7, _⟩ => ⟨S1x256x2816, .f32⟩
  | .local _ .vmem, ⟨8, _⟩ => ⟨S1x1x6144, .f32⟩
  | .local _ .vmem, ⟨9, _⟩ => ⟨S1x1x6144, .f32⟩
  | .local _ .vmem, ⟨10, _⟩ => ⟨S4x1024x1408, .bf16⟩
  | .local _ .vmem, ⟨11, _⟩ => ⟨S2816x1024, .bf16⟩
  | .local _ .vmem, ⟨12, _⟩ => ⟨S3x2816, .f32⟩
  | .local _ .vmem, ⟨13, _⟩ => ⟨S1x2816, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x5632, .bf16⟩
  | .local _ .vmem, ⟨19, _⟩ => ⟨S1x256x5632, .bf16⟩
  | .local _ .vmem, ⟨20, _⟩ => ⟨S4x2816, .f32⟩
  | .local _ .vmem, ⟨21, _⟩ => ⟨S1x2x1024, .f32⟩
  | .local _ .vmem, ⟨22, _⟩ => ⟨S1x2x1024, .f32⟩
  | .local _ .vmem, ⟨23, _⟩ => ⟨S264x1408, .f32⟩
  | .local _ .vmem, ⟨24, _⟩ => ⟨S2x8x1408, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50_0 : Ref sig .tc := ⟨.hbm, 60, rfl⟩
abbrev main_v50_1 : Ref sig .tc := ⟨.hbm, 61, rfl⟩
abbrev main_v50_2 : Ref sig .tc := ⟨.hbm, 62, rfl⟩
abbrev main_v50_3 : Ref sig .tc := ⟨.hbm, 63, rfl⟩
abbrev main_v50_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S4x1024 : Shape := ⟨2, ![4, 1024]⟩
abbrev S4x1x1024 : Shape := ⟨3, ![4, 1, 1024]⟩
abbrev S1024x5632 : Shape := ⟨2, ![1024, 5632]⟩
abbrev S_ : Shape := ⟨0, ![]⟩
abbrev S4x2048x5632 : Shape := ⟨3, ![4, 2048, 5632]⟩
abbrev S3x2816 : Shape := ⟨2, ![3, 2816]⟩
abbrev S2816 : Shape := ⟨1, ![2816]⟩
abbrev S2816x1024 : Shape := ⟨2, ![2816, 1024]⟩
abbrev S4x2048x2816 : Shape := ⟨3, ![4, 2048, 2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S1024x2816 : Shape := ⟨2, ![1024, 2816]⟩
abbrev S5632x1024 : Shape := ⟨2, ![5632, 1024]⟩
abbrev S4x2816 : Shape := ⟨2, ![4, 2816]⟩
abbrev S4x2x1024 : Shape := ⟨3, ![4, 2, 1024]⟩

abbrev nBuf : Space → Nat
  | .hbm => 177
  | .vmem => 0
  | .smem => 0
  | _ => 0

abbrev hbmTy0_0 (i : Nat) : BufTy := match i % 128 with
  | 0 => ⟨S4x2048x1024, .f32⟩
  | 1 => ⟨S4x6144, .f32⟩
  | 2 => ⟨S1x1024x5632, .f32⟩
  | 3 => ⟨S1x3x2816, .f32⟩
  | 4 => ⟨S1x2816, .f32⟩
  | 5 => ⟨S1x2816x1024, .f32⟩
  | 6 => ⟨S4x2048x1024, .f32⟩
  | 7 => ⟨S4x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1x1024, .f32⟩
  | 14 => ⟨S4x1x1024, .f32⟩
  | 15 => ⟨S4x1x1024, .f32⟩
  | 16 => ⟨S4x1x1024, .f32⟩
  | 17 => ⟨S4x1x1024, .f32⟩
  | 18 => ⟨S4x1x1024, .f32⟩
  | 19 => ⟨S1024x5632, .f32⟩
  | 20 => ⟨S_, .f32⟩
  | 21 => ⟨S4x1x1024, .f32⟩
  | 22 => ⟨S4x1x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x5632, .f32⟩
  | 28 => ⟨S3x2816, .f32⟩
  | 29 => ⟨S2816, .f32⟩
  | 30 => ⟨S2816x1024, .f32⟩
  | 31 => ⟨S4x2048x2816, .f32⟩
  | 32 => ⟨S4x2048x2816, .f32⟩
  | 33 => ⟨S_, .f32⟩
  | 34 => ⟨S4x2x2816, .f32⟩
  | 35 => ⟨S4x2050x2816, .f32⟩
  | 36 => ⟨S_, .f32⟩
  | 37 => ⟨S4x2x2816, .f32⟩
  | 38 => ⟨S1x2816, .f32⟩
  | 39 => ⟨S2816, .f32⟩
  | 40 => ⟨S4x2048x2816, .f32⟩
  | 41 => ⟨S1x1x2816, .f32⟩
  | 42 => ⟨S4x2048x2816, .f32⟩
  | 43 => ⟨S4x2048x2816, .f32⟩
  | 44 => ⟨S_, .f32⟩
  | 45 => ⟨S4x2048x2816, .f32⟩
  | 46 => ⟨S4x2048x2816, .f32⟩
  | 47 => ⟨S1x2816, .f32⟩
  | 48 => ⟨S2816, .f32⟩
  | 49 => ⟨S4x2048x2816, .f32⟩
  | 50 => ⟨S1x1x2816, .f32⟩
  | 51 => ⟨S4x2048x2816, .f32⟩
  | 52 => ⟨S4x2048x2816, .f32⟩
  | 53 => ⟨S4x2048x2816, .f32⟩
  | 54 => ⟨S1x2816, .f32⟩
  | 55 => ⟨S2816, .f32⟩
  | 56 => ⟨S4x2048x2816, .f32⟩
  | 57 => ⟨S1x1x2816, .f32⟩
  | 58 => ⟨S4x2048x2816, .f32⟩
  | 59 => ⟨S4x2048x2816, .f32⟩
  | 60 => ⟨S4x2048x2816, .f32⟩
  | 61 => ⟨S1x1x2816, .f32⟩
  | 62 => ⟨S4x2048x2816, .f32⟩
  | 63 => ⟨S4x2048x2816, .f32⟩
  | 64 => ⟨S4x2048x2816, .f32⟩
  | 65 => ⟨S4x2048x2816, .f32⟩
  | 66 => ⟨S_, .f32⟩
  | 67 => ⟨S4x2048x2816, .f32⟩
  | 68 => ⟨S4x2048x2816, .f32⟩
  | 69 => ⟨S_, .f32⟩
  | 70 => ⟨S4x2048x2816, .f32⟩
  | 71 => ⟨S4x2048x2816, .f32⟩
  | 72 => ⟨S_, .f32⟩
  | 73 => ⟨S4x2048x2816, .f32⟩
  | 74 => ⟨S4x2048x2816, .f32⟩
  | 75 => ⟨S4x2048x2816, .f32⟩
  | 76 => ⟨S4x2048x2816, .f32⟩
  | 77 => ⟨S4x2048x2816, .f32⟩
  | 78 => ⟨S4x2048x1024, .f32⟩
  | 79 => ⟨S_, .f32⟩
  | 80 => ⟨S4x2048x1024, .f32⟩
  | 81 => ⟨S4x2048x1024, .f32⟩
  | 82 => ⟨S_, .f32⟩
  | 83 => ⟨S4x1x1024, .f32⟩
  | 84 => ⟨S4x1x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S_, .f32⟩
  | 94 => ⟨S4x1024, .f32⟩
  | 95 => ⟨S4x1x1024, .f32⟩
  | 96 => ⟨S_, .f32⟩
  | 97 => ⟨S4x2048x1024, .f32⟩
  | 98 => ⟨S4x2048x1024, .f32⟩
  | 99 => ⟨S1024x2816, .f32⟩
  | 100 => ⟨S2816x1024, .f32⟩
  | 101 => ⟨S4x2048x2816, .f32⟩
  | 102 => ⟨S4x2048x2816, .f32⟩
  | 103 => ⟨S4x2048x2816, .f32⟩
  | 104 => ⟨S4x2048x2816, .f32⟩
  | 105 => ⟨S4x2048x2816, .f32⟩
  | 106 => ⟨S4x2048x2816, .f32⟩
  | 107 => ⟨S4x2048x2816, .f32⟩
  | 108 => ⟨S_, .f32⟩
  | 109 => ⟨S2816, .f32⟩
  | 110 => ⟨S1x1x2816, .f32⟩
  | 111 => ⟨S_, .f32⟩
  | 112 => ⟨S2816, .f32⟩
  | 113 => ⟨S4x2048x2816, .f32⟩
  | 114 => ⟨S4x2048x2816, .f32⟩
  | 115 => ⟨S4x2048x2816, .f32⟩
  | 116 => ⟨S_, .f32⟩
  | 117 => ⟨S2816, .f32⟩
  | 118 => ⟨S1x1x2816, .f32⟩
  | 119 => ⟨S_, .f32⟩
  | 120 => ⟨S2816, .f32⟩
  | 121 => ⟨S_, .f32⟩
  | 122 => ⟨S4x2050x2816, .f32⟩
  | 123 => ⟨S1x2816, .f32⟩
  | 124 => ⟨S_, .f32⟩
  | 125 => ⟨S3x2816, .f32⟩
  | 126 => ⟨S4x2048x2816, .f32⟩
  | 127 => ⟨S4x2048x2816, .f32⟩
  | _ => ⟨S4x2048x1024, .f32⟩

abbrev hbmTy0_1 (i : Nat) : BufTy := match i % 128 with
  | 0 => ⟨S4x2048x2816, .f32⟩
  | 1 => ⟨S_, .f32⟩
  | 2 => ⟨S2816, .f32⟩
  | 3 => ⟨S1x1x2816, .f32⟩
  | 4 => ⟨S_, .f32⟩
  | 5 => ⟨S2816, .f32⟩
  | 6 => ⟨S_, .f32⟩
  | 7 => ⟨S4x2050x2816, .f32⟩
  | 8 => ⟨S4x2050x2816, .f32⟩
  | 9 => ⟨S1x2816, .f32⟩
  | 10 => ⟨S_, .f32⟩
  | 11 => ⟨S3x2816, .f32⟩
  | 12 => ⟨S3x2816, .f32⟩
  | 13 => ⟨S4x2048x2816, .f32⟩
  | 14 => ⟨S4x2048x2816, .f32⟩
  | 15 => ⟨S4x2048x2816, .f32⟩
  | 16 => ⟨S_, .f32⟩
  | 17 => ⟨S2816, .f32⟩
  | 18 => ⟨S1x1x2816, .f32⟩
  | 19 => ⟨S_, .f32⟩
  | 20 => ⟨S2816, .f32⟩
  | 21 => ⟨S_, .f32⟩
  | 22 => ⟨S4x2050x2816, .f32⟩
  | 23 => ⟨S4x2050x2816, .f32⟩
  | 24 => ⟨S1x2816, .f32⟩
  | 25 => ⟨S_, .f32⟩
  | 26 => ⟨S3x2816, .f32⟩
  | 27 => ⟨S3x2816, .f32⟩
  | 28 => ⟨S4x2x2816, .f32⟩
  | 29 => ⟨S4x2048x2816, .f32⟩
  | 30 => ⟨S4x2048x5632, .f32⟩
  | 31 => ⟨S5632x1024, .f32⟩
  | 32 => ⟨S1024x5632, .f32⟩
  | 33 => ⟨S4x2048x1024, .f32⟩
  | 34 => ⟨S_, .f32⟩
  | 35 => ⟨S4x1024, .f32⟩
  | 36 => ⟨S4x1x1024, .f32⟩
  | 37 => ⟨S4x2048x1024, .f32⟩
  | 38 => ⟨S_, .f32⟩
  | 39 => ⟨S4x1024, .f32⟩
  | 40 => ⟨S4x1x1024, .f32⟩
  | 41 => ⟨S4x2048x1024, .f32⟩
  | 42 => ⟨S4x2048x1024, .f32⟩
  | 43 => ⟨S4x2048x1024, .f32⟩
  | 44 => ⟨S4x2048x1024, .bf16⟩
  | 45 => ⟨S4x2048x5632, .bf16⟩
  | 46 => ⟨S1x2816, .f32⟩
  | 47 => ⟨S4x2816, .f32⟩
  | 48 => ⟨S4x2x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v53_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v53_1 : Ref sig .tc := ⟨.hbm, 75, rfl⟩
abbrev main_v53_0 : Ref sig .tc := ⟨.hbm, 76, rfl⟩
abbrev main_v54 : Ref sig .tc := ⟨.hbm, 77, rfl⟩
abbrev main_v55 : Ref sig .tc := ⟨.hbm, 78, rfl⟩
abbrev main_cst_3 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_5 : Ref sig .tc := ⟨.hbm, 93, rfl⟩
abbrev main_v68 : Ref sig .tc := ⟨.hbm, 94, rfl⟩
abbrev main_v69 : Ref sig .tc := ⟨.hbm, 95, rfl⟩
abbrev main_cst_6 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v77 : Ref sig .tc := ⟨.hbm, 107, rfl⟩
abbrev main_cst_7 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_9 : Ref sig .tc := ⟨.hbm, 116, rfl⟩
abbrev main_v84 : Ref sig .tc := ⟨.hbm, 117, rfl⟩
abbrev main_v85 : Ref sig .tc := ⟨.hbm, 118, rfl⟩
abbrev main_cst_10 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_v88 : Ref sig .tc := ⟨.hbm, 123, rfl⟩
abbrev main_cst_12 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_13 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_cst_15 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_16 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_17 : Ref sig .tc := ⟨.hbm, 144, rfl⟩
abbrev main_v104 : Ref sig .tc := ⟨.hbm, 145, rfl⟩
abbrev main_v105 : Ref sig .tc := ⟨.hbm, 146, rfl⟩
abbrev main_cst_18 : Ref sig .tc := ⟨.hbm, 147, rfl⟩
abbrev main_v106 : Ref sig .tc := ⟨.hbm, 148, rfl⟩
abbrev main_cst_19 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_20 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_21 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_22 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x6144 : Shape := ⟨2, ![4, 6144]⟩
abbrev S4x2048x5632 : Shape := ⟨3, ![4, 2048, 5632]⟩
abbrev S4x1024 : Shape := ⟨2, ![4, 1024]⟩
abbrev S4x1x1024 : Shape := ⟨3, ![4, 1, 1024]⟩
abbrev S_ : Shape := ⟨0, ![]⟩
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 18
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S4x2048x5632, .bf16⟩
  | .hbm, ⟨3, _⟩ => ⟨S4x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x2048x1024, .f32⟩
  | .hbm, ⟨9, _⟩ => ⟨S4x2048x1024, .f32⟩
  | .hbm, ⟨10, _⟩ => ⟨S4x1024, .f32⟩
  | .hbm, ⟨11, _⟩ => ⟨S4x1x1024, .f32⟩
  | .hbm, ⟨12, _⟩ => ⟨S4x2048x1024, .f32⟩
  | .hbm, ⟨13, _⟩ => ⟨S4x2048x1024, .f32⟩
  | .hbm, ⟨14, _⟩ => ⟨S4x2048x1024, .bf16⟩
  | .hbm, ⟨15, _⟩ => ⟨S8192x1024, .bf16⟩
  | .hbm, ⟨16, _⟩ => ⟨S8192x5632, .bf16⟩
  | .hbm, ⟨17, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c0_i32_5 : BitVec 32 := 0#32
  ![arg1.toNat, v17.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi v9 c0_i32_3
  let c0_i32_4 : BitVec 32 := 0#32
  ![arg1.toNat, v10.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4x2048x1024 : Shape := ⟨3, ![4, 2048, 1024]⟩
abbrev S4x6144 : Shape := ⟨2, ![4, 6144]⟩
abbrev S4x2048x5632 : Shape := ⟨3, ![4, 2048, 5632]⟩
abbrev S4x1024 : Shape := ⟨2, ![4, 1024]⟩
abbrev S4x1x1024 : Shape := ⟨3, ![4, 1, 1024]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S4x2048x5632, .bf16⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S_, .f32⟩
  | .hbm, ⟨16, _⟩ => ⟨S1024x5632, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x5632, .f32⟩
  | .hbm, ⟨25, _⟩ => ⟨S4x2048x5632, .f32⟩
  | .hbm, ⟨26, _⟩ => ⟨S5632x1024, .f32⟩
  | .hbm, ⟨27, _⟩ => ⟨S1024x5632, .f32⟩
  | .hbm, ⟨28, _⟩ => ⟨S1024x4x1408, .f32⟩
  | .hbm, ⟨29, _⟩ => ⟨S4x1024x1408, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4x1x6144 : Shape := ⟨3, ![4, 1, 6144]⟩
abbrev S3x2816 : Shape := ⟨2, ![3, 2816]⟩
abbrev S2816x1024 : Shape := ⟨2, ![2816, 1024]⟩
abbrev S4x2048x5632 : Shape := ⟨3, ![4, 2048, 5632]⟩
abbrev S4x2048x2816 : Shape := ⟨3, ![4, 2048, 2816]⟩
abbrev S2x1024 : Shape := ⟨2, ![2, 1024]⟩
abbrev S4x1x1024 : Shape := ⟨3, ![4, 1, 1024]⟩
abbrev S1x256x1024 : Shape := ⟨3, ![1, 256, 1024]⟩
abbrev S1x1x6144 : Shape := ⟨3, ![1, 1, 6144]⟩
abbrev S1x256x5632 : Shape := ⟨3, ![1, 256, 5632]⟩
abbrev S1x256x2816 : Shape := ⟨3, ![1, 256, 2816]⟩
abbrev S1x1x1024 : Shape := ⟨3, ![1, 1, 1024]⟩
abbrev S2x264x1408 : Shape := ⟨3, ![2, 264, 1408]⟩
abbrev S2x8x1408 : Shape := ⟨3, ![2, 8, 1408]⟩
abbrev S256x1024 : Shape := ⟨2, ![256, 1024]⟩
abbrev S1x1024x1408 : Shape := ⟨3, ![1, 1024, 1408]⟩
abbrev S1024x1408 : Shape := ⟨2, ![1024, 1408]⟩
abbrev S256x1408 : Shape := ⟨2, ![256, 1408]⟩
abbrev S1x256x1408 : Shape := ⟨3, ![1, 256, 1408]⟩
abbrev S1x264x1408 : Shape := ⟨3, ![1, 264, 1408]⟩
abbrev S264x1408 : Shape := ⟨2, ![264, 1408]⟩
abbrev S1x1408 : Shape := ⟨2, ![1, 1408]⟩
abbrev S8x1408 : Shape := ⟨2, ![8, 1408]⟩
abbrev S1408x1024 : Shape := ⟨2, ![1408, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 25
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S4x2048x1024, .f32⟩
  | .hbm, ⟨9, _⟩ => ⟨S1024x5632, .f32⟩
  | .hbm, ⟨10, _⟩ => ⟨S1024x5632, .bf16⟩
  | .hbm, ⟨11, _⟩ => ⟨S1024x4x1408, .bf16⟩
  | .hbm, ⟨12, _⟩ => ⟨S4x1024x1408, .bf16⟩
  | .hbm, ⟨13, _⟩ => ⟨S4x1x6144, .f32⟩
  | .hbm, ⟨14, _⟩ => ⟨S3x2816, .f32⟩
  | .hbm, ⟨15, _⟩ => ⟨S2816x1024, .f32⟩
  | .hbm, ⟨16, _⟩ => ⟨S2816x1024, .bf16⟩
  | .hbm, ⟨17, _⟩ => ⟨S4x2048x1024, .bf16⟩
  | .hbm, ⟨18, _⟩ => ⟨S4x2048x5632, .f32⟩
  | .hbm, ⟨19, _⟩ => ⟨S4x2048x2816, .bf16⟩
  | .hbm, ⟨20, _⟩ => ⟨S4x2048x2816, .f32⟩
  | .hbm, ⟨21, _⟩ => ⟨S4x2048x1024, .f32⟩
  | .hbm, ⟨22, _⟩ => ⟨S1x1024, .f32⟩
  | .hbm, ⟨23, _⟩ => ⟨S2x1024, .f32⟩
  | .hbm, ⟨24, _⟩ => ⟨S4x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S4x1024x1408, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x5632, .f32⟩
  | .local _ .vmem, ⟨15, _⟩ => ⟨S1x256x5632, .f32⟩
  | .local _ .vmem, ⟨16, _⟩ => ⟨S1x256x2816, .bf16⟩
  | .local _ .vmem, ⟨17, _⟩ => ⟨S1x256x2816, .bf16⟩
  | .local _ .vmem, ⟨18, _⟩ => ⟨S1x256x2816, .f32⟩
  | .local _ .vmem, ⟨19, _⟩ => ⟨S1x256x2816, .f32⟩
  | .local _ .vmem, ⟨20, _⟩ => ⟨S1x256x1024, .f32⟩
  | .local _ .vmem, ⟨21, _⟩ => ⟨S1x256x1024, .f32⟩
  | .local _ .vmem, ⟨22, _⟩ => ⟨S1x1024, .f32⟩
  | .local _ .vmem, ⟨23, _⟩ => ⟨S2x1024, .f32⟩
  | .local _ .vmem, ⟨24, _⟩ => ⟨S1x1x1024, .f32⟩
  | .local _ .vmem, ⟨25, _⟩ => ⟨S1x1x1024, .f32⟩
  | .local _ .vmem, ⟨26, _⟩ => ⟨S2x264x1408, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference3Ideal.lean ====
abbrev S4x2048x1024 : Shape := ⟨3, ![4, 2048, 1024]⟩
abbrev S4x6144 : Shape := ⟨2, ![4, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S4x1024 : Shape := ⟨2, ![4, 1024]⟩
abbrev S4x1x1024 : Shape := ⟨3, ![4, 1, 1024]⟩
abbrev S_ : Shape := ⟨0, ![]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S2816x1024 : Shape := ⟨2, ![2816, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S2x1024 : Shape := ⟨2, ![2, 1024]⟩

abbrev nBuf : Space → Nat
  | .hbm => 251
  | .vmem => 0
  | .smem => 0
  | _ => 0

abbrev hbmTy0_0 (i : Nat) : BufTy := match i % 128 with
  | 0 => ⟨S4x2048x1024, .f32⟩
  | 1 => ⟨S4x6144, .f32⟩
  | 2 => ⟨S1x1024x5632, .f32⟩
  | 3 => ⟨S1x3x2816, .f32⟩
  | 4 => ⟨S1x2816, .f32⟩
  | 5 => ⟨S1x2816x1024, .f32⟩
  | 6 => ⟨S1x1024, .f32⟩
  | 7 => ⟨S1x1024, .f32⟩
  | 8 => ⟨S4x2048x1024, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S_, .f32⟩
  | 22 => ⟨S4x1x1024, .f32⟩
  | 23 => ⟨S4x1x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S1024x5632, .f32⟩
  | 29 => ⟨S_, .f32⟩
  | 30 => ⟨S4x1x1024, .f32⟩
  | 31 => ⟨S4x1x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x5632, .f32⟩
  | 37 => ⟨S4x2048x2816, .f32⟩
  | 38 => ⟨S4x2048x2816, .f32⟩
  | 39 => ⟨S3x2816, .f32⟩
  | 40 => ⟨S2816, .f32⟩
  | 41 => ⟨S_, .f32⟩
  | 42 => ⟨S4x2x2816, .f32⟩
  | 43 => ⟨S4x2050x2816, .f32⟩
  | 44 => ⟨S1x2816, .f32⟩
  | 45 => ⟨S2816, .f32⟩
  | 46 => ⟨S4x2048x2816, .f32⟩
  | 47 => ⟨S1x1x2816, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S1x2816, .f32⟩
  | 54 => ⟨S2816, .f32⟩
  | 55 => ⟨S4x2048x2816, .f32⟩
  | 56 => ⟨S1x1x2816, .f32⟩
  | 57 => ⟨S4x2048x2816, .f32⟩
  | 58 => ⟨S4x2048x2816, .f32⟩
  | 59 => ⟨S4x2048x2816, .f32⟩
  | 60 => ⟨S1x2816, .f32⟩
  | 61 => ⟨S2816, .f32⟩
  | 62 => ⟨S4x2048x2816, .f32⟩
  | 63 => ⟨S1x1x2816, .f32⟩
  | 64 => ⟨S4x2048x2816, .f32⟩
  | 65 => ⟨S4x2048x2816, .f32⟩
  | 66 => ⟨S4x2048x2816, .f32⟩
  | 67 => ⟨S1x1x2816, .f32⟩
  | 68 => ⟨S4x2048x2816, .f32⟩
  | 69 => ⟨S4x2048x2816, .f32⟩
  | 70 => ⟨S3x2816, .f32⟩
  | 71 => ⟨S2816, .f32⟩
  | 72 => ⟨S2816x1024, .f32⟩
  | 73 => ⟨S4x2048x2816, .f32⟩
  | 74 => ⟨S4x2048x2816, .f32⟩
  | 75 => ⟨S_, .f32⟩
  | 76 => ⟨S4x2x2816, .f32⟩
  | 77 => ⟨S4x2050x2816, .f32⟩
  | 78 => ⟨S1x2816, .f32⟩
  | 79 => ⟨S2816, .f32⟩
  | 80 => ⟨S4x2048x2816, .f32⟩
  | 81 => ⟨S1x1x2816, .f32⟩
  | 82 => ⟨S4x2048x2816, .f32⟩
  | 83 => ⟨S4x2048x2816, .f32⟩
  | 84 => ⟨S_, .f32⟩
  | 85 => ⟨S4x2048x2816, .f32⟩
  | 86 => ⟨S4x2048x2816, .f32⟩
  | 87 => ⟨S1x2816, .f32⟩
  | 88 => ⟨S2816, .f32⟩
  | 89 => ⟨S4x2048x2816, .f32⟩
  | 90 => ⟨S1x1x2816, .f32⟩
  | 91 => ⟨S4x2048x2816, .f32⟩
  | 92 => ⟨S4x2048x2816, .f32⟩
  | 93 => ⟨S4x2048x2816, .f32⟩
  | 94 => ⟨S1x2816, .f32⟩
  | 95 => ⟨S2816, .f32⟩
  | 96 => ⟨S4x2048x2816, .f32⟩
  | 97 => ⟨S1x1x2816, .f32⟩
  | 98 => ⟨S4x2048x2816, .f32⟩
  | 99 => ⟨S4x2048x2816, .f32⟩
  | 100 => ⟨S4x2048x2816, .f32⟩
  | 101 => ⟨S1x1x2816, .f32⟩
  | 102 => ⟨S4x2048x2816, .f32⟩
  | 103 => ⟨S4x2048x2816, .f32⟩
  | 104 => ⟨S4x2048x2816, .f32⟩
  | 105 => ⟨S4x2048x2816, .f32⟩
  | 106 => ⟨S_, .f32⟩
  | 107 => ⟨S4x2048x2816, .f32⟩
  | 108 => ⟨S4x2048x2816, .f32⟩
  | 109 => ⟨S_, .f32⟩
  | 110 => ⟨S4x2048x2816, .f32⟩
  | 111 => ⟨S4x2048x2816, .f32⟩
  | 112 => ⟨S4x2048x2816, .f32⟩
  | 113 => ⟨S4x2048x2816, .f32⟩
  | 114 => ⟨S4x2048x1024, .f32⟩
  | 115 => ⟨S_, .f32⟩
  | 116 => ⟨S4x2048x1024, .f32⟩
  | 117 => ⟨S4x2048x1024, .f32⟩
  | 118 => ⟨S_, .f32⟩
  | 119 => ⟨S4x1x1024, .f32⟩
  | 120 => ⟨S4x1x1024, .f32⟩
  | 121 => ⟨S4x2048x1024, .f32⟩
  | 122 => ⟨S4x2048x1024, .f32⟩
  | 123 => ⟨S4x2048x1024, .f32⟩
  | 124 => ⟨S1024, .f32⟩
  | 125 => ⟨S1024, .f32⟩
  | 126 => ⟨S_, .f32⟩
  | 127 => ⟨S4x2048, .f32⟩
  | _ => ⟨S4x2048x1024, .f32⟩

abbrev hbmTy0_1 (i : Nat) : BufTy := match i % 128 with
  | 0 => ⟨S4x2048x1, .f32⟩
  | 1 => ⟨S_, .f32⟩
  | 2 => ⟨S4x2048x1, .f32⟩
  | 3 => ⟨S4x2048x1, .f32⟩
  | 4 => ⟨S4x2048x1024, .f32⟩
  | 5 => ⟨S4x2048x1024, .f32⟩
  | 6 => ⟨S4x2048x1024, .f32⟩
  | 7 => ⟨S_, .f32⟩
  | 8 => ⟨S4x2048x1024, .f32⟩
  | 9 => ⟨S4x2048x1024, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S4x2048x1024, .f32⟩
  | 17 => ⟨S4x2048x1024, .f32⟩
  | 18 => ⟨S_, .f32⟩
  | 19 => ⟨S4x2048x1, .f32⟩
  | 20 => ⟨S4x2048x1, .f32⟩
  | 21 => ⟨S4x2048x1, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S1x1x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S_, .f32⟩
  | 37 => ⟨S4x2048x1024, .f32⟩
  | 38 => ⟨S4x2048x1024, .f32⟩
  | 39 => ⟨S_, .f32⟩
  | 40 => ⟨S4x2048, .f32⟩
  | 41 => ⟨S_, .f32⟩
  | 42 => ⟨S4x2048, .f32⟩
  | 43 => ⟨S4x2048, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4x2048, .f32⟩
  | 52 => ⟨S_, .f32⟩
  | 53 => ⟨S4x2048, .f32⟩
  | 54 => ⟨S4x2048, .f32⟩
  | 55 => ⟨S4x2048x1024, .f32⟩
  | 56 => ⟨S4x2048x1024, .f32⟩
  | 57 => ⟨S_, .f32⟩
  | 58 => ⟨S1024, .f32⟩
  | 59 => ⟨S1x1x1024, .f32⟩
  | 60 => ⟨S_, .f32⟩
  | 61 => ⟨S1024, .f32⟩
  | 62 => ⟨S4x2048x1024, .f32⟩
  | 63 => ⟨S_, .f32⟩
  | 64 => ⟨S1024, .f32⟩
  | 65 => ⟨S1x1x1024, .f32⟩
  | 66 => ⟨S4x2048x1024, .f32⟩
  | 67 => ⟨S4x2048x1024, .f32⟩
  | 68 => ⟨S_, .f32⟩
  | 69 => ⟨S1024, .f32⟩
  | 70 => ⟨S4x2048x1024, .f32⟩
  | 71 => ⟨S_, .f32⟩
  | 72 => ⟨S4x2048, .f32⟩
  | 73 => ⟨S4x2048x1, .f32⟩
  | 74 => ⟨S4x2048x1024, .f32⟩
  | 75 => ⟨S4x2048x1024, .f32⟩
  | 76 => ⟨S4x2048x1, .f32⟩
  | 77 => ⟨S4x2048x1024, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S_, .f32⟩
  | 85 => ⟨S4x2048, .f32⟩
  | 86 => ⟨S4x2048x1024, .f32⟩
  | 87 => ⟨S4x2048x1024, .f32⟩
  | 88 => ⟨S4x2048x1024, .f32⟩
  | 89 => ⟨S_, .f32⟩
  | 90 => ⟨S4x2048, .f32⟩
  | 91 => ⟨S4x2048x1, .f32⟩
  | 92 => ⟨S4x2048x1024, .f32⟩
  | 93 => ⟨S4x2048x1, .f32⟩
  | 94 => ⟨S_, .f32⟩
  | 95 => ⟨S4x2048x1, .f32⟩
  | 96 => ⟨S4x2048x1, .f32⟩
  | 97 => ⟨S_, .f32⟩
  | 98 => ⟨S4x2048, .f32⟩
  | 99 => ⟨S4x2048x1024, .f32⟩
  | 100 => ⟨S4x2048x1024, .f32⟩
  | 101 => ⟨S4x2048x1024, .bf16⟩
  | 102 => ⟨S4x2048x2816, .f32⟩
  | 103 => ⟨S4x2048x2816, .f32⟩
  | 104 => ⟨S_, .f32⟩
  | 105 => ⟨S4x2048x2816, .f32⟩
  | 106 => ⟨S4x2048x2816, .f32⟩
  | 107 => ⟨S_, .f32⟩
  | 108 => ⟨S4x2048x2816, .f32⟩
  | 109 => ⟨S4x2048x2816, .f32⟩
  | 110 => ⟨S4x2048x2816, .f32⟩
  | 111 => ⟨S4x2048x2816, .f32⟩
  | 112 => ⟨S4x2048x2816, .bf16⟩
  | 113 => ⟨S_, .f32⟩
  | 114 => ⟨S_, .f32⟩
  | 115 => ⟨S1x1024, .f32⟩
  | 116 => ⟨S1x1024, .f32⟩
  | 117 => ⟨S1x1024, .f32⟩
  | 118 => ⟨S2x1024, .f32⟩
  | 119 => ⟨S4x2048x1024, .f32⟩
  | 120 => ⟨S_, .f32⟩
  | 121 => ⟨S4x1024, .f32⟩
  | 122 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_4 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_5 : Ref sig .tc := ⟨.hbm, 115, rfl⟩
abbrev main_v92 : Ref sig .tc := ⟨.hbm, 116, rfl⟩
abbrev main_v93 : Ref sig .tc := ⟨.hbm, 117, rfl⟩
abbrev main_cst_6 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_7 : Ref sig .tc := ⟨.hbm, 126, rfl⟩
abbrev main_v101 : Ref sig .tc := ⟨.hbm, 127, rfl⟩
abbrev main_v102 : Ref sig .tc := ⟨.hbm, 128, rfl⟩
abbrev main_cst_8 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_9 : Ref sig .tc := ⟨.hbm, 135, rfl⟩
abbrev main_v108 : Ref sig .tc := ⟨.hbm, 136, rfl⟩
abbrev main_v109 : Ref sig .tc := ⟨.hbm, 137, rfl⟩
abbrev main_cst_10 : Ref sig .tc := ⟨.hbm, 138, rfl⟩
abbrev main_v110 : Ref sig .tc := ⟨.hbm, 139, rfl⟩
abbrev main_v111 : Ref sig .tc := ⟨.hbm, 140, rfl⟩
abbrev main_cst_11 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_12 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_13 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_14 : Ref sig .tc := ⟨.hbm, 164, rfl⟩
abbrev main_v132 : Ref sig .tc := ⟨.hbm, 165, rfl⟩
abbrev main_v133 : Ref sig .tc := ⟨.hbm, 166, rfl⟩
abbrev main_cst_15 : Ref sig .tc := ⟨.hbm, 167, rfl⟩
abbrev main_v134 : Ref sig .tc := ⟨.hbm, 168, rfl⟩
abbrev main_cst_16 : Ref sig .tc := ⟨.hbm, 169, rfl⟩
abbrev main_v135 : Ref sig .tc := ⟨.hbm, 170, rfl⟩
abbrev main_v136 : Ref sig .tc := ⟨.hbm, 171, rfl⟩
abbrev main_cst_17 : Ref sig .tc := ⟨.hbm, 172, rfl⟩
abbrev main_v137 : Ref sig .tc := ⟨.hbm, 173, rfl⟩
abbrev main_cst_18 : Ref sig .tc := ⟨.hbm, 174, rfl⟩
abbrev main_v138 : Ref sig .tc := ⟨.hbm, 175, rfl⟩
abbrev main_cst_19 : Ref sig .tc := ⟨.hbm, 176, rfl⟩
abbrev main_cst_20 : Ref sig .tc := ⟨.hbm, 177, rfl⟩
abbrev main_v139 : Ref sig .tc := ⟨.hbm, 178, rfl⟩
abbrev main_v140 : Ref sig .tc := ⟨.hbm, 179, rfl⟩
abbrev main_cst_21 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_22 : Ref sig .tc := ⟨.hbm, 185, rfl⟩
abbrev main_v145 : Ref sig .tc := ⟨.hbm, 186, rfl⟩
abbrev main_v146 : Ref sig .tc := ⟨.hbm, 187, rfl⟩
abbrev main_cst_23 : Ref sig .tc := ⟨.hbm, 188, rfl⟩
abbrev main_v147 : Ref sig .tc := ⟨.hbm, 189, rfl⟩
abbrev main_v148 : Ref sig .tc := ⟨.hbm, 190, rfl⟩
abbrev main_cst_24 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_25 : Ref sig .tc := ⟨.hbm, 196, rfl⟩
abbrev main_v153 : Ref sig .tc := ⟨.hbm, 197, rfl⟩
abbrev main_v154 : Ref sig .tc := ⟨.hbm, 198, rfl⟩
abbrev main_cst_26 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_27 : Ref sig .tc := ⟨.hbm, 206, rfl⟩
abbrev main_v161 : Ref sig .tc := ⟨.hbm, 207, rfl⟩
abbrev main_v162 : Ref sig .tc := ⟨.hbm, 208, rfl⟩
abbrev main_cst_28 : Ref sig .tc := ⟨.hbm, 209, rfl⟩
abbrev main_v163 : Ref sig .tc := ⟨.hbm, 210, rfl⟩
abbrev main_v164 : Ref sig .tc := ⟨.hbm, 211, rfl⟩
abbrev main_cst_29 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_30 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_31 : Ref sig .tc := ⟨.hbm, 222, rfl⟩
abbrev main_v173 : Ref sig .tc := ⟨.hbm, 223, rfl⟩
abbrev main_v174 : Ref sig .tc := ⟨.hbm, 224, rfl⟩
abbrev main_cst_32 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_call1_v0 : Ref sig .tc := ⟨.hbm, 230, rfl⟩
abbrev main_call1_v1 : Ref sig .tc := ⟨.hbm, 231, rfl⟩
abbrev main_call1_cst : Ref sig .tc := ⟨.hbm, 232, rfl⟩
abbrev main_call1_v2 : Ref sig .tc := ⟨.hbm, 233, rfl⟩
abbrev main_call1_v3 : Ref sig .tc := ⟨.hbm, 234, rfl⟩
abbrev main_call1_cst_0 : Ref sig .tc := ⟨.hbm, 235, rfl⟩
abbrev main_call1_v4 : Ref sig .tc := ⟨.hbm, 236, rfl⟩
abbrev main_call1_v5 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_33 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_34 : Ref sig .tc := ⟨.hbm, 248, rfl⟩
abbrev main_v188 : Ref sig .tc := ⟨.hbm, 249, rfl⟩
abbrev main_v189 : Ref sig .tc := ⟨.hbm, 250, rfl⟩

abbrev nD : Nat := 1
abbrev τ : Topo := Topo.v7x

variable {F : FTy → Type} [FloatOps F]
-- ==== Kernel4.lean ====
abbrev S64x1024 : Shape := ⟨2, ![64, 1024]⟩
abbrev S64x1536 : Shape := ⟨2, ![64, 1536]⟩
abbrev S1024x1536 : Shape := ⟨2, ![1024, 1536]⟩
abbrev S64x512 : Shape := ⟨2, ![64, 512]⟩
abbrev S1024x512 : Shape := ⟨2, ![1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S64x1024, .f32⟩
  | .hbm, ⟨1, _⟩ => ⟨S64x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S64x1024, .f32⟩
  | .local _ .vmem, ⟨1, _⟩ => ⟨S64x512, .f32⟩
  | .local _ .vmem, ⟨2, _⟩ => ⟨S64x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S64x1024 : Shape := ⟨2, ![64, 1024]⟩
abbrev S64x1536 : Shape := ⟨2, ![64, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S64x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Spec.lean ====
/- The backward channel mixer as formulas over arrays: what each result holds at an index. -/
module

public import Idealize.ShloMosaic.Lib.Pipeline.ValueKit

@[expose] public section

set_option maxRecDepth 16384

noncomputable section

namespace Cert.Mixer

open Idealize.ShloMosaic

/-- `silu` at a number. -/
def gate (a : EReal) : EReal := a * Ideal.logistic a

/-- The derivative of `silu` at a number. -/
def dgate (a : EReal) : EReal := Ideal.logistic a * (1 + a * (1 - Ideal.logistic a))

/-- The arrays the derivative is made of: the cotangent `dz`, the input `x`, the modulation, what the forward pass
    left (`h` before the gate, `gc` behind the convolution) and the weights. -/
structure Arrays where
  dz : FVec Ideal ⟨3, ![4, 2048, 1024]⟩ .f32
  x : FVec Ideal ⟨3, ![4, 2048, 1024]⟩ .f32
  h : FVec Ideal ⟨3, ![4, 2048, 5632]⟩ .f32
  gc : FVec Ideal ⟨3, ![4, 2048, 2816]⟩ .f32
  mod : FVec Ideal ⟨2, ![4, 6144]⟩ .f32
  wup : FVec Ideal ⟨3, ![1, 1024, 5632]⟩ .f32
  wdn : FVec Ideal ⟨3, ![1, 2816, 1024]⟩ .f32
  cw : FVec Ideal ⟨3, ![1, 3, 2816]⟩ .f32

variable (A : Arrays)

/-- The gradient of the mixer's output `y`: `(1 + gt) * dz`. -/
def dy (b : Fin 4) (t : Fin 2048) (c : Fin 1024) : EReal :=
  (1 + A.mod (ix2 b ⟨5120 + c, by omega⟩)) * A.dz (ix3 b t c)

/-- The gradient of the gated product: `dy` times the transposed `w_down`. -/
def df (b : Fin 4) (t : Fin 2048) (f : Fin 2816) : EReal :=
  ∑ c : Fin 1024, dy A b t c * A.wdn (ix3 0 f c)

/-- The gradient of the value half of `h`. -/
def dv (b : Fin 4) (t : Fin 2048) (f : Fin 2816) : EReal :=
  df A b t f * gate (A.gc (ix3 b t f))

/-- The gradient of the convolution's output. -/
def dgc (b : Fin 4) (t : Fin 2048) (f : Fin 2816) : EReal :=
  df A b t f * A.h (ix3 b t ⟨f, by omega⟩) * dgate (A.gc (ix3 b t f))

/-- The gradient of the convolution's output, zero beyond the sequence. -/
def dgcz (b : Fin 4) (n : ℕ) (f : Fin 2816) : EReal :=
  if h : n < 2048 then dgc A b ⟨n, h⟩ f else 0

/-- The gradient of the gate half of `h`: the convolution transposed. -/
def dg (b : Fin 4) (n : ℕ) (f : Fin 2816) : EReal :=
  (A.cw (ix3 0 0 f) * dgcz A b (n + 2) f + A.cw (ix3 0 1 f) * dgcz A b (n + 1) f) + A.cw (ix3 0 2 f) * dgcz A b n f

/-- The gradient of `h`: its value half beside its gate half. -/
def dh (b : Fin 4) (t : Fin 2048) (k : Fin 5632) : EReal :=
  if h : k.val < 2816 then dv A b t ⟨k, h⟩ else dg A b t ⟨k - 2816, by omega⟩

/-- The gradient of the modulated input: `dh` times the transposed `w_up`. -/
def du (b : Fin 4) (t : Fin 2048) (c : Fin 1024) : EReal :=
  ∑ k : Fin 5632, dh A b t k * A.wup (ix3 0 c k)

/-- The gradient of the input: the residual's share and the modulated one's. -/
def dx (b : Fin 4) (t : Fin 2048) (c : Fin 1024) : EReal :=
  Ideal.ofBits .f32 0x3F9837F0#32 * A.dz (ix3 b t c) + du A b t c * (1 + A.mod (ix2 b ⟨4096 + c, by omega⟩))

/-- A row's share of the convolution's gradient: the kernel's rows `0`, `1`, `2`, then the bias. -/
def dfcTerm (b : Fin 4) (t : Fin 2048) (k : ℕ) (f : Fin 2816) : EReal :=
  if k < 3 then dgcz A b (t + (2 - k)) f * A.h (ix3 b t ⟨2816 + f, by omega⟩) else dgc A b t f

/-- The gradient of the convolution: its kernel's three rows and its bias. -/
def dfc (k : Fin 4) (f : Fin 2816) : EReal := ∑ b : Fin 4, ∑ t : Fin 2048, dfcTerm A b t k f

/-- A row's share of the modulation's gradient: of the shift, then of the scale. -/
def dmodTerm (b : Fin 4) (t : Fin 2048) (k : ℕ) (c : Fin 1024) : EReal :=
  if k < 1 then du A b t c else du A b t c * A.x (ix3 b t c)

/-- The gradient of the shift and of the scale. -/
def dmod (b : Fin 4) (k : Fin 2) (c : Fin 1024) : EReal := ∑ t : Fin 2048, dmodTerm A b t k c

end Cert.Mixer
-- ==== Proof.Tile.lean ====
/- What one grid point of the backward channel mixer computes, read at an index: each named value of the kernel's body
   over the values it is computed from. -/
module

public import proofs.«01_k».proof.Proof.Gen.KernelIdeal.Skeleton
public import proofs.«01_k».proof.Proof.Spec

@[expose] public section

set_option maxRecDepth 16384

noncomputable section

namespace Cert.KernelIdeal.Tile

open Idealize.ShloMosaic Idealize.SL.Sem Cert.KernelIdeal Cert.KernelIdeal.Gen Cert.Mixer

/-! ## Summing 256 rows by halves -/

/-- The sum of the two halves of a family, row by row. -/
def half (n m : ℕ) (h : m = n + n) (g : Fin m → EReal) : Fin n → EReal :=
  fun k => g ⟨k, by omega⟩ + g ⟨n + k, by omega⟩

/-- Adding the halves row by row keeps the sum. -/
theorem sum_half (n m : ℕ) (h : m = n + n) (g : Fin m → EReal) : ∑ k, half n m h g k = ∑ r, g r := by
  subst h
  rw [Fin.sum_univ_add, ← Finset.sum_add_distrib]
  rfl

/-- Five halvings of 256 rows, and the sum of the eight rows left, are the sum of the 256 rows. -/
theorem sum_halving (g : Fin 256 → EReal) :
    ∑ k, half 8 16 rfl (half 16 32 rfl (half 32 64 rfl (half 64 128 rfl (half 128 256 rfl g)))) k = ∑ r, g r := by
  simp only [sum_half]

/-! ## The values of the body -/

/-- The gradient of `y` at a row of the tile: `(1 + gt) * dz`. -/
theorem dy_at (v10 : Vec Ideal S1x1x1024 .f32) (v12 : Vec Ideal S1x256x1024 .f32) (r : Fin 256) (c : Fin 1024) :
    k0_pay7 (F := Ideal) v10 v12 (ix2 r c) = (1 + v10 (ix3 0 0 c)) * v12 (ix3 0 r c) := by
  pointwise [k0_pay7, k0_pay6]

/-- The gradient of `y` as it is stored. -/
theorem dy_store_at (v10 : Vec Ideal S1x1x1024 .f32) (v12 : Vec Ideal S1x256x1024 .f32) (r : Fin 256) (c : Fin 1024) :
    k0_pay8 (F := Ideal) v10 v12 (ix3 0 r c) = k0_pay7 (F := Ideal) v10 v12 (ix2 r c) := by
  pointwise [k0_pay8]

/-- The gradient of the gated product is `dy` times the transposed `w_down`; the value half of it is scaled by the gate. -/
theorem dv_at (v18 : FVec Ideal S256x1024 .bf16) (v27 : Vec Ideal S1x256x1408 .f32) (v30 : Vec Ideal S1408x1024 .bf16) (r : Fin 256) (f : Fin 1408) :
    k0_pay15 (F := Ideal) v18 v27 v30 (ix2 r f) = (∑ c : Fin 1024, v18 (ix2 r c) * v30 (ix2 f c)) * gate (v27 (ix3 0 r f)) := by
  unfold gate; pointwise [k0_pay15, k0_pay14, k0_pay13, k0_pay12]

/-- The gradient of the convolution's output: times `v` and the gate's derivative. -/
theorem dgc_at (v18 : FVec Ideal S256x1024 .bf16) (v24 : FVec Ideal S256x1408 .f32) (v27 : Vec Ideal S1x256x1408 .f32) (v30 : Vec Ideal S1408x1024 .bf16) (r : Fin 256) (f : Fin 1408) :
    k0_pay16 (F := Ideal) v18 v24 v27 v30 (ix2 r f) = (∑ c : Fin 1024, v18 (ix2 r c) * v30 (ix2 f c)) * v24 (ix2 r f) * dgate (v27 (ix3 0 r f)) := by
  unfold dgate; pointwise [k0_pay16, k0_pay14, k0_pay13, k0_pay12]

/-- The second chunk's `dv` is the same function of its operands as the first's. -/
theorem dv_chunk (v18 : FVec Ideal S256x1024 .bf16) (v27 : Vec Ideal S1x256x1408 .f32) (v30 : Vec Ideal S1408x1024 .bf16) :
    k0_pay42 (F := Ideal) v18 (k0_pay39 v27) (k0_pay40 v27) v30 = k0_pay15 v18 v27 v30 := rfl

/-- The second chunk's `dgc` is the same function of its operands as the first's. -/
theorem dgc_chunk (v18 : FVec Ideal S256x1024 .bf16) (v24 : FVec Ideal S256x1408 .f32) (v27 : Vec Ideal S1x256x1408 .f32) (v30 : Vec Ideal S1408x1024 .bf16) :
    k0_pay43 (F := Ideal) v18 v24 (k0_pay39 v27) (k0_pay40 v27) v30 = k0_pay16 v18 v24 v27 v30 := rfl

/-- A cast of a block without its leading axis, read at a row. -/
theorem cast_at (v : Vec Ideal S1x256x1408 .f32) (r : Fin 256) (f : Fin 1408) :
    k0_pay10 (F := Ideal) v (ix2 r f) = v (ix3 0 r f) := by
  pointwise [k0_pay10]

/-- The bias row grows by the sum of `dgc` over the tile's rows. -/
theorem dbias_at (v18 : FVec Ideal S256x1024 .bf16) (v24 : FVec Ideal S256x1408 .f32) (v27 : Vec Ideal S1x256x1408 .f32) (v30 : Vec Ideal S1408x1024 .bf16) (v43 : Vec Ideal S1x1408 .f32) (f : Fin 1408) :
    k0_pay17 (F := Ideal) v18 v24 v27 v30 v43 (ix2 0 f) = v43 (ix2 0 f) + ∑ r : Fin 256, k0_pay16 (F := Ideal) v18 v24 v27 v30 (ix2 r f) := by
  unfold k0_pay17
  generalize k0_pay16 (F := Ideal) v18 v24 v27 v30 = g
  rw [← sum_halving fun r => g (ix2 r f)]
  unfold half
  pointwise

/-- The second chunk's bias row is the same function of its operands. -/
theorem dbias_chunk (v18 : FVec Ideal S256x1024 .bf16) (v24 : FVec Ideal S256x1408 .f32) (v27 : Vec Ideal S1x256x1408 .f32) (v30 : Vec Ideal S1408x1024 .bf16) (v43 : Vec Ideal S1x1408 .f32) :
    k0_pay44 (F := Ideal) v18 v24 (k0_pay39 v27) (k0_pay40 v27) v30 v43 = k0_pay17 v18 v24 v27 v30 v43 := rfl

/-- A kernel row of the convolution's gradient grows by the sum over the tile's rows of the shifted `dgc` times `g`. -/
theorem dconv_at (v26 v77 : FVec Ideal S256x1408 .f32) (v83 : Vec Ideal S1x1408 .f32) (f : Fin 1408) :
    k0_pay23 (F := Ideal) v26 v77 v83 (ix2 0 f) = v83 (ix2 0 f) + ∑ r : Fin 256, v77 (ix2 r f) * v26 (ix2 r f) := by
  rw [← sum_halving fun r => v77 (ix2 r f) * v26 (ix2 r f)]
  unfold half
  pointwise [k0_pay23]

/-- The other rows and the second chunk's are the same function of their operands. -/
theorem dconv_chunk (v26 v77 : FVec Ideal S256x1408 .f32) (v83 : Vec Ideal S1x1408 .f32) :
    k0_pay25 (F := Ideal) v26 v77 v83 = k0_pay23 v26 v77 v83 ∧
    k0_pay31 (F := Ideal) (k0_pay27 v83) (k0_pay29 v26 v77) (k0_pay30 v26 v77) = k0_pay23 v26 v77 v83 ∧
    k0_pay49 (F := Ideal) v26 v77 v83 = k0_pay23 v26 v77 v83 ∧
    k0_pay51 (F := Ideal) v26 v77 v83 = k0_pay23 v26 v77 v83 ∧
    k0_pay53 (F := Ideal) v26 v77 v83 = k0_pay23 v26 v77 v83 := ⟨rfl, rfl, rfl, rfl, rfl⟩

/-- The gradient of the gate half of `h`: the transposed convolution, over the three shifted copies of `dgc`. -/
theorem dg_at (s0 s1 s2 : FVec Ideal S256x1408 .f32) (w0 w1 w2 : Vec Ideal S1x1408 .f32) (r : Fin 256) (f : Fin 1408) :
    k0_pay26 (F := Ideal) (k0_pay22 s0 w0) s1 (k0_pay24 w1) s2 w2 (ix2 r f) =
      (w0 (ix2 0 f) * s0 (ix2 r f) + w1 (ix2 0 f) * s1 (ix2 r f)) + w2 (ix2 0 f) * s2 (ix2 r f) := by
  pointwise [k0_pay26, k0_pay22, k0_pay24]

/-- The second chunk's is the same function of its operands. -/
theorem dg_chunk (s0 s1 s2 : FVec Ideal S256x1408 .f32) (w0 w1 w2 : Vec Ideal S1x1408 .f32) :
    k0_pay52 (F := Ideal) (k0_pay50 s0 w0 s1 w1) s2 w2 = k0_pay26 (k0_pay22 s0 w0) s1 (k0_pay24 w1) s2 w2 := rfl

/-- The stored halves of the gradient of `h`. -/
theorem dh_store_at (v : FVec Ideal S256x1408 .f32) (r : Fin 256) (f : Fin 1408) :
    k0_pay34 (F := Ideal) v (ix3 0 r f) = v (ix2 r f) := by
  pointwise [k0_pay34, k0_pay32]

/-- The other stores of the gradient of `h` are the same function. -/
theorem dh_store_chunk (v : FVec Ideal S256x1408 .f32) :
    k0_pay35 (F := Ideal) v = k0_pay34 v ∧ k0_pay56 (F := Ideal) v = k0_pay34 v ∧ k0_pay57 (F := Ideal) v = k0_pay34 v :=
  ⟨rfl, rfl, rfl⟩

/-- The gradient of the modulated input: the four products with the blocks of `w_up`. -/
theorem du_at (v34 v138 v188 v292 : FVec Ideal S256x1408 .f32) (w0 w2 w1 w3 : Vec Ideal S1x1024x1408 .bf16) (r : Fin 256) (c : Fin 1024) :
    k0_pay58 (F := Ideal) (k0_pay36 (k0_pay9 (F := Ideal)) v34 v138 w0 w2) v188 v292 w1 w3 (ix2 r c) =
      (((∑ f : Fin 1408, v34 (ix2 r f) * w0 (ix3 0 c f)) + ∑ f : Fin 1408, v138 (ix2 r f) * w2 (ix3 0 c f)) +
        ∑ f : Fin 1408, v188 (ix2 r f) * w1 (ix3 0 c f)) + ∑ f : Fin 1408, v292 (ix2 r f) * w3 (ix3 0 c f) := by
  pointwise [k0_pay58, k0_pay36, k0_pay9, k0_pay32, k0_pay33, k0_pay54, k0_pay55]

/-- The gradient of the block's input: the residual's share and the modulated one's. -/
theorem dx_at (v8 : Vec Ideal S1x1x1024 .f32) (v12 : Vec Ideal S1x256x1024 .f32) (v176 : FVec Ideal S256x1024 .f32) (v188 v292 : FVec Ideal S256x1408 .f32) (w1 w3 : Vec Ideal S1x1024x1408 .bf16) (r : Fin 256) (c : Fin 1024) :
    k0_pay59 (F := Ideal) (k0_pay5 v8) (k0_pay6 v12) v176 v188 v292 w1 w3 (ix3 0 r c) =
      Ideal.ofBits .f32 0x3F9837F0#32 * v12 (ix3 0 r c) + k0_pay58 (F := Ideal) v176 v188 v292 w1 w3 (ix2 r c) * (1 + v8 (ix3 0 0 c)) := by
  unfold k0_pay59
  generalize k0_pay58 (F := Ideal) v176 v188 v292 w1 w3 = u
  pointwise [k0_pay5, k0_pay6]

/-- The shift's gradient grows by the sum of `du` over the tile's rows. -/
theorem dshift_at (v341 : Vec Ideal S1x1x1024 .f32) (v176 : FVec Ideal S256x1024 .f32) (v188 v292 : FVec Ideal S256x1408 .f32) (w1 w3 : Vec Ideal S1x1024x1408 .bf16) (c : Fin 1024) :
    k0_pay63 (F := Ideal) (k0_pay60 v341) (k0_pay61 v176 v188 v292 w1 w3) (k0_pay62 v176 v188 v292 w1 w3) (ix3 0 0 c) =
      v341 (ix3 0 0 c) + ∑ r : Fin 256, k0_pay58 (F := Ideal) v176 v188 v292 w1 w3 (ix2 r c) := by
  unfold k0_pay62 k0_pay61
  generalize k0_pay58 (F := Ideal) v176 v188 v292 w1 w3 = u
  rw [← sum_halving fun r => u (ix2 r c)]
  unfold half
  pointwise [k0_pay63, k0_pay60]

/-- The scale's gradient grows by the sum of `du * x` over the tile's rows. -/
theorem dscale_at (v364 : Vec Ideal S1x1x1024 .f32) (u : FVec Ideal S256x1024 .f32) (x : Vec Ideal S1x256x1024 .f32) (c : Fin 1024) :
    k0_pay1 (F := Ideal) (k0_pay64 v364) (k0_pay65 u x) (ix3 0 0 c) =
      v364 (ix3 0 0 c) + ∑ r : Fin 256, u (ix2 r c) * x (ix3 0 r c) := by
  rw [← sum_halving fun r => u (ix2 r c) * x (ix3 0 r c)]
  unfold half
  pointwise [k0_pay1, k0_pay64, k0_pay65]

/-- The carried rows are the first eight rows of `dgc`. -/
theorem carry_at (v : FVec Ideal S256x1408 .f32) (q : Fin 8) (f : Fin 1408) :
    k0_pay21 (F := Ideal) v (ix3 0 q f) = v (ix2 ⟨q, by omega⟩ f) := by
  pointwise [k0_pay21]

/-- The second chunk's are the same function. -/
theorem carry_chunk (v18 : FVec Ideal S256x1024 .bf16) (v24 : FVec Ideal S256x1408 .f32) (v27 : Vec Ideal S1x256x1408 .f32) (v30 : Vec Ideal S1408x1024 .bf16) :
    k0_pay48 (F := Ideal) (k0_pay47 v18 v24 (k0_pay39 v27) (k0_pay40 v27) v30) = k0_pay21 (k0_pay16 v18 v24 v27 v30) := rfl

/-- `dgc` as it is stored into the extended scratch. -/
theorem ext_store (v18 : FVec Ideal S256x1024 .bf16) (v24 : FVec Ideal S256x1408 .f32) (v27 : Vec Ideal S1x256x1408 .f32) (v30 : Vec Ideal S1408x1024 .bf16) :
    k0_pay18 (F := Ideal) v18 v24 v27 v30 = k0_pay16 v18 v24 v27 v30 := by
  unfold k0_pay18; exact shapeCast_self _ _

/-- The second chunk's is the same function. -/
theorem ext_store_chunk (v18 : FVec Ideal S256x1024 .bf16) (v24 : FVec Ideal S256x1408 .f32) (v27 : Vec Ideal S1x256x1408 .f32) (v30 : Vec Ideal S1408x1024 .bf16) :
    k0_pay45 (F := Ideal) v18 v24 (k0_pay39 v27) (k0_pay40 v27) v30 = k0_pay18 v18 v24 v27 v30 := rfl

/-- The carried rows as they are stored below `dgc` in the extended scratch. -/
theorem ext_carry_at (v : Vec Ideal S1x8x1408 .f32) (q : Fin 8) (f : Fin 1408) :
    k0_pay20 (F := Ideal) (k0_pay19 v) (ix2 q f) = v (ix3 0 q f) := by
  pointwise [k0_pay20, k0_pay19]

/-- The second chunk's are the same function. -/
theorem ext_carry_chunk (v : Vec Ideal S1x8x1408 .f32) : k0_pay46 (F := Ideal) v = k0_pay20 (k0_pay19 v) := rfl

/-- The fills with zeros. -/
theorem zero_carry (y : S2x8x1408.Idx) : k0_pay2 (F := Ideal) y = 0 := by pointwise [k0_pay2]
theorem zero_dmod (y : S1x2x1024.Idx) : k0_pay3 (F := Ideal) y = 0 := by pointwise [k0_pay3]
theorem zero_dfc (y : S4x2816.Idx) : k0_pay4 (F := Ideal) y = 0 := by pointwise [k0_pay4]

end Cert.KernelIdeal.Tile
-- ==== Proof.Block.lean ====
/- One grid point's values as pieces of the whole arrays: if the blocks are pieces of the arrays of the derivative, and the
   carried rows are the first rows of the next tile's `dgc`, then so are the values computed from them. -/
module

public import proofs.«01_k».proof.Proof.Tile
public import Idealize.ShloMosaic.Lib.Pipeline.ReadBack

@[expose] public section

set_option maxRecDepth 16384

noncomputable section

namespace Cert.KernelIdeal.Tile

open Idealize.ShloMosaic Idealize.SL.Sem Cert.KernelIdeal Cert.KernelIdeal.Gen Cert.Mixer

/-- The token of row `r` of tile `n`. -/
abbrev tok (n : Fin 8) (r : Fin 256) : Fin 2048 := ⟨256 * n + r, by omega⟩

/-- Lane `f` of the chunk that starts at lane `o` of the 2816. -/
abbrev lane (o : ℕ) (ho : o ≤ 1408) (f : Fin 1408) : Fin 2816 := ⟨o + f, by omega⟩

/-! ## The extended scratch -/

/-- A load of 256 rows from row `o` of the extended scratch, over the 256 rows of `P` with the eight rows of `Q` behind them. -/
theorem ext_load (v : View sig .tc .vmem S264x1408 .f32) (P : Vec Ideal S256x1408 .f32) (Q : Vec Ideal S8x1408 .f32)
    (L : List (View.Piece (Elt Ideal) S264x1408 .f32)) (o : ℕ) (ho : o ≤ 8)
    (iq : ∀ a, (![256, 0] : Fin 2 → ℕ) a + (![8, 1408] : Fin 2 → ℕ) a ≤ S264x1408.size a)
    (ip : ∀ a, (![0, 0] : Fin 2 → ℕ) a + (![256, 1408] : Fin 2 → ℕ) a ≤ S264x1408.size a)
    (il : ∀ a, (![o, 0] : Fin 2 → ℕ) a + (![256, 1408] : Fin 2 → ℕ) a ≤ S264x1408.size a) (r : Fin 256) (f : Fin 1408) :
    v.readCov (⟨Rect.unit ![256, 0] ![8, 1408] iq, Q⟩ :: ⟨Rect.unit ![0, 0] ![256, 1408] ip, P⟩ :: L)
        (Rect.unit (s := S264x1408) ![o, 0] ![256, 1408] il).toLoadRect (ix2 r f) =
      if h : r.val + o < 256 then P (ix2 ⟨r + o, h⟩ f) else Q (ix2 ⟨r + o - 256, by omega⟩ f) := by
  rw [View.readCov_eq_canon']
  dsimp only
  have hi (i : S264x1408.Idx) (h0 : (i 0).val = r.val + o) (h1 : (i 1).val = f.val) :
      View.canon (⟨Rect.unit ![256, 0] ![8, 1408] iq, Q⟩ :: ⟨Rect.unit ![0, 0] ![256, 1408] ip, P⟩ :: L) i =
        if h : r.val + o < 256 then P (ix2 ⟨r + o, h⟩ f) else Q (ix2 ⟨r + o - 256, by clear h0 h1; omega⟩ f) := by
    by_cases h : r.val + o < 256
    · have e : i = (Rect.unit (s := S264x1408) ![0, 0] ![256, 1408] ip).emb (ix2 ⟨r + o, h⟩ f) := by
        funext a; apply Fin.ext
        match a with
        | 0 => rw [h0]; show r.val + o = 0 + 1 * (r.val + o); omega
        | 1 => rw [h1]; show f.val = 0 + 1 * f.val; omega
      rw [dif_pos h, View.canon_cons_of_not_mem]
      · rw [e]
        exact View.canon_cons_emb (Rect.unit (s := S264x1408) ![0, 0] ![256, 1408] ip) P L (ix2 ⟨r + o, h⟩ f)
      · intro hm
        have := ((Rect.mem_set_unit (inb := iq)).mp hm 0).1
        rw [h0] at this
        change 256 ≤ r.val + o at this
        omega
    · have e : i = (Rect.unit (s := S264x1408) ![256, 0] ![8, 1408] iq).emb (ix2 ⟨r + o - 256, by clear h0 h1; omega⟩ f) := by
        funext a; apply Fin.ext
        match a with
        | 0 => rw [h0]; show r.val + o = 256 + 1 * (r.val + o - 256); omega
        | 1 => rw [h1]; show f.val = 0 + 1 * f.val; omega
      rw [dif_neg h, e]
      exact View.canon_cons_emb (Rect.unit (s := S264x1408) ![256, 0] ![8, 1408] iq) Q _ (ix2 ⟨r + o - 256, by omega⟩ f)
  refine hi _ ?_ ?_
  · show o + 1 * r.val = _; omega
  · show 0 + 1 * f.val = _; omega

/-! ## The sum over the lanes -/

/-- A sum over the 5632 lanes is the sum over its four chunks, in the order the kernel adds them. -/
theorem sum_lanes (g : Fin 5632 → EReal) :
    ∑ k, g k = (((∑ f : Fin 1408, g ⟨f, by omega⟩) + ∑ f : Fin 1408, g ⟨2816 + f, by omega⟩) + ∑ f : Fin 1408, g ⟨1408 + f, by omega⟩) +
      ∑ f : Fin 1408, g ⟨4224 + f, by omega⟩ := by
  have h1 := Fin.sum_univ_add (a := 2816) (b := 2816) g
  have h2 := Fin.sum_univ_add (a := 1408) (b := 1408) fun k => g (Fin.castAdd 2816 k)
  have h3 := Fin.sum_univ_add (a := 1408) (b := 1408) fun k => g (Fin.natAdd 2816 k)
  rw [show (∑ k, g k) = _ from h1, show (∑ k : Fin 2816, g (Fin.castAdd 2816 k)) = _ from h2, show (∑ k : Fin 2816, g (Fin.natAdd 2816 k)) = _ from h3,
    ← add_assoc]
  refine congrArg₂ (· + ·) (add_right_comm _ _ _) (Finset.sum_congr rfl fun f _ => congrArg g (Fin.ext ?_))
  show 2816 + (1408 + f.val) = 4224 + f.val
  omega

/-! ## A tile's values -/

section
variable (A : Arrays) (b : Fin 4) (n : Fin 8)

/-- `dy` at a row of the tile. -/
theorem dy_tile (v10 : Vec Ideal S1x1x1024 .f32) (v12 : Vec Ideal S1x256x1024 .f32)
    (h10 : ∀ c, v10 (ix3 0 0 c) = A.mod (ix2 b ⟨5120 + c, by omega⟩)) (h12 : ∀ r c, v12 (ix3 0 r c) = A.dz (ix3 b (tok n r) c))
    (r : Fin 256) (c : Fin 1024) : k0_pay7 (F := Ideal) v10 v12 (ix2 r c) = dy A b (tok n r) c := by
  rw [dy_at, h10, h12, dy]

/-- `du` at a row of the tile: the four products are the sum over all lanes. -/
theorem du_tile (v34 v138 v188 v292 : FVec Ideal S256x1408 .f32) (w0 w2 w1 w3 : Vec Ideal S1x1024x1408 .bf16)
    (h34 : ∀ r f, v34 (ix2 r f) = dv A b (tok n r) (lane 0 (by omega) f)) (h138 : ∀ r f, v138 (ix2 r f) = dg A b (256 * n + r) (lane 0 (by omega) f))
    (h188 : ∀ r f, v188 (ix2 r f) = dv A b (tok n r) (lane 1408 (by omega) f)) (h292 : ∀ r f, v292 (ix2 r f) = dg A b (256 * n + r) (lane 1408 (by omega) f))
    (hw0 : ∀ c f, w0 (ix3 0 c f) = A.wup (ix3 0 c ⟨f, by omega⟩)) (hw2 : ∀ c f, w2 (ix3 0 c f) = A.wup (ix3 0 c ⟨2816 + f, by omega⟩))
    (hw1 : ∀ c f, w1 (ix3 0 c f) = A.wup (ix3 0 c ⟨1408 + f, by omega⟩)) (hw3 : ∀ c f, w3 (ix3 0 c f) = A.wup (ix3 0 c ⟨4224 + f, by omega⟩))
    (r : Fin 256) (c : Fin 1024) :
    k0_pay58 (F := Ideal) (k0_pay36 (k0_pay9 (F := Ideal)) v34 v138 w0 w2) v188 v292 w1 w3 (ix2 r c) = du A b (tok n r) c := by
  rw [du_at, du, sum_lanes]
  simp only [h34, h138, h188, h292, hw0, hw1, hw2, hw3, dh, lane]
  have e (f : Fin 1408) : (f.val < 2816) = True := eq_true (by omega)
  have e1 (f : Fin 1408) : (1408 + f.val < 2816) = True := eq_true (by omega)
  have e2 (f : Fin 1408) : (2816 + f.val < 2816) = False := eq_false (by omega)
  have e3 (f : Fin 1408) : (4224 + f.val < 2816) = False := eq_false (by omega)
  have e4 (f : Fin 1408) : 4224 + f.val - 2816 = 1408 + f.val := by omega
  simp only [e, e1, e2, e3, e4, dite_true, dite_false, Nat.zero_add, Nat.add_sub_cancel_left]

variable (o : ℕ) (ho : o ≤ 1408)

/-- `dv` at a row and a lane of the chunk. -/
theorem dv_tile (v18 : FVec Ideal S256x1024 .bf16) (v27 : Vec Ideal S1x256x1408 .f32) (v30 : Vec Ideal S1408x1024 .bf16)
    (h18 : ∀ r c, v18 (ix2 r c) = dy A b (tok n r) c) (h27 : ∀ r f, v27 (ix3 0 r f) = A.gc (ix3 b (tok n r) (lane o ho f)))
    (h30 : ∀ f c, v30 (ix2 f c) = A.wdn (ix3 0 (lane o ho f) c)) (r : Fin 256) (f : Fin 1408) :
    k0_pay15 (F := Ideal) v18 v27 v30 (ix2 r f) = dv A b (tok n r) (lane o ho f) := by
  rw [dv_at, h27, dv, df]
  simp only [h18, h30]

/-- `dgc` at a row and a lane of the chunk. -/
theorem dgc_tile (v18 : FVec Ideal S256x1024 .bf16) (v24 : FVec Ideal S256x1408 .f32) (v27 : Vec Ideal S1x256x1408 .f32) (v30 : Vec Ideal S1408x1024 .bf16)
    (h18 : ∀ r c, v18 (ix2 r c) = dy A b (tok n r) c) (h24 : ∀ r f, v24 (ix2 r f) = A.h (ix3 b (tok n r) ⟨o + f, by omega⟩))
    (h27 : ∀ r f, v27 (ix3 0 r f) = A.gc (ix3 b (tok n r) (lane o ho f)))
    (h30 : ∀ f c, v30 (ix2 f c) = A.wdn (ix3 0 (lane o ho f) c)) (r : Fin 256) (f : Fin 1408) :
    k0_pay16 (F := Ideal) v18 v24 v27 v30 (ix2 r f) = dgc A b (tok n r) (lane o ho f) := by
  rw [dgc_at, h24, h27, dgc, df]
  simp only [h18, h30]

/-- The three shifted copies of `dgc`: the rows of the tile from row `e` on, then the carried ones. -/
theorem shift_tile (v : View sig .tc .vmem S264x1408 .f32) (P : Vec Ideal S256x1408 .f32) (Q : Vec Ideal S8x1408 .f32)
    (L : List (View.Piece (Elt Ideal) S264x1408 .f32)) (e : ℕ) (he : e ≤ 8)
    (iq : ∀ a, (![256, 0] : Fin 2 → ℕ) a + (![8, 1408] : Fin 2 → ℕ) a ≤ S264x1408.size a)
    (ip : ∀ a, (![0, 0] : Fin 2 → ℕ) a + (![256, 1408] : Fin 2 → ℕ) a ≤ S264x1408.size a)
    (il : ∀ a, (![e, 0] : Fin 2 → ℕ) a + (![256, 1408] : Fin 2 → ℕ) a ≤ S264x1408.size a)
    (hP : ∀ r f, P (ix2 r f) = dgc A b (tok n r) (lane o ho f)) (hQ : ∀ q f, Q (ix2 q f) = dgcz A b (256 * (n + 1) + q) (lane o ho f))
    (r : Fin 256) (f : Fin 1408) :
    v.readCov (⟨Rect.unit ![256, 0] ![8, 1408] iq, Q⟩ :: ⟨Rect.unit ![0, 0] ![256, 1408] ip, P⟩ :: L)
        (Rect.unit (s := S264x1408) ![e, 0] ![256, 1408] il).toLoadRect (ix2 r f) = dgcz A b (256 * n + r + e) (lane o ho f) := by
  rw [ext_load _ _ _ _ _ he]
  split
  · rename_i h
    rw [hP, dgcz, dif_pos (by omega)]
    exact congrArg (dgc A b · _) (Fin.ext (Nat.add_assoc _ _ _).symm)
  · rename_i h
    rw [hQ]
    congr 1
    show 256 * (n.val + 1) + (r.val + e - 256) = _
    omega

/-- The gradient of the gate half at a row and a lane. -/
theorem dg_tile (s0 s1 s2 : FVec Ideal S256x1408 .f32) (w0 w1 w2 : Vec Ideal S1x1408 .f32)
    (h0 : ∀ r f, s0 (ix2 r f) = dgcz A b (256 * n + r + 2) (lane o ho f)) (h1 : ∀ r f, s1 (ix2 r f) = dgcz A b (256 * n + r + 1) (lane o ho f))
    (h2 : ∀ r f, s2 (ix2 r f) = dgcz A b (256 * n + r + 0) (lane o ho f)) (hw0 : ∀ f, w0 (ix2 0 f) = A.cw (ix3 0 0 (lane o ho f)))
    (hw1 : ∀ f, w1 (ix2 0 f) = A.cw (ix3 0 1 (lane o ho f))) (hw2 : ∀ f, w2 (ix2 0 f) = A.cw (ix3 0 2 (lane o ho f))) (r : Fin 256) (f : Fin 1408) :
    k0_pay26 (F := Ideal) (k0_pay22 s0 w0) s1 (k0_pay24 w1) s2 w2 (ix2 r f) = dg A b (256 * n + r) (lane o ho f) := by
  rw [dg_at, h0, h1, h2, hw0, hw1, hw2, dg]
  rfl

/-- A kernel row of the convolution's gradient over the tile. -/
theorem dconv_tile (k : ℕ) (hk : k < 3) (v26 v77 : FVec Ideal S256x1408 .f32) (v83 : Vec Ideal S1x1408 .f32)
    (h26 : ∀ r f, v26 (ix2 r f) = A.h (ix3 b (tok n r) ⟨2816 + o + f, by omega⟩))
    (h77 : ∀ r f, v77 (ix2 r f) = dgcz A b (256 * n + r + (2 - k)) (lane o ho f)) (f : Fin 1408) :
    k0_pay23 (F := Ideal) v26 v77 v83 (ix2 0 f) = v83 (ix2 0 f) + ∑ r : Fin 256, dfcTerm A b (tok n r) k (lane o ho f) := by
  rw [dconv_at]
  refine congrArg (v83 (ix2 0 f) + ·) (Finset.sum_congr rfl fun r _ => ?_)
  rw [h26, h77, dfcTerm, if_pos hk]
  congr 2
  exact congrArg (ix3 b (tok n r)) (Fin.ext (Nat.add_assoc _ _ _))

/-- The bias row of the convolution's gradient over the tile. -/
theorem dbias_tile (v18 : FVec Ideal S256x1024 .bf16) (v24 : FVec Ideal S256x1408 .f32) (v27 : Vec Ideal S1x256x1408 .f32) (v30 : Vec Ideal S1408x1024 .bf16)
    (v43 : Vec Ideal S1x1408 .f32) (h : ∀ r f, k0_pay16 (F := Ideal) v18 v24 v27 v30 (ix2 r f) = dgc A b (tok n r) (lane o ho f)) (f : Fin 1408) :
    k0_pay17 (F := Ideal) v18 v24 v27 v30 v43 (ix2 0 f) = v43 (ix2 0 f) + ∑ r : Fin 256, dfcTerm A b (tok n r) 3 (lane o ho f) := by
  rw [dbias_at]
  simp only [h]
  rfl

/-- The carried rows the tile leaves: the first rows of its `dgc`. -/
theorem carry_tile (v : FVec Ideal S256x1408 .f32) (h : ∀ r f, v (ix2 r f) = dgc A b (tok n r) (lane o ho f)) (q : Fin 8) (f : Fin 1408) :
    k0_pay21 (F := Ideal) v (ix3 0 q f) = dgcz A b (256 * n + q) (lane o ho f) := by
  rw [carry_at, h, dgcz, dif_pos (by omega)]

end

end Cert.KernelIdeal.Tile
-- ==== Proof.Ref.lean ====
/- The reference's results read at an index: they are the formulas of `Spec`. -/
module

public import proofs.«01_k».proof.Proof.Gen.ReferenceIdeal.Read
public import proofs.«01_k».proof.Proof.Spec

@[expose] public section

set_option maxRecDepth 16384

noncomputable section

namespace Cert.ReferenceIdeal.Mixer

open Cert.ReferenceIdeal Cert.ReferenceIdeal.Gen Cert.ReferenceIdeal.Read Cert.Mixer
open Idealize.ShloMosaic Idealize.ShloMosaic.TcCoe Idealize.SL.Sem

/-- A sum over the two leading axes of a rank-3 array. -/
theorem hostReduceAdd_lead {n0 n1 n2 : ℕ} (h : (⟨3, ![n0, n1, n2]⟩ : Shape).ReducesTo [0, 1] ⟨1, ![n2]⟩)
    (v : (⟨3, ![n0, n1, n2]⟩ : Shape).Idx → EReal) (init : EReal) (f : Fin n2) :
    Ideal.hostReduceAdd h v init (ix1 f) = init + ∑ b : Fin n0, ∑ t : Fin n1, v (ix3 b t f) := by
  refine congrArg (init + ·) ?_
  refine (Finset.sum_filter_eq_sum_of_fiber _ (fun k : Fin n0 × Fin n1 => ix3 k.1 k.2 f)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- A sum of products with a sequence shifted by `e`, zero in front, is the sum with the other factor shifted back. -/
theorem shift_sum (e : ℕ) (he : e ≤ 2048) (D g : ℕ → EReal) :
    (∑ t : Fin 2048, D t * (if t.val < e then 0 else g (t - e))) =
      ∑ t : Fin 2048, (if t.val + e < 2048 then D (t + e) else 0) * g t := by
  rw [Fin.sum_univ_eq_sum_range (fun t => D t * (if t < e then 0 else g (t - e))) 2048,
    Fin.sum_univ_eq_sum_range (fun t => (if t + e < 2048 then D (t + e) else 0) * g t) 2048,
    show 2048 = e + (2048 - e) by omega, Finset.sum_range_add, Finset.sum_eq_zero, zero_add,
    show e + (2048 - e) = (2048 - e) + e by omega, Finset.sum_range_add, Finset.sum_eq_zero (s := Finset.range e), add_zero]
  · refine Finset.sum_congr rfl fun t ht => ?_
    rw [Finset.mem_range] at ht
    rw [if_neg (by omega), if_pos (by omega), Nat.add_sub_cancel_left, add_comm e t]
  · intro t ht
    rw [if_neg (by omega), zero_mul]
  · intro t ht
    rw [Finset.mem_range] at ht
    rw [if_pos ht, mul_zero]

/-- Two sums over the leading axes in a row, from zero, are one double sum. -/
theorem reduce_twice (h0 : (⟨3, ![4, 2048, 2816]⟩ : Shape).ReducesTo [0, 1] ⟨1, ![2816]⟩)
    (h1 : (⟨1, ![2816]⟩ : Shape).ShapeCasts ⟨3, ![1, 1, 2816]⟩)
    (h2 : (⟨3, ![1, 1, 2816]⟩ : Shape).ReducesTo [0, 1] ⟨1, ![2816]⟩) (v : (⟨3, ![4, 2048, 2816]⟩ : Shape).Idx → EReal) (f : Fin 2816) :
    Ideal.hostReduceAdd h2 (shapeCast _ (Ideal.hostReduceAdd h0 v (Ideal.ofBits .f32 0#32)) h1) (Ideal.ofBits .f32 0#32) (ix1 f) =
      ∑ b : Fin 4, ∑ t : Fin 2048, v (ix3 b t f) := by
  rw [hostReduceAdd_lead, Fin.sum_univ_one, Fin.sum_univ_one, Ideal.ofBits_zero_f32, zero_add]
  pointwise [hostReduceAdd_lead]

/-- A tap's gradient: the sum over the tokens of `dgc` times `h` shifted by `2 - k`. -/
theorem tap_sum (A : Arrays) (k : Fin 4) (hk : k.val < 3) (f : Fin 2816) (w : Fin 4 → Fin 2048 → EReal)
    (hw : ∀ b t, w b t = if t.val < 2 - k.val then 0 else A.h (ix3 b ⟨t - (2 - k), by omega⟩ ⟨2816 + f, by omega⟩)) :
    (∑ b : Fin 4, ∑ t : Fin 2048, dgc A b t f * w b t) = dfc A k f := by
  refine Finset.sum_congr rfl fun b _ => Eq.trans (Eq.trans (Finset.sum_congr rfl fun t _ => ?_)
    (shift_sum (2 - k) (by omega) (fun t => dgcz A b t f)
      (fun t => if h : t < 2048 then A.h (ix3 b ⟨t, h⟩ ⟨2816 + f, by omega⟩) else 0)))
    (Finset.sum_congr rfl fun t _ => ?_)
  · rw [hw, dgcz, dif_pos t.isLt, dif_pos (by omega)]
  · rw [dfcTerm, if_pos hk, dif_pos t.isLt]
    congr 1
    split
    · rfl
    · rw [dgcz, dif_neg (by omega)]

variable (x0 : FVec Ideal S4x2048x1024 .f32) (x1 : FVec Ideal S4x6144 .f32) (x2 : FVec Ideal S1x1024x5632 .f32)
  (x3 : FVec Ideal S1x3x2816 .f32) (x4 : FVec Ideal S1x2816 .f32) (x5 : FVec Ideal S1x2816x1024 .f32)
  (x6 : FVec Ideal S4x2048x1024 .f32)

/-- The formulas' arrays at the reference's arguments: `h` and `gc` are its own forward values. -/
def arrays : Arrays where
  dz := x6
  x := x0
  h := val_main_v19 (F := Ideal) x0 x1 x2
  gc := val_main_v52 (F := Ideal) x0 x1 x2 x3 x4
  mod := x1
  wup := x2
  wdn := x5
  cw := x3

/-- The reference's gradient of `y`. -/
theorem v66_at (b : Fin 4) (t : Fin 2048) (c : Fin 1024) :
    val_main_v66 (F := Ideal) x1 x6 (ix3 b t c) = dy (arrays x0 x1 x2 x3 x4 x5 x6) b t c := by
  pointwise [val_main_v66, val_main_v65, val_main_v64, val_main_v59, val_main_v58, val_main_cst_4, val_main_v11, val_main_v5, dy, arrays]

/-- The reference's gradient of the gated product. -/
theorem v74_at (b : Fin 4) (t : Fin 2048) (f : Fin 2816) :
    val_main_v74 (F := Ideal) x1 x5 x6 (ix3 b t f) = df (arrays x0 x1 x2 x3 x4 x5 x6) b t f := by
  unfold val_main_v74 df
  pointwise [val_main_v22, v66_at x0 x1 x2 x3 x4 x5 x6]
  rfl

/-- The reference's logistic function: `1 / (1 + exp (-gc))`. -/
theorem v53_2_at (b : Fin 4) (t : Fin 2048) (f : Fin 2816) :
    val_main_v53_2 (F := Ideal) x0 x1 x2 x3 x4 (ix3 b t f) = Ideal.logistic (val_main_v52 (F := Ideal) x0 x1 x2 x3 x4 (ix3 b t f)) := by
  unfold Ideal.logistic
  pointwise [val_main_v53_2, val_main_call0_v4, val_main_call0_v3, val_main_call0_v2, val_main_call0_v1, val_main_call0_v0, val_main_call0_cst, val_main_call0_cst_0]

/-- The reference's gradient of the value half of `h`. -/
theorem v75_at (b : Fin 4) (t : Fin 2048) (f : Fin 2816) :
    val_main_v75 (F := Ideal) x0 x1 x2 x3 x4 x5 x6 (ix3 b t f) = dv (arrays x0 x1 x2 x3 x4 x5 x6) b t f := by
  pointwise [val_main_v75, val_main_v53_0, v74_at x0 x1 x2 x3 x4 x5 x6, v53_2_at]
  exact mul_comm _ _

/-- The derivative of `silu` as the reference writes it, times a real number, is the kernel's. -/
theorem dgate_eq (r : ℝ) (a : EReal) :
    (r : EReal) * Ideal.logistic a + a * r * (Ideal.logistic a * (1 - Ideal.logistic a)) = r * dgate a := by
  unfold dgate
  induction a with
  | bot => simp
  | top =>
    have h : (1 : EReal) - 1 = 0 := by rw [← EReal.coe_one, ← EReal.coe_sub, sub_self, EReal.coe_zero]
    simp [h]
  | coe a =>
    rw [Ideal.logistic_coe]
    norm_cast
    ring_nf

/-- The reference's gradient of the convolution's output, where the gradient reaching the gate is a real number. -/
theorem v77_at (hf : ∀ b t f, ∃ r : ℝ, df (arrays x0 x1 x2 x3 x4 x5 x6) b t f * val_main_v19 (F := Ideal) x0 x1 x2 (ix3 b t ⟨f, by omega⟩) = r)
    (b : Fin 4) (t : Fin 2048) (f : Fin 2816) :
    val_main_v77 (F := Ideal) x0 x1 x2 x3 x4 x5 x6 (ix3 b t f) = dgc (arrays x0 x1 x2 x3 x4 x5 x6) b t f := by
  pointwise [val_main_v77, val_main_call1_v1, val_main_call1_v2, val_main_call1_v0, val_main_v76, val_main_v23, val_main_v53_1, val_main_call0_v7, val_main_call0_v6, val_main_call0_cst_1, v74_at x0 x1 x2 x3 x4 x5 x6, v53_2_at]
  obtain ⟨r, hr⟩ := hf b t f
  rw [hr]
  unfold dgc
  refine (dgate_eq r _).trans ?_
  rw [← hr]
  rfl

section
variable (h77 : ∀ b t f, val_main_v77 (F := Ideal) x0 x1 x2 x3 x4 x5 x6 (ix3 b t f) = dgc (arrays x0 x1 x2 x3 x4 x5 x6) b t f)
include h77

/-- The reference's gradient of the gate half of `h`: the three padded products, shifted. -/
theorem v113_at (b : Fin 4) (t : Fin 2048) (f : Fin 2816) :
    val_main_v113 (F := Ideal) x0 x1 x2 x3 x4 x5 x6 (ix3 b t f) = dg (arrays x0 x1 x2 x3 x4 x5 x6) b t f := by
  pointwise [val_main_v113, val_main_v108, val_main_v97, val_main_v87, val_main_v96, val_main_v107, val_main_v82, val_main_v91, val_main_v102,
    val_main_cst_11, val_main_cst_15, val_main_cst_19, val_main_v81, val_main_v46, val_main_v44, val_main_v43, val_main_v20,
    val_main_v90, val_main_v39, val_main_v37, val_main_v36, val_main_v101, val_main_v31, val_main_v29, val_main_v28, h77]
  rw [dg, dgcz, dgcz, dgcz, dif_pos t.isLt, add_comm, add_comm (_ * _) (dite _ _ _), ← add_assoc]
  congr 2
  · by_cases h : 2 + t.val < 2048
    · rw [dif_pos h, dif_pos (by omega)]
      simp only [add_comm 2 t.val]; rfl
    · rw [dif_neg h, dif_neg (by omega), mul_zero]
  · by_cases h : t.val + 1 < 2048
    · rw [dif_pos (by omega), dif_pos h]
      simp only [show 2 + t.val - 1 = t.val + 1 by omega]; rfl
    · rw [dif_neg (by omega), dif_neg h, mul_zero]

/-- The reference's gradient of `h`. -/
theorem v114_at (b : Fin 4) (t : Fin 2048) (k : Fin 5632) :
    val_main_v114 (F := Ideal) x0 x1 x2 x3 x4 x5 x6 (ix3 b t k) = dh (arrays x0 x1 x2 x3 x4 x5 x6) b t k := by
  unfold dh
  pointwise [val_main_v114, v75_at, v113_at x0 x1 x2 x3 x4 x5 x6 h77]

/-- The reference's gradient of the modulated input. -/
theorem v117_at (b : Fin 4) (t : Fin 2048) (c : Fin 1024) :
    val_main_v117 (F := Ideal) x0 x1 x2 x3 x4 x5 x6 (ix3 b t c) = du (arrays x0 x1 x2 x3 x4 x5 x6) b t c := by
  unfold du val_main_v117
  generalize hv : val_main_v114 (F := Ideal) x0 x1 x2 x3 x4 x5 x6 = v
  have h : ∀ b t k, v (ix3 b t k) = dh (arrays x0 x1 x2 x3 x4 x5 x6) b t k := hv ▸ v114_at x0 x1 x2 x3 x4 x5 x6 h77
  pointwise [val_main_v12]
  simp only [h]
  rfl

/-- The reference's gradient of the input. -/
theorem v125_at (b : Fin 4) (t : Fin 2048) (c : Fin 1024) :
    val_main_v125 (F := Ideal) x0 x1 x2 x3 x4 x5 x6 (ix3 b t c) = dx (arrays x0 x1 x2 x3 x4 x5 x6) b t c := by
  unfold dx
  pointwise [val_main_v125, val_main_v71, val_main_v124, val_main_v70, val_main_cst_6, val_main_v63, val_main_v123, val_main_v14, val_main_v13,
    val_main_cst, val_main_v10, val_main_v4, v117_at x0 x1 x2 x3 x4 x5 x6 h77]
  rfl

/-- The reference's gradient of `y`, as it leaves. -/
theorem v126_at (b : Fin 4) (t : Fin 2048) (c : Fin 1024) :
    val_main_v126 (F := Ideal) x1 x6 (ix3 b t c) = dy (arrays x0 x1 x2 x3 x4 x5 x6) b t c := by
  pointwise [val_main_v126, v66_at x0 x1 x2 x3 x4 x5 x6]

/-- The reference's gradient of `h`, as it leaves. -/
theorem v127_at (b : Fin 4) (t : Fin 2048) (k : Fin 5632) :
    val_main_v127 (F := Ideal) x0 x1 x2 x3 x4 x5 x6 (ix3 b t k) = dh (arrays x0 x1 x2 x3 x4 x5 x6) b t k := by
  pointwise [val_main_v127, v114_at x0 x1 x2 x3 x4 x5 x6 h77]

/-- The reference's gradient of the shift and the scale. -/
theorem v130_at (b : Fin 4) (k : Fin 2) (c : Fin 1024) :
    val_main_v130 (F := Ideal) x0 x1 x2 x3 x4 x5 x6 (ix3 b k c) = dmod (arrays x0 x1 x2 x3 x4 x5 x6) b k c := by
  unfold dmod dmodTerm
  pointwise [val_main_v130, val_main_v119, val_main_v122, val_main_v118, val_main_v121, val_main_v120, val_main_cst_21, val_main_cst_22, v117_at x0 x1 x2 x3 x4 x5 x6 h77]
  split <;> first | rfl | exact Finset.sum_congr rfl fun _ _ => mul_comm _ _

/-- The reference's gradient of the convolution: its last tap. -/
theorem v88_at (f : Fin 2816) :
    val_main_v88 (F := Ideal) x0 x1 x2 x3 x4 x5 x6 (ix2 0 f) = dfc (arrays x0 x1 x2 x3 x4 x5 x6) 2 f := by
  pointwise [val_main_v88]
  refine (reduce_twice _ _ _ (val_main_v83 (F := Ideal) x0 x1 x2 x3 x4 x5 x6) f).trans ?_
  refine Eq.trans ?_ (tap_sum _ 2 (by decide) f (fun b t => val_main_v45 (F := Ideal) x0 x1 x2 (ix3 b t f)) fun b t => ?_)
  · pointwise [val_main_v83, h77]
  · pointwise [val_main_v45, val_main_v26, val_main_v25, val_main_cst_0, val_main_v24]
    rw [if_neg (by omega)]
    rfl

/-- The reference's gradient of the convolution: its middle tap. -/
theorem v98_at (f : Fin 2816) :
    val_main_v98 (F := Ideal) x0 x1 x2 x3 x4 x5 x6 (ix2 0 f) = dfc (arrays x0 x1 x2 x3 x4 x5 x6) 1 f := by
  pointwise [val_main_v98]
  refine (reduce_twice _ _ _ (val_main_v92 (F := Ideal) x0 x1 x2 x3 x4 x5 x6) f).trans ?_
  refine Eq.trans ?_ (tap_sum _ 1 (by decide) f (fun b t => val_main_v38 (F := Ideal) x0 x1 x2 (ix3 b t f)) fun b t => ?_)
  · pointwise [val_main_v92, h77]
  · pointwise [val_main_v38, val_main_v26, val_main_v25, val_main_cst_0, val_main_v24]
    by_cases ht : t.val < 1
    · rw [dif_pos (show 1 + t.val < 2 by omega), if_pos ht]
    · rw [dif_neg (show ¬1 + t.val < 2 by omega), if_neg ht]
      simp only [show 1 + t.val - 2 = t.val - 1 by omega]
      rfl

/-- The reference's gradient of the convolution: its first tap. -/
theorem v109_at (f : Fin 2816) :
    val_main_v109 (F := Ideal) x0 x1 x2 x3 x4 x5 x6 (ix2 0 f) = dfc (arrays x0 x1 x2 x3 x4 x5 x6) 0 f := by
  pointwise [val_main_v109]
  refine (reduce_twice _ _ _ (val_main_v103 (F := Ideal) x0 x1 x2 x3 x4 x5 x6) f).trans ?_
  refine Eq.trans ?_ (tap_sum _ 0 (by decide) f (fun b t => val_main_v30 (F := Ideal) x0 x1 x2 (ix3 b t f)) fun b t => ?_)
  · pointwise [val_main_v103, h77]
  · pointwise [val_main_v30, val_main_v26, val_main_v25, val_main_cst_0, val_main_v24]
    rfl

/-- The reference's gradient of the convolution: its bias. -/
theorem v128_at (f : Fin 2816) :
    val_main_v128 (F := Ideal) x0 x1 x2 x3 x4 x5 x6 (ix2 0 f) = dfc (arrays x0 x1 x2 x3 x4 x5 x6) 3 f := by
  pointwise [val_main_v128]
  refine (reduce_twice _ _ _ (val_main_v77 (F := Ideal) x0 x1 x2 x3 x4 x5 x6) f).trans ?_
  simp only [h77]
  rfl

/-- The reference's gradient of the convolution. -/
theorem v129_at (k : Fin 4) (f : Fin 2816) :
    val_main_v129 (F := Ideal) x0 x1 x2 x3 x4 x5 x6 (ix2 k f) = dfc (arrays x0 x1 x2 x3 x4 x5 x6) k f := by
  pointwise [val_main_v129, val_main_v111, val_main_v100, val_main_v89, val_main_v99, val_main_v110, val_main_cst_12, val_main_cst_16, val_main_cst_20]
  obtain ⟨k, hk⟩ := k
  interval_cases k <;> simp
  · exact v109_at x0 x1 x2 x3 x4 x5 x6 h77 f
  · exact v98_at x0 x1 x2 x3 x4 x5 x6 h77 f
  · exact v88_at x0 x1 x2 x3 x4 x5 x6 h77 f
  · exact v128_at x0 x1 x2 x3 x4 x5 x6 h77 f

end

end Cert.ReferenceIdeal.Mixer
-- ==== Proof.Entry.lean ====
/- What the kernel's region finds in the arrays the host prepared: the forward pass's `h` and `gc` as the reference computes them,
   and the modulation and the weights in the kernel's layout. -/
module

public import proofs.«01_k».proof.Proof.Gen.KernelIdeal.Value
public import proofs.«01_k».proof.Proof.Ref

@[expose] public section

set_option maxRecDepth 16384

noncomputable section

namespace Cert.KernelIdeal.Points

open Idealize.ShloMosaic Idealize.ShloMosaic.TcCoe Idealize.SL.Sem Cert.KernelIdeal Cert.KernelIdeal.Gen Cert.Mixer

variable (m : (ℓ : Loc nD τ sig) → Buf (Elt Ideal) ℓ) (c : Dev nD)

/-- The arrays of the derivative, from the kernel's arguments. -/
abbrev arr : Arrays :=
  Cert.ReferenceIdeal.Mixer.arrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The modulation with an axis between. -/
theorem mod_at (b : Fin 4) (k : Fin 6144) : V m c main_v46 (ix3 b 0 k) = (arr m c).mod (ix2 b k) := by
  entry_read
  pointwise
  rfl

theorem wdn_at (f : Fin 2816) (k : Fin 1024) : V m c main_v48 (ix2 f k) = (arr m c).wdn (ix3 0 f k) := by
  entry_read
  pointwise
  rfl

theorem cw_at (k : Fin 3) (f : Fin 2816) : V m c main_v49 (ix2 k f) = (arr m c).cw (ix3 0 k f) := by
  entry_read
  pointwise
  rfl

theorem wup_at (j : Fin 4) (k : Fin 1024) (f : Fin 1408) : V m c main_v45 (ix3 j k f) = (arr m c).wup (ix3 0 k ⟨j * 1408 + f, by omega⟩) := by
  entry_read
  pointwise
  rfl

theorem h_eq : V m c main_v11 = (arr m c).h := by
  entry_read
  rfl

theorem gc_eq : V m c main_v41 = (arr m c).gc := by
  entry_read
  rfl

end Cert.KernelIdeal.Points
-- ==== Proof.Blocks.lean ====
/- The blocks of a grid point as pieces of the whole arrays. -/
module

public import proofs.«01_k».proof.Proof.Block
public import proofs.«01_k».proof.Proof.Entry

@[expose] public section

set_option maxRecDepth 16384

noncomputable section

namespace Cert.KernelIdeal.Points

open Idealize.ShloMosaic Idealize.ShloMosaic.TcCoe Idealize.SL.Sem Cert.KernelIdeal Cert.KernelIdeal.Gen Cert.Mixer Cert.KernelIdeal.Tile

variable (m : (ℓ : Loc nD τ sig) → Buf (Elt Ideal) ℓ) (c : Dev nD) (t : Fin cfg0.N)

/-! ## Loads of a rectangle -/

/-- A load of a rectangle of a matrix, read at an index. -/
theorem ld2 {n1 n2 k1 k2 : ℕ} {α : Type} (X : (⟨2, ![n1, n2]⟩ : Shape).Idx → α) (o1 o2 : ℕ)
    (io : ∀ a, (![o1, o2] : Fin 2 → ℕ) a + (![k1, k2] : Fin 2 → ℕ) a ≤ (⟨2, ![n1, n2]⟩ : Shape).size a) (r : Fin k1) (f : Fin k2) :
    X ((Rect.unit (s := ⟨2, ![n1, n2]⟩) ![o1, o2] ![k1, k2] io).emb (ix2 r f)) =
      X (ix2 ⟨o1 + r, by have : o1 + k1 ≤ n1 := io 0; omega⟩ ⟨o2 + f, by have : o2 + k2 ≤ n2 := io 1; omega⟩) := by
  refine congrArg X (funext fun a => Fin.ext ?_)
  match a with
  | 0 => show o1 + 1 * r.val = o1 + r.val; omega
  | 1 => show o2 + 1 * f.val = o2 + f.val; omega

/-- A load of a rectangle with one entry along the leading axis. -/
theorem ld3 {n0 n1 n2 k1 k2 : ℕ} {α : Type} (X : (⟨3, ![n0, n1, n2]⟩ : Shape).Idx → α) (o0 o1 o2 : ℕ)
    (io : ∀ a, (![o0, o1, o2] : Fin 3 → ℕ) a + (![1, k1, k2] : Fin 3 → ℕ) a ≤ (⟨3, ![n0, n1, n2]⟩ : Shape).size a)
    (z : Fin 1) (r : Fin k1) (f : Fin k2) :
    X ((Rect.unit (s := ⟨3, ![n0, n1, n2]⟩) ![o0, o1, o2] ![1, k1, k2] io).emb (ix3 z r f)) =
      X (ix3 ⟨o0, by have : o0 + 1 ≤ n0 := io 0; omega⟩ ⟨o1 + r, by have : o1 + k1 ≤ n1 := io 1; omega⟩ ⟨o2 + f, by have : o2 + k2 ≤ n2 := io 2; omega⟩) := by
  refine congrArg X (funext fun a => Fin.ext ?_)
  match a with
  | 0 => show o0 + 1 * z.val = o0; omega
  | 1 => show o1 + 1 * r.val = o1 + r.val; omega
  | 2 => show o2 + 1 * f.val = o2 + f.val; omega

/-! ## The blocks -/

/-- Where each window's block lies at a point: eight points a batch row, the tiles from the last to the first. -/
theorem idx : ∀ t : Fin cfg0.N, t.val < 32 ∧
    win0_0.index t = ![t.val / 8, 7 - t.val % 8, 0] ∧ win0_1.index t = ![t.val / 8, 7 - t.val % 8, 0] ∧
    win0_2.index t = ![t.val / 8, 7 - t.val % 8, 0] ∧ win0_3.index t = ![t.val / 8, 7 - t.val % 8, 0] ∧
    win0_4.index t = ![t.val / 8, 0, 0] ∧ win0_5.index t = ![0, 0, 0] ∧ win0_6.index t = ![0, 0] ∧ win0_7.index t = ![0, 0] ∧
    win0_9.index t = ![t.val / 8, 7 - t.val % 8, 0] ∧ win0_10.index t = ![t.val / 8, 7 - t.val % 8, 0] ∧
    win0_11.index t = ![t.val / 8, 7 - t.val % 8, 0] ∧ win0_12.index t = ![0, 0] ∧ win0_13.index t = ![t.val / 8, 0, 0] :=
  (by decide +kernel : ∀ t : Fin grid0.N, _)

/-- The batch row of a point. -/
abbrev bt : Fin 4 := ⟨t.val / 8, by have := (idx t).1; omega⟩

/-- The tile of a point. -/
abbrev nt : Fin 8 := ⟨7 - t.val % 8, by omega⟩

theorem dz_blk (r : Fin 256) (k : Fin 1024) : iblk m c 0 t (ix3 0 r k) = (arr m c).dz (ix3 (bt t) (tok (nt t) r) k) := by
  show _ = m ((c : Thread nD τ).loc main_arg6) _
  blk_ext [iblk, V, idx t]

theorem x_blk (r : Fin 256) (k : Fin 1024) : iblk m c 1 t (ix3 0 r k) = (arr m c).x (ix3 (bt t) (tok (nt t) r) k) := by
  show _ = m ((c : Thread nD τ).loc main_arg0) _
  blk_ext [iblk, V, idx t]

theorem h_at (r : Fin 256) (k : Fin 5632) : iblk m c 2 t (ix3 0 r k) = (arr m c).h (ix3 (bt t) (tok (nt t) r) k) := by
  rw [← h_eq]
  blk_ext [iblk, idx t]

theorem gc_at (r : Fin 256) (k : Fin 2816) : iblk m c 3 t (ix3 0 r k) = (arr m c).gc (ix3 (bt t) (tok (nt t) r) k) := by
  rw [← gc_eq]
  blk_ext [iblk, idx t]

theorem mod_blk_at (k : Fin 6144) : iblk m c 4 t (ix3 0 0 k) = (arr m c).mod (ix2 (bt t) k) := by
  rw [← mod_at]
  blk_ext [iblk, idx t]

theorem wup_blk_at (j : Fin 4) (k : Fin 1024) (f : Fin 1408) : iblk m c 5 t (ix3 j k f) = (arr m c).wup (ix3 0 k ⟨j * 1408 + f, by omega⟩) := by
  rw [← wup_at]
  blk_ext [iblk, idx t]

theorem wdn_blk_at (f : Fin 2816) (k : Fin 1024) : iblk m c 6 t (ix2 f k) = (arr m c).wdn (ix3 0 f k) := by
  rw [← wdn_at]
  blk_ext [iblk, idx t]

theorem cw_blk_at (k : Fin 3) (f : Fin 2816) : iblk m c 7 t (ix2 k f) = (arr m c).cw (ix3 0 k f) := by
  rw [← cw_at]
  blk_ext [iblk, idx t]

/-! ## Their parts -/

theorem h_blk (o : ℕ) (ho : o ≤ 4224) (io : ∀ a, (![0, 0, o] : Fin 3 → ℕ) a + (![1, 256, 1408] : Fin 3 → ℕ) a ≤ S1x256x5632.size a)
    (r : Fin 256) (f : Fin 1408) :
    View.ld (iblk m c 2 t) (Rect.unit (s := S1x256x5632) ![0, 0, o] ![1, 256, 1408] io) (ix3 0 r f) =
      (arr m c).h (ix3 (bt t) (tok (nt t) r) ⟨o + f, by omega⟩) := by
  refine (ld3 (iblk m c 2 t) 0 0 o io 0 r f).trans ((h_at m c t ⟨0 + r, by omega⟩ ⟨o + f, by omega⟩).trans ?_)
  exact congrArg (fun i => (arr m c).h (ix3 (bt t) i ⟨o + f, by omega⟩)) (Fin.ext (by show 256 * _ + (0 + r.val) = _; rw [Nat.zero_add]))

theorem gc_blk (o : ℕ) (ho : o ≤ 1408) (io : ∀ a, (![0, 0, o] : Fin 3 → ℕ) a + (![1, 256, 1408] : Fin 3 → ℕ) a ≤ S1x256x2816.size a)
    (r : Fin 256) (f : Fin 1408) :
    View.ld (iblk m c 3 t) (Rect.unit (s := S1x256x2816) ![0, 0, o] ![1, 256, 1408] io) (ix3 0 r f) =
      (arr m c).gc (ix3 (bt t) (tok (nt t) r) (lane o ho f)) := by
  refine (ld3 (iblk m c 3 t) 0 0 o io 0 r f).trans ((gc_at m c t ⟨0 + r, by omega⟩ ⟨o + f, by omega⟩).trans ?_)
  exact congrArg (fun i => (arr m c).gc (ix3 (bt t) i ⟨o + f, by omega⟩)) (Fin.ext (by show 256 * _ + (0 + r.val) = _; rw [Nat.zero_add]))

theorem mod_blk (o : ℕ) (ho : o ≤ 5120) (io : ∀ a, (![0, 0, o] : Fin 3 → ℕ) a + (![1, 1, 1024] : Fin 3 → ℕ) a ≤ S1x1x6144.size a) (k : Fin 1024) :
    View.ld (iblk m c 4 t) (Rect.unit (s := S1x1x6144) ![0, 0, o] ![1, 1, 1024] io) (ix3 0 0 k) = (arr m c).mod (ix2 (bt t) ⟨o + k, by omega⟩) :=
  (ld3 (iblk m c 4 t) 0 0 o io 0 0 k).trans (mod_blk_at m c t ⟨o + k, by omega⟩)

theorem wup_blk (j : Fin 4) (ij : ∀ a, (![j.val, 0, 0] : Fin 3 → ℕ) a + (![1, 1024, 1408] : Fin 3 → ℕ) a ≤ S4x1024x1408.size a) (k : Fin 1024) (f : Fin 1408) :
    View.ld (iblk m c 5 t) (Rect.unit (s := S4x1024x1408) ![j.val, 0, 0] ![1, 1024, 1408] ij) (ix3 0 k f) = (arr m c).wup (ix3 0 k ⟨j * 1408 + f, by omega⟩) := by
  refine (ld3 (iblk m c 5 t) j.val 0 0 ij 0 k f).trans ((wup_blk_at m c t j ⟨0 + k, by omega⟩ ⟨0 + f, by omega⟩).trans ?_)
  exact congrArg₂ (fun i l => (arr m c).wup (ix3 0 i l)) (Fin.ext (Nat.zero_add _)) (Fin.ext (by show j.val * 1408 + (0 + f.val) = _; rw [Nat.zero_add]))

theorem wdn_blk (o : ℕ) (ho : o ≤ 1408) (io : ∀ a, (![o, 0] : Fin 2 → ℕ) a + (![1408, 1024] : Fin 2 → ℕ) a ≤ S2816x1024.size a) (f : Fin 1408) (k : Fin 1024) :
    View.ld (iblk m c 6 t) (Rect.unit (s := S2816x1024) ![o, 0] ![1408, 1024] io) (ix2 f k) = (arr m c).wdn (ix3 0 (lane o ho f) k) := by
  refine (ld2 (iblk m c 6 t) o 0 io f k).trans ((wdn_blk_at m c t ⟨o + f, by omega⟩ ⟨0 + k, by omega⟩).trans ?_)
  exact congrArg (fun i => (arr m c).wdn (ix3 0 ⟨o + f, by omega⟩ i)) (Fin.ext (Nat.zero_add _))

theorem cw_blk (k : Fin 3) (o : ℕ) (ho : o ≤ 1408) (io : ∀ a, (![k.val, o] : Fin 2 → ℕ) a + (![1, 1408] : Fin 2 → ℕ) a ≤ S3x2816.size a) (f : Fin 1408) :
    View.ld (iblk m c 7 t) (Rect.unit (s := S3x2816) ![k.val, o] ![1, 1408] io) (ix2 0 f) = (arr m c).cw (ix3 0 k (lane o ho f)) :=
  (ld2 (iblk m c 7 t) k.val o io 0 f).trans (cw_blk_at m c t k ⟨o + f, by omega⟩)

end Cert.KernelIdeal.Points
-- ==== Proof.Points.lean ====
/- One grid point of the region over the whole arrays: the values of its body as functions of the point and of the rows
   carried from the point before, and what they are. -/
module

public import proofs.«01_k».proof.Proof.Block
public import proofs.«01_k».proof.Proof.Blocks

@[expose] public section

set_option maxRecDepth 16384

noncomputable section

namespace Cert.KernelIdeal.Points

open Idealize.ShloMosaic Idealize.ShloMosaic.TcCoe Idealize.SL.Sem Cert.KernelIdeal Cert.KernelIdeal.Gen Cert.Mixer Cert.KernelIdeal.Tile

variable (m : (ℓ : Loc nD τ sig) → Buf (Elt Ideal) ℓ) (c : Dev nD) (t : Fin cfg0.N)

/-! ## The values of the body at a point -/

/-- `dy` over the tile. -/
abbrev dyV : FVec Ideal S256x1024 .bf16 := k0_pay7 (View.ld (iblk m c 4 t) (Rect.unit ![0, 0, 5120] ![1, 1, 1024] inb_S1x1x6144_S1x1x1024_0_0_5120)) (iblk m c 0 t)

/-- The first chunk's `dv` and `dgc`. -/
abbrev dv0 : FVec Ideal S256x1408 .f32 :=
  k0_pay15 (dyV m c t) (View.ld (iblk m c 3 t) (Rect.unit ![0, 0, 0] ![1, 256, 1408] inb_S1x256x2816_S1x256x1408_0_0_0))
    (View.ld (iblk m c 6 t) (Rect.unit ![0, 0] ![1408, 1024] inb_S2816x1024_S1408x1024_0_0))
abbrev dgc0 : FVec Ideal S256x1408 .f32 :=
  k0_pay16 (dyV m c t) (k0_pay10 (View.ld (iblk m c 2 t) (Rect.unit ![0, 0, 0] ![1, 256, 1408] inb_S1x256x5632_S1x256x1408_0_0_0)))
    (View.ld (iblk m c 3 t) (Rect.unit ![0, 0, 0] ![1, 256, 1408] inb_S1x256x2816_S1x256x1408_0_0_0))
    (View.ld (iblk m c 6 t) (Rect.unit ![0, 0] ![1408, 1024] inb_S2816x1024_S1408x1024_0_0))

/-- The second chunk's `dv` and `dgc`. -/
abbrev dv1 : FVec Ideal S256x1408 .f32 :=
  k0_pay15 (dyV m c t) (View.ld (iblk m c 3 t) (Rect.unit ![0, 0, 1408] ![1, 256, 1408] inb_S1x256x2816_S1x256x1408_0_0_1408))
    (View.ld (iblk m c 6 t) (Rect.unit ![1408, 0] ![1408, 1024] inb_S2816x1024_S1408x1024_1408_0))
abbrev dgc1 : FVec Ideal S256x1408 .f32 :=
  k0_pay16 (dyV m c t) (k0_pay10 (View.ld (iblk m c 2 t) (Rect.unit ![0, 0, 1408] ![1, 256, 1408] inb_S1x256x5632_S1x256x1408_0_0_1408)))
    (View.ld (iblk m c 3 t) (Rect.unit ![0, 0, 1408] ![1, 256, 1408] inb_S1x256x2816_S1x256x1408_0_0_1408))
    (View.ld (iblk m c 6 t) (Rect.unit ![1408, 0] ![1408, 1024] inb_S2816x1024_S1408x1024_1408_0))

variable (Z : Vec Ideal S2x8x1408 .f32)

/-- What the extended scratch holds in the first chunk: `dgc` with the carried rows behind it. -/
abbrev ext0 : List (View.Piece (Elt Ideal) S264x1408 .f32) :=
  [⟨Rect.unit ![256, 0] ![8, 1408] inb_S264x1408_S8x1408_256_0, k0_pay20 (k0_pay19 (View.ld Z (Rect.unit ![0, 0, 0] ![1, 8, 1408] inb_S2x8x1408_S1x8x1408_0_0_0)))⟩,
    ⟨Rect.unit ![0, 0] ![256, 1408] inb_S264x1408_S256x1408_0_0, dgc0 m c t⟩]

/-- What it holds in the second chunk, over the first's. -/
abbrev ext1 : List (View.Piece (Elt Ideal) S264x1408 .f32) :=
  ⟨Rect.unit ![256, 0] ![8, 1408] inb_S264x1408_S8x1408_256_0, k0_pay20 (k0_pay19 (View.ld Z (Rect.unit ![1, 0, 0] ![1, 8, 1408] inb_S2x8x1408_S1x8x1408_1_0_0)))⟩ ::
    ⟨Rect.unit ![0, 0] ![256, 1408] inb_S264x1408_S256x1408_0_0, dgc1 m c t⟩ :: ext0 m c t Z

/-- The copies of `dgc` shifted by two, one and no rows, of the first chunk. -/
abbrev s02 : FVec Ideal S256x1408 .f32 := (View.whole cc0_scratch0).readCov (ext0 m c t Z) (Rect.unit (s := S264x1408) ![2, 0] ![256, 1408] inb_S264x1408_S256x1408_2_0).toLoadRect
abbrev s01 : FVec Ideal S256x1408 .f32 := (View.whole cc0_scratch0).readCov (ext0 m c t Z) (Rect.unit (s := S264x1408) ![1, 0] ![256, 1408] inb_S264x1408_S256x1408_1_0).toLoadRect
abbrev s00 : FVec Ideal S256x1408 .f32 := (View.whole cc0_scratch0).readCov (ext0 m c t Z) (Rect.unit (s := S264x1408) ![0, 0] ![256, 1408] inb_S264x1408_S256x1408_0_0).toLoadRect

/-- Of the second chunk. -/
abbrev s12 : FVec Ideal S256x1408 .f32 := (View.whole cc0_scratch0).readCov (ext1 m c t Z) (Rect.unit (s := S264x1408) ![2, 0] ![256, 1408] inb_S264x1408_S256x1408_2_0).toLoadRect
abbrev s11 : FVec Ideal S256x1408 .f32 := (View.whole cc0_scratch0).readCov (ext1 m c t Z) (Rect.unit (s := S264x1408) ![1, 0] ![256, 1408] inb_S264x1408_S256x1408_1_0).toLoadRect
abbrev s10 : FVec Ideal S256x1408 .f32 := (View.whole cc0_scratch0).readCov (ext1 m c t Z) (Rect.unit (s := S264x1408) ![0, 0] ![256, 1408] inb_S264x1408_S256x1408_0_0).toLoadRect

/-- The gradient of the gate half, of the first chunk and of the second. -/
abbrev dg0 : FVec Ideal S256x1408 .f32 :=
  k0_pay26 (k0_pay22 (s02 m c t Z) (View.ld (iblk m c 7 t) (Rect.unit ![0, 0] ![1, 1408] inb_S3x2816_S1x1408_0_0))) (s01 m c t Z)
    (k0_pay24 (View.ld (iblk m c 7 t) (Rect.unit ![1, 0] ![1, 1408] inb_S3x2816_S1x1408_1_0))) (s00 m c t Z)
    (View.ld (iblk m c 7 t) (Rect.unit ![2, 0] ![1, 1408] inb_S3x2816_S1x1408_2_0))
abbrev dg1 : FVec Ideal S256x1408 .f32 :=
  k0_pay26 (k0_pay22 (s12 m c t Z) (View.ld (iblk m c 7 t) (Rect.unit ![0, 1408] ![1, 1408] inb_S3x2816_S1x1408_0_1408))) (s11 m c t Z)
    (k0_pay24 (View.ld (iblk m c 7 t) (Rect.unit ![1, 1408] ![1, 1408] inb_S3x2816_S1x1408_1_1408))) (s10 m c t Z)
    (View.ld (iblk m c 7 t) (Rect.unit ![2, 1408] ![1, 1408] inb_S3x2816_S1x1408_2_1408))

/-- `du` over the tile. -/
abbrev duV : FVec Ideal S256x1024 .f32 :=
  k0_pay58 (k0_pay36 (k0_pay9 (F := Ideal)) (dv0 m c t) (dg0 m c t Z) (View.ld (iblk m c 5 t) (Rect.unit ![0, 0, 0] ![1, 1024, 1408] inb_S4x1024x1408_S1x1024x1408_0_0_0))
      (View.ld (iblk m c 5 t) (Rect.unit ![2, 0, 0] ![1, 1024, 1408] inb_S4x1024x1408_S1x1024x1408_2_0_0)))
    (dv1 m c t) (dg1 m c t Z) (View.ld (iblk m c 5 t) (Rect.unit ![1, 0, 0] ![1, 1024, 1408] inb_S4x1024x1408_S1x1024x1408_1_0_0))
    (View.ld (iblk m c 5 t) (Rect.unit ![3, 0, 0] ![1, 1024, 1408] inb_S4x1024x1408_S1x1024x1408_3_0_0))

/-- The tile's gradient of the input. -/
abbrev dxV : Vec Ideal S1x256x1024 .f32 :=
  k0_pay59 (k0_pay5 (View.ld (iblk m c 4 t) (Rect.unit ![0, 0, 4096] ![1, 1, 1024] inb_S1x1x6144_S1x1x1024_0_0_4096))) (k0_pay6 (iblk m c 0 t))
  (k0_pay36 (k0_pay9 (F := Ideal)) (dv0 m c t) (dg0 m c t Z) (View.ld (iblk m c 5 t) (Rect.unit ![0, 0, 0] ![1, 1024, 1408] inb_S4x1024x1408_S1x1024x1408_0_0_0))
      (View.ld (iblk m c 5 t) (Rect.unit ![2, 0, 0] ![1, 1024, 1408] inb_S4x1024x1408_S1x1024x1408_2_0_0)))
    (dv1 m c t) (dg1 m c t Z) (View.ld (iblk m c 5 t) (Rect.unit ![1, 0, 0] ![1, 1024, 1408] inb_S4x1024x1408_S1x1024x1408_1_0_0))
    (View.ld (iblk m c 5 t) (Rect.unit ![3, 0, 0] ![1, 1024, 1408] inb_S4x1024x1408_S1x1024x1408_3_0_0))

/-! ## What they are -/

theorem dyV_at (r : Fin 256) (k : Fin 1024) : dyV m c t (ix2 r k) = dy (arr m c) (bt t) (tok (nt t) r) k :=
  dy_tile _ _ _ _ _ (mod_blk m c t 5120 (by omega) _) (dz_blk m c t) r k

theorem dv0_at (r : Fin 256) (f : Fin 1408) : dv0 m c t (ix2 r f) = dv (arr m c) (bt t) (tok (nt t) r) (lane 0 (by omega) f) :=
  dv_tile _ _ _ _ _ _ _ _ (dyV_at m c t) (gc_blk m c t 0 (by omega) _) (wdn_blk m c t 0 (by omega) _) r f

theorem dv1_at (r : Fin 256) (f : Fin 1408) : dv1 m c t (ix2 r f) = dv (arr m c) (bt t) (tok (nt t) r) (lane 1408 (by omega) f) :=
  dv_tile _ _ _ _ _ _ _ _ (dyV_at m c t) (gc_blk m c t 1408 (by omega) _) (wdn_blk m c t 1408 (by omega) _) r f

theorem dgc0_at (r : Fin 256) (f : Fin 1408) : dgc0 m c t (ix2 r f) = dgc (arr m c) (bt t) (tok (nt t) r) (lane 0 (by omega) f) :=
  dgc_tile _ _ _ 0 (by omega) _ _ _ _ (dyV_at m c t) (fun r f => (cast_at _ r f).trans (h_blk m c t 0 (by omega) _ r f)) (gc_blk m c t 0 (by omega) _) (wdn_blk m c t 0 (by omega) _) r f

theorem dgc1_at (r : Fin 256) (f : Fin 1408) : dgc1 m c t (ix2 r f) = dgc (arr m c) (bt t) (tok (nt t) r) (lane 1408 (by omega) f) :=
  dgc_tile _ _ _ 1408 (by omega) _ _ _ _ (dyV_at m c t) (fun r f => (cast_at _ r f).trans (h_blk m c t 1408 (by omega) _ r f)) (gc_blk m c t 1408 (by omega) _) (wdn_blk m c t 1408 (by omega) _) r f

section
-- The carried rows are the next tile's first rows of `dgc`.
variable (hZ : ∀ (j : Fin 2) (q : Fin 8) (f : Fin 1408), Z (ix3 j q f) = dgcz (arr m c) (bt t) (256 * (nt t + 1) + q) (lane (j * 1408) (by omega) f))
include hZ

theorem carried_at (j : Fin 2) (ij : ∀ a, (![j.val, 0, 0] : Fin 3 → ℕ) a + (![1, 8, 1408] : Fin 3 → ℕ) a ≤ S2x8x1408.size a) (q : Fin 8) (f : Fin 1408) :
    k0_pay20 (F := Ideal) (k0_pay19 (View.ld Z (Rect.unit (s := S2x8x1408) ![j.val, 0, 0] ![1, 8, 1408] ij))) (ix2 q f) =
      dgcz (arr m c) (bt t) (256 * (nt t + 1) + q) (lane (j * 1408) (by omega) f) := by
  refine (ext_carry_at _ q f).trans ((ld3 Z j.val 0 0 ij 0 q f).trans ((hZ j ⟨0 + q, by omega⟩ ⟨0 + f, by omega⟩).trans ?_))
  exact congrArg₂ (dgcz (arr m c) (bt t)) (by show _ + (0 + q.val) = _; rw [Nat.zero_add]) (Fin.ext (by show _ + (0 + f.val) = _; rw [Nat.zero_add]))

theorem s0_at (e : ℕ) (he : e ≤ 8) (il : ∀ a, (![e, 0] : Fin 2 → ℕ) a + (![256, 1408] : Fin 2 → ℕ) a ≤ S264x1408.size a) (r : Fin 256) (f : Fin 1408) :
    (View.whole cc0_scratch0).readCov (ext0 m c t Z) (Rect.unit (s := S264x1408) ![e, 0] ![256, 1408] il).toLoadRect (ix2 r f) =
      dgcz (arr m c) (bt t) (256 * nt t + r + e) (lane 0 (by omega) f) :=
  shift_tile _ _ _ 0 (by omega) _ _ _ _ e he _ _ _ (dgc0_at m c t) (carried_at m c t Z hZ 0 _) r f

theorem s1_at (e : ℕ) (he : e ≤ 8) (il : ∀ a, (![e, 0] : Fin 2 → ℕ) a + (![256, 1408] : Fin 2 → ℕ) a ≤ S264x1408.size a) (r : Fin 256) (f : Fin 1408) :
    (View.whole cc0_scratch0).readCov (ext1 m c t Z) (Rect.unit (s := S264x1408) ![e, 0] ![256, 1408] il).toLoadRect (ix2 r f) =
      dgcz (arr m c) (bt t) (256 * nt t + r + e) (lane 1408 (by omega) f) :=
  shift_tile _ _ _ 1408 (by omega) _ _ _ _ e he _ _ _ (dgc1_at m c t) (carried_at m c t Z hZ 1 _) r f

theorem dg0_at (r : Fin 256) (f : Fin 1408) : dg0 m c t Z (ix2 r f) = dg (arr m c) (bt t) (256 * nt t + r) (lane 0 (by omega) f) :=
  dg_tile _ _ _ _ _ _ _ _ _ _ _ (s0_at m c t Z hZ 2 (by omega) _) (s0_at m c t Z hZ 1 (by omega) _) (s0_at m c t Z hZ 0 (by omega) _)
    (cw_blk m c t 0 0 (by omega) _) (cw_blk m c t 1 0 (by omega) _) (cw_blk m c t 2 0 (by omega) _) r f

theorem dg1_at (r : Fin 256) (f : Fin 1408) : dg1 m c t Z (ix2 r f) = dg (arr m c) (bt t) (256 * nt t + r) (lane 1408 (by omega) f) :=
  dg_tile _ _ _ _ _ _ _ _ _ _ _ (s1_at m c t Z hZ 2 (by omega) _) (s1_at m c t Z hZ 1 (by omega) _) (s1_at m c t Z hZ 0 (by omega) _)
    (cw_blk m c t 0 1408 (by omega) _) (cw_blk m c t 1 1408 (by omega) _) (cw_blk m c t 2 1408 (by omega) _) r f

theorem duV_at (r : Fin 256) (k : Fin 1024) : duV m c t Z (ix2 r k) = du (arr m c) (bt t) (tok (nt t) r) k := by
  refine du_tile _ _ _ _ _ _ _ _ _ _ _ (dv0_at m c t) (dg0_at m c t Z hZ) (dv1_at m c t) (dg1_at m c t Z hZ) (fun k f => ?_) (fun k f => ?_) (fun k f => ?_) (fun k f => ?_) r k
  · refine (wup_blk m c t 0 _ k f).trans (congrArg (fun i => (arr m c).wup (ix3 0 k i)) (Fin.ext ?_)); show 0 * 1408 + f.val = f.val; omega
  · exact wup_blk m c t 2 _ k f
  · refine (wup_blk m c t 1 _ k f).trans (congrArg (fun i => (arr m c).wup (ix3 0 k i)) (Fin.ext ?_)); show 1 * 1408 + f.val = 1408 + f.val; omega
  · exact wup_blk m c t 3 _ k f

theorem dxV_at (r : Fin 256) (k : Fin 1024) : dxV m c t Z (ix3 0 r k) = dx (arr m c) (bt t) (tok (nt t) r) k := by
  refine (dx_at _ _ _ _ _ _ _ r k).trans ?_
  exact congrArg₂ (· + ·) (congrArg (_ * ·) (dz_blk m c t r k))
    (congrArg₂ (· * ·) (duV_at m c t Z hZ r k) (congrArg (1 + ·) (mod_blk m c t 4096 (by omega) _ k)))

end

end Cert.KernelIdeal.Points
-- ==== Proof.Outs.lean ====
/- What each grid point leaves in the buffers of the results: the stores of its body as lists of pieces, and what they hold. -/
module

public import proofs.«01_k».proof.Proof.Points
public import proofs.«01_k».proof.Proof.Gen.KernelIdeal.Value

@[expose] public section

set_option maxRecDepth 16384

noncomputable section

namespace Cert.KernelIdeal.Points

open Idealize.ShloMosaic Idealize.ShloMosaic.TcCoe Idealize.SL.Sem Cert.KernelIdeal Cert.KernelIdeal.Gen Cert.Mixer Cert.KernelIdeal.Tile

variable (m : (ℓ : Loc nD τ sig) → Buf (Elt Ideal) ℓ) (c : Dev nD) (t : Fin cfg0.N)
variable (Z : Vec Ideal S2x8x1408 .f32) (D : Vec Ideal S4x2816 .f32) (M : Vec Ideal S1x2x1024 .f32)

/-! ## The stores of a point -/

/-- The tile's gradient of `y` as it is stored. -/
abbrev dyS : Vec Ideal S1x256x1024 .bf16 :=
  k0_pay8 (View.ld (iblk m c 4 t) (Rect.unit ![0, 0, 5120] ![1, 1, 1024] inb_S1x1x6144_S1x1x1024_0_0_5120)) (iblk m c 0 t)

/-- The stores of the gradient of `h`. -/
abbrev dhL : List (View.Piece (Elt Ideal) S1x256x5632 .bf16) :=
  [⟨Rect.unit ![0, 0, 4224] ![1, 256, 1408] inb_S1x256x5632_S1x256x1408_0_0_4224, k0_pay34 (dg1 m c t Z)⟩,
    ⟨Rect.unit ![0, 0, 1408] ![1, 256, 1408] inb_S1x256x5632_S1x256x1408_0_0_1408, k0_pay34 (dv1 m c t)⟩,
    ⟨Rect.unit ![0, 0, 2816] ![1, 256, 1408] inb_S1x256x5632_S1x256x1408_0_0_2816, k0_pay34 (dg0 m c t Z)⟩,
    ⟨Rect.unit ![0, 0, 0] ![1, 256, 1408] inb_S1x256x5632_S1x256x1408_0_0_0, k0_pay34 (dv0 m c t)⟩]

/-- The stores of the convolution's gradient over what is there before. -/
abbrev dfcL : List (View.Piece (Elt Ideal) S4x2816 .f32) :=
  [⟨Rect.unit ![2, 1408] ![1, 1408] inb_S4x2816_S1x1408_2_1408, k0_pay23 (k0_pay10 (View.ld (iblk m c 2 t) (Rect.unit ![0, 0, 4224] ![1, 256, 1408] inb_S1x256x5632_S1x256x1408_0_0_4224)))
      (s10 m c t Z) (View.ld D (Rect.unit ![2, 1408] ![1, 1408] inb_S4x2816_S1x1408_2_1408))⟩,
    ⟨Rect.unit ![1, 1408] ![1, 1408] inb_S4x2816_S1x1408_1_1408, k0_pay23 (k0_pay10 (View.ld (iblk m c 2 t) (Rect.unit ![0, 0, 4224] ![1, 256, 1408] inb_S1x256x5632_S1x256x1408_0_0_4224)))
      (s11 m c t Z) (View.ld D (Rect.unit ![1, 1408] ![1, 1408] inb_S4x2816_S1x1408_1_1408))⟩,
    ⟨Rect.unit ![0, 1408] ![1, 1408] inb_S4x2816_S1x1408_0_1408, k0_pay23 (k0_pay10 (View.ld (iblk m c 2 t) (Rect.unit ![0, 0, 4224] ![1, 256, 1408] inb_S1x256x5632_S1x256x1408_0_0_4224)))
      (s12 m c t Z) (View.ld D (Rect.unit ![0, 1408] ![1, 1408] inb_S4x2816_S1x1408_0_1408))⟩,
    ⟨Rect.unit ![3, 1408] ![1, 1408] inb_S4x2816_S1x1408_3_1408, k0_pay17 (dyV m c t) (k0_pay10 (View.ld (iblk m c 2 t) (Rect.unit ![0, 0, 1408] ![1, 256, 1408] inb_S1x256x5632_S1x256x1408_0_0_1408)))
      (View.ld (iblk m c 3 t) (Rect.unit ![0, 0, 1408] ![1, 256, 1408] inb_S1x256x2816_S1x256x1408_0_0_1408))
      (View.ld (iblk m c 6 t) (Rect.unit ![1408, 0] ![1408, 1024] inb_S2816x1024_S1408x1024_1408_0)) (View.ld D (Rect.unit ![3, 1408] ![1, 1408] inb_S4x2816_S1x1408_3_1408))⟩,
    ⟨Rect.unit ![2, 0] ![1, 1408] inb_S4x2816_S1x1408_2_0, k0_pay23 (k0_pay10 (View.ld (iblk m c 2 t) (Rect.unit ![0, 0, 2816] ![1, 256, 1408] inb_S1x256x5632_S1x256x1408_0_0_2816)))
      (s00 m c t Z) (View.ld D (Rect.unit ![2, 0] ![1, 1408] inb_S4x2816_S1x1408_2_0))⟩,
    ⟨Rect.unit ![1, 0] ![1, 1408] inb_S4x2816_S1x1408_1_0, k0_pay23 (k0_pay10 (View.ld (iblk m c 2 t) (Rect.unit ![0, 0, 2816] ![1, 256, 1408] inb_S1x256x5632_S1x256x1408_0_0_2816)))
      (s01 m c t Z) (View.ld D (Rect.unit ![1, 0] ![1, 1408] inb_S4x2816_S1x1408_1_0))⟩,
    ⟨Rect.unit ![0, 0] ![1, 1408] inb_S4x2816_S1x1408_0_0, k0_pay23 (k0_pay10 (View.ld (iblk m c 2 t) (Rect.unit ![0, 0, 2816] ![1, 256, 1408] inb_S1x256x5632_S1x256x1408_0_0_2816)))
      (s02 m c t Z) (View.ld D (Rect.unit ![0, 0] ![1, 1408] inb_S4x2816_S1x1408_0_0))⟩,
    ⟨Rect.unit ![3, 0] ![1, 1408] inb_S4x2816_S1x1408_3_0, k0_pay17 (dyV m c t) (k0_pay10 (View.ld (iblk m c 2 t) (Rect.unit ![0, 0, 0] ![1, 256, 1408] inb_S1x256x5632_S1x256x1408_0_0_0)))
      (View.ld (iblk m c 3 t) (Rect.unit ![0, 0, 0] ![1, 256, 1408] inb_S1x256x2816_S1x256x1408_0_0_0))
      (View.ld (iblk m c 6 t) (Rect.unit ![0, 0] ![1408, 1024] inb_S2816x1024_S1408x1024_0_0)) (View.ld D (Rect.unit ![3, 0] ![1, 1408] inb_S4x2816_S1x1408_3_0))⟩]

/-- What the first chunk's products leave of `du`. -/
abbrev duH : FVec Ideal S256x1024 .f32 :=
  k0_pay36 (k0_pay9 (F := Ideal)) (dv0 m c t) (dg0 m c t Z) (View.ld (iblk m c 5 t) (Rect.unit ![0, 0, 0] ![1, 1024, 1408] inb_S4x1024x1408_S1x1024x1408_0_0_0))
    (View.ld (iblk m c 5 t) (Rect.unit ![2, 0, 0] ![1, 1024, 1408] inb_S4x1024x1408_S1x1024x1408_2_0_0))

/-- The stores of the modulation's gradient over what is there before. -/
abbrev dmodL : List (View.Piece (Elt Ideal) S1x2x1024 .f32) :=
  [⟨Rect.unit ![0, 1, 0] ![1, 1, 1024] inb_S1x2x1024_S1x1x1024_0_1_0,
      k0_pay1 (k0_pay64 (View.ld M (Rect.unit ![0, 1, 0] ![1, 1, 1024] inb_S1x2x1024_S1x1x1024_0_1_0))) (k0_pay65 (duV m c t Z) (iblk m c 1 t))⟩,
    ⟨Rect.unit ![0, 0, 0] ![1, 1, 1024] inb_S1x2x1024_S1x1x1024_0_0_0,
      k0_pay63 (k0_pay60 (View.ld M (Rect.unit ![0, 0, 0] ![1, 1, 1024] inb_S1x2x1024_S1x1x1024_0_0_0)))
        (k0_pay61 (duH m c t Z) (dv1 m c t) (dg1 m c t Z) (View.ld (iblk m c 5 t) (Rect.unit ![1, 0, 0] ![1, 1024, 1408] inb_S4x1024x1408_S1x1024x1408_1_0_0))
          (View.ld (iblk m c 5 t) (Rect.unit ![3, 0, 0] ![1, 1024, 1408] inb_S4x1024x1408_S1x1024x1408_3_0_0)))
        (k0_pay62 (duH m c t Z) (dv1 m c t) (dg1 m c t Z) (View.ld (iblk m c 5 t) (Rect.unit ![1, 0, 0] ![1, 1024, 1408] inb_S4x1024x1408_S1x1024x1408_1_0_0))
          (View.ld (iblk m c 5 t) (Rect.unit ![3, 0, 0] ![1, 1024, 1408] inb_S4x1024x1408_S1x1024x1408_3_0_0)))⟩]

/-- The stores of the rows carried to the next point. -/
abbrev carryL : List (View.Piece (Elt Ideal) S2x8x1408 .f32) :=
  [⟨Rect.unit ![1, 0, 0] ![1, 8, 1408] inb_S2x8x1408_S1x8x1408_1_0_0, k0_pay21 (dgc1 m c t)⟩,
    ⟨Rect.unit ![0, 0, 0] ![1, 8, 1408] inb_S2x8x1408_S1x8x1408_0_0_0, k0_pay21 (dgc0 m c t)⟩]

/-! ## Reading back a buffer that was filled first -/

/-- A load of a chunk's carried rows after the fill. -/
theorem fill_carry (v : View sig .tc .vmem S2x8x1408 .f32) (i : ∀ a, (![0, 0, 0] : Fin 3 → ℕ) a + (![2, 8, 1408] : Fin 3 → ℕ) a ≤ S2x8x1408.size a)
    (L : List (View.Piece (Elt Ideal) S2x8x1408 .f32)) (r : Rect S2x8x1408) :
    v.readCov (⟨Rect.unit (s := S2x8x1408) ![0, 0, 0] ![2, 8, 1408] i, Z⟩ :: L) r.toLoadRect = View.ld Z r :=
  View.readCov_fill v i Z L r (by decide)

/-- A load of the second chunk's carried rows over the store of the first's. -/
theorem skip_carry (v : View sig .tc .vmem S2x8x1408 .f32) (i : ∀ a, (![0, 0, 0] : Fin 3 → ℕ) a + (![1, 8, 1408] : Fin 3 → ℕ) a ≤ S2x8x1408.size a)
    (i' : ∀ a, (![1, 0, 0] : Fin 3 → ℕ) a + (![1, 8, 1408] : Fin 3 → ℕ) a ≤ S2x8x1408.size a)
    (w : Vec Ideal S1x8x1408 .f32) (L : List (View.Piece (Elt Ideal) S2x8x1408 .f32)) :
    v.readCov (⟨Rect.unit (s := S2x8x1408) ![0, 0, 0] ![1, 8, 1408] i, w⟩ :: L) (Rect.unit (s := S2x8x1408) ![1, 0, 0] ![1, 8, 1408] i').toLoadRect =
      v.readCov L (Rect.unit (s := S2x8x1408) ![1, 0, 0] ![1, 8, 1408] i').toLoadRect :=
  View.readCov_skip v _ _ _ _ rfl

/-- A load of a row of the convolution's gradient after the fill. -/
theorem fill_dfc (v : View sig .tc .vmem S4x2816 .f32) (i : ∀ a, (![0, 0] : Fin 2 → ℕ) a + (![4, 2816] : Fin 2 → ℕ) a ≤ S4x2816.size a)
    (L : List (View.Piece (Elt Ideal) S4x2816 .f32)) (r : Rect S4x2816) :
    v.readCov (⟨Rect.unit (s := S4x2816) ![0, 0] ![4, 2816] i, D⟩ :: L) r.toLoadRect = View.ld D r :=
  View.readCov_fill v i D L r (by decide)

/-- A load of a row of the convolution's gradient over the store of another. -/
theorem skip_dfc (v : View sig .tc .vmem S4x2816 .f32) (k l k' l' : ℕ) (i : ∀ a, (![k, l] : Fin 2 → ℕ) a + (![1, 1408] : Fin 2 → ℕ) a ≤ S4x2816.size a)
    (i' : ∀ a, (![k', l'] : Fin 2 → ℕ) a + (![1, 1408] : Fin 2 → ℕ) a ≤ S4x2816.size a)
    (w : Vec Ideal S1x1408 .f32) (L : List (View.Piece (Elt Ideal) S4x2816 .f32)) (h : k < k' ∨ k' < k ∨ l + 1408 ≤ l' ∨ l' + 1408 ≤ l) :
    v.readCov (⟨Rect.unit (s := S4x2816) ![k, l] ![1, 1408] i, w⟩ :: L) (Rect.unit (s := S4x2816) ![k', l'] ![1, 1408] i').toLoadRect =
      v.readCov L (Rect.unit (s := S4x2816) ![k', l'] ![1, 1408] i').toLoadRect := by
  rw [View.readCov_eq_canon', View.readCov_eq_canon']
  funext j
  refine View.canon_cons_of_not_mem _ _ fun hm => ?_
  have m0 := (Rect.mem_set_unit (inb := i)).mp hm 0
  have m1 := (Rect.mem_set_unit (inb := i)).mp hm 1
  have j0 : (j 0).val < 1 := (j 0).isLt
  have j1 : (j 1).val < 1408 := (j 1).isLt
  change k ≤ k' + 1 * (j 0).val ∧ k' + 1 * (j 0).val < k + 1 at m0
  change l ≤ l' + 1 * (j 1).val ∧ l' + 1 * (j 1).val < l + 1408 at m1
  omega

/-- A load of a row of the modulation's gradient after the fill. -/
theorem fill_dmod (v : View sig .tc .vmem S1x2x1024 .f32) (i : ∀ a, (![0, 0, 0] : Fin 3 → ℕ) a + (![1, 2, 1024] : Fin 3 → ℕ) a ≤ S1x2x1024.size a)
    (L : List (View.Piece (Elt Ideal) S1x2x1024 .f32)) (r : Rect S1x2x1024) :
    v.readCov (⟨Rect.unit (s := S1x2x1024) ![0, 0, 0] ![1, 2, 1024] i, M⟩ :: L) r.toLoadRect = View.ld M r :=
  View.readCov_fill v i M L r (by decide)

/-- A load of the scale's row over the store of the shift's. -/
theorem skip_dmod (v : View sig .tc .vmem S1x2x1024 .f32) (i : ∀ a, (![0, 0, 0] : Fin 3 → ℕ) a + (![1, 1, 1024] : Fin 3 → ℕ) a ≤ S1x2x1024.size a)
    (i' : ∀ a, (![0, 1, 0] : Fin 3 → ℕ) a + (![1, 1, 1024] : Fin 3 → ℕ) a ≤ S1x2x1024.size a)
    (w : Vec Ideal S1x1x1024 .f32) (L : List (View.Piece (Elt Ideal) S1x2x1024 .f32)) :
    v.readCov (⟨Rect.unit (s := S1x2x1024) ![0, 0, 0] ![1, 1, 1024] i, w⟩ :: L) (Rect.unit (s := S1x2x1024) ![0, 1, 0] ![1, 1, 1024] i').toLoadRect =
      v.readCov L (Rect.unit (s := S1x2x1024) ![0, 1, 0] ![1, 1, 1024] i').toLoadRect :=
  View.readCov_skip v _ _ _ _ rfl

/-! ## A point that goes on from the point before -/

section
variable (h0 : ¬t.val % 8 = 0) (h1 : ¬t.val % 32 = 0)
include h0 h1

theorem dxB : (outsAt0 m c t.val t.isLt).1 = dxV m c t (outsAt0 m c (t.val - 1) (by omega)).2.2.2.2.2 := by
  rw [outsAt0_B m c t h0 h1]
  frame_out
  simp only [read_unread_whole, dv_chunk, ext_store_chunk, ext_store, ext_carry_chunk, dg_chunk]
  rfl

theorem dyB : (outsAt0 m c t.val t.isLt).2.1 = dyS m c t := by
  rw [outsAt0_B m c t h0 h1]
  frame_out
  rfl

theorem dhB : (outsAt0 m c t.val t.isLt).2.2.1 = View.canon (dhL m c t (outsAt0 m c (t.val - 1) (by omega)).2.2.2.2.2) := by
  rw [outsAt0_B m c t h0 h1]
  frame_out
  simp only [read_unread_whole, dv_chunk, ext_store_chunk, ext_store, ext_carry_chunk, dg_chunk, dh_store_chunk]
  rfl

theorem dfcB : (outsAt0 m c t.val t.isLt).2.2.2.1 =
    View.canon (dfcL m c t (outsAt0 m c (t.val - 1) (by omega)).2.2.2.2.2 (outsAt0 m c (t.val - 1) (by omega)).2.2.2.1 ++ []) := by
  rw [outsAt0_B m c t h0 h1]
  frame_out
  simp only [read_unread_whole, dv_chunk, ext_store_chunk, ext_store, ext_carry_chunk, dg_chunk, dconv_chunk, dbias_chunk]
  rfl

theorem dmodB : (outsAt0 m c t.val t.isLt).2.2.2.2.1 =
    View.canon (dmodL m c t (outsAt0 m c (t.val - 1) (by omega)).2.2.2.2.2 (outsAt0 m c (t.val - 1) (by omega)).2.2.2.2.1 ++ []) := by
  rw [outsAt0_B m c t h0 h1]
  frame_out
  simp only [read_unread_whole, dv_chunk, ext_store_chunk, ext_store, ext_carry_chunk, dg_chunk]
  rfl

theorem carryB : (outsAt0 m c t.val t.isLt).2.2.2.2.2 = View.canon (carryL m c t ++ []) := by
  rw [outsAt0_B m c t h0 h1]
  frame_out
  simp only [carry_chunk]
  rfl

end

/-! ## The first point -/

section
variable (h0 : t.val % 8 = 0) (h1 : t.val % 32 = 0)
include h0 h1

theorem dxA : (outsAt0 m c t.val t.isLt).1 = dxV m c t (k0_pay2 (F := Ideal)) := by
  rw [outsAt0_A m c t h0 h1]
  frame_out
  simp (disch := omega) only [↓skip_carry, ↓fill_carry, dv_chunk, ext_store_chunk, ext_store, ext_carry_chunk, dg_chunk]
  rfl

theorem dyA : (outsAt0 m c t.val t.isLt).2.1 = dyS m c t := by
  rw [outsAt0_A m c t h0 h1]
  frame_out
  rfl

theorem dhA : (outsAt0 m c t.val t.isLt).2.2.1 = View.canon (dhL m c t (k0_pay2 (F := Ideal))) := by
  rw [outsAt0_A m c t h0 h1]
  frame_out
  simp (disch := omega) only [↓skip_carry, ↓fill_carry, dv_chunk, ext_store_chunk, ext_store, ext_carry_chunk, dg_chunk, dh_store_chunk]
  rfl

theorem dfcA : (outsAt0 m c t.val t.isLt).2.2.2.1 =
    View.canon (dfcL m c t (k0_pay2 (F := Ideal)) (k0_pay4 (F := Ideal)) ++ [⟨Rect.unit ![0, 0] ![4, 2816] inb_S4x2816_S4x2816_0_0, k0_pay4 (F := Ideal)⟩]) := by
  rw [outsAt0_A m c t h0 h1]
  frame_out
  simp (disch := omega) only [↓skip_carry, ↓fill_carry, dv_chunk, ext_store_chunk, ext_store, ext_carry_chunk, dg_chunk, ↓skip_dfc, ↓fill_dfc, dconv_chunk, dbias_chunk]
  rfl

theorem dmodA : (outsAt0 m c t.val t.isLt).2.2.2.2.1 =
    View.canon (dmodL m c t (k0_pay2 (F := Ideal)) (k0_pay3 (F := Ideal)) ++ [⟨Rect.unit ![0, 0, 0] ![1, 2, 1024] inb_S1x2x1024_S1x2x1024_0_0_0, k0_pay3 (F := Ideal)⟩]) := by
  rw [outsAt0_A m c t h0 h1]
  frame_out
  simp (disch := omega) only [↓skip_carry, ↓fill_carry, dv_chunk, ext_store_chunk, ext_store, ext_carry_chunk, dg_chunk, ↓skip_dmod, ↓fill_dmod]
  rfl

theorem carryA : (outsAt0 m c t.val t.isLt).2.2.2.2.2 =
    View.canon (carryL m c t ++ [⟨Rect.unit ![0, 0, 0] ![2, 8, 1408] inb_S2x8x1408_S2x8x1408_0_0_0, k0_pay2 (F := Ideal)⟩]) := by
  rw [outsAt0_A m c t h0 h1]
  frame_out
  simp (disch := omega) only [carry_chunk]
  rfl

end

/-! ## The first point of another batch row -/

section
variable (h0 : t.val % 8 = 0) (h1 : ¬t.val % 32 = 0)
include h0 h1

theorem dxC : (outsAt0 m c t.val t.isLt).1 = dxV m c t (k0_pay2 (F := Ideal)) := by
  rw [outsAt0_C m c t h0 h1]
  frame_out
  simp (disch := omega) only [↓skip_carry, ↓fill_carry, dv_chunk, ext_store_chunk, ext_store, ext_carry_chunk, dg_chunk]
  rfl

theorem dyC : (outsAt0 m c t.val t.isLt).2.1 = dyS m c t := by
  rw [outsAt0_C m c t h0 h1]
  frame_out
  rfl

theorem dhC : (outsAt0 m c t.val t.isLt).2.2.1 = View.canon (dhL m c t (k0_pay2 (F := Ideal))) := by
  rw [outsAt0_C m c t h0 h1]
  frame_out
  simp (disch := omega) only [↓skip_carry, ↓fill_carry, dv_chunk, ext_store_chunk, ext_store, ext_carry_chunk, dg_chunk, dh_store_chunk]
  rfl

theorem dfcC : (outsAt0 m c t.val t.isLt).2.2.2.1 =
    View.canon (dfcL m c t (k0_pay2 (F := Ideal)) (outsAt0 m c (t.val - 1) (by omega)).2.2.2.1 ++ []) := by
  rw [outsAt0_C m c t h0 h1]
  frame_out
  simp (disch := omega) only [↓skip_carry, ↓fill_carry, dv_chunk, ext_store_chunk, ext_store, ext_carry_chunk, dg_chunk, dconv_chunk, dbias_chunk]
  rfl

theorem dmodC : (outsAt0 m c t.val t.isLt).2.2.2.2.1 =
    View.canon (dmodL m c t (k0_pay2 (F := Ideal)) (k0_pay3 (F := Ideal)) ++ [⟨Rect.unit ![0, 0, 0] ![1, 2, 1024] inb_S1x2x1024_S1x2x1024_0_0_0, k0_pay3 (F := Ideal)⟩]) := by
  rw [outsAt0_C m c t h0 h1]
  frame_out
  simp (disch := omega) only [↓skip_carry, ↓fill_carry, dv_chunk, ext_store_chunk, ext_store, ext_carry_chunk, dg_chunk, ↓skip_dmod, ↓fill_dmod]
  rfl

theorem carryC : (outsAt0 m c t.val t.isLt).2.2.2.2.2 =
    View.canon (carryL m c t ++ [⟨Rect.unit ![0, 0, 0] ![2, 8, 1408] inb_S2x8x1408_S2x8x1408_0_0_0, k0_pay2 (F := Ideal)⟩]) := by
  rw [outsAt0_C m c t h0 h1]
  frame_out
  simp (disch := omega) only [carry_chunk]
  rfl

end

end Cert.KernelIdeal.Points
-- ==== Proof.Stores.lean ====
/- What the stores of a grid point hold: the tile's share of every result. -/
module

public import proofs.«01_k».proof.Proof.Outs

@[expose] public section

set_option maxRecDepth 16384

noncomputable section

namespace Cert.KernelIdeal.Points

open Idealize.ShloMosaic Idealize.ShloMosaic.TcCoe Idealize.SL.Sem Cert.KernelIdeal Cert.KernelIdeal.Gen Cert.Mixer Cert.KernelIdeal.Tile

variable (m : (ℓ : Loc nD τ sig) → Buf (Elt Ideal) ℓ) (c : Dev nD) (t : Fin cfg0.N)
variable (Z : Vec Ideal S2x8x1408 .f32) (D : Vec Ideal S4x2816 .f32) (M : Vec Ideal S1x2x1024 .f32)

/-- The stored gradient of `y`. -/
theorem dyS_at (r : Fin 256) (k : Fin 1024) : dyS m c t (ix3 0 r k) = dy (arr m c) (bt t) (tok (nt t) r) k :=
  (dy_store_at _ _ r k).trans (dyV_at m c t r k)

/-- The stores that cover an index decide what is there, whatever was stored before them. -/
theorem canon_app {S : Shape} {e : EltTy} (L' : List (View.Piece (Elt Ideal) S e)) (y : S.Idx) :
    ∀ (L : List (View.Piece (Elt Ideal) S e)), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_app L' y L ?_
      obtain ⟨q, hq, hyq⟩ := h
      rcases List.mem_cons.mp hq with rfl | hq'
      · exact absurd hyq hm
      · exact ⟨q, hq', hyq⟩

/-- An index of a block with one entry along the leading axis. -/
theorem eta3 {n k : ℕ} (x : (⟨3, ![1, n, k]⟩ : Shape).Idx) : ∃ (r : Fin n) (f : Fin k), x = ix3 0 r f :=
  ⟨x 1, x 2, funext fun a => by
    match a with
    | 0 => exact Subsingleton.elim (α := Fin 1) _ _
    | 1 => rfl
    | 2 => rfl⟩

/-- An index of a row. -/
theorem eta2 {k : ℕ} (x : (⟨2, ![1, k]⟩ : Shape).Idx) : ∃ f : Fin k, x = ix2 0 f :=
  ⟨x 1, funext fun a => by
    match a with
    | 0 => exact Subsingleton.elim (α := Fin 1) _ _
    | 1 => rfl⟩

/-- The rows carried to the next point: the first rows of the tile's `dgc`. -/
theorem carryL_at (L : List (View.Piece (Elt Ideal) S2x8x1408 .f32)) (j : Fin 2) (q : Fin 8) (f : Fin 1408) :
    View.canon (carryL m c t ++ L) (ix3 j q f) = dgcz (arr m c) (bt t) (256 * nt t + q) (lane (j * 1408) (by omega) f) := by
  rw [canon_app]
  · canon_tiles x h
    · obtain ⟨q', f', rfl⟩ := eta3 x
      change j.val = 1 + 0 at h0
      change q.val = q'.val at h1
      change f.val = f'.val at h2
      refine (carry_tile _ _ _ 1408 (by omega) _ (dgc1_at m c t) q' f').trans (congrArg₂ (dgcz (arr m c) (bt t)) ?_ (Fin.ext ?_))
      · rw [h1]
      · show 1408 + f'.val = j.val * 1408 + f.val
        omega
    · obtain ⟨q', f', rfl⟩ := eta3 x
      change j.val = 0 at h0
      change q.val = q'.val at h1
      change f.val = f'.val at h2
      refine (carry_tile _ _ _ 0 (by omega) _ (dgc0_at m c t) q' f').trans (congrArg₂ (dgcz (arr m c) (bt t)) ?_ (Fin.ext ?_))
      · rw [h1]
      · show 0 + f'.val = j.val * 1408 + f.val
        omega
  · match j with
    | 0 =>
      refine ⟨_, List.mem_cons_of_mem _ (List.mem_cons_self ..), ?_⟩
      refine (Rect.mem_set_unit (inb := inb_S2x8x1408_S1x8x1408_0_0_0)).mpr fun a => ?_
      match a with
      | 0 => exact ⟨Nat.le_refl 0, by show 0 < 0 + 1; omega⟩
      | 1 => exact ⟨Nat.zero_le _, by show q.val < 0 + 8; omega⟩
      | 2 => exact ⟨Nat.zero_le _, by show f.val < 0 + 1408; omega⟩
    | 1 =>
      refine ⟨_, List.mem_cons_self .., ?_⟩
      refine (Rect.mem_set_unit (inb := inb_S2x8x1408_S1x8x1408_1_0_0)).mpr fun a => ?_
      match a with
      | 0 => exact ⟨Nat.le_refl 1, by show 1 < 1 + 1; omega⟩
      | 1 => exact ⟨Nat.zero_le _, by show q.val < 0 + 8; omega⟩
      | 2 => exact ⟨Nat.zero_le _, by show f.val < 0 + 1408; omega⟩

section
-- The carried rows are the next tile's first rows of `dgc`.
variable (hZ : ∀ (j : Fin 2) (q : Fin 8) (f : Fin 1408), Z (ix3 j q f) = dgcz (arr m c) (bt t) (256 * (nt t + 1) + q) (lane (j * 1408) (by omega) f))
include hZ

/-- The stored gradient of `h`. -/
theorem dhL_at (r : Fin 256) (k : Fin 5632) : View.canon (dhL m c t Z) (ix3 0 r k) = dh (arr m c) (bt t) (tok (nt t) r) k := by
  canon_tiles x h
  · obtain ⟨r', f', rfl⟩ := eta3 x
    change r.val = r'.val at h1
    change k.val = 4224 + f'.val at h2
    refine (dh_store_at _ r' f').trans ((dg1_at m c t Z hZ r' f').trans ?_)
    rw [dh, dif_neg (by omega)]
    refine congrArg₂ (dg (arr m c) (bt t)) (by show _ = 256 * (nt t).val + r.val; rw [h1]) (Fin.ext ?_)
    show 1408 + f'.val = k.val - 2816
    omega
  · obtain ⟨r', f', rfl⟩ := eta3 x
    change r.val = r'.val at h1
    change k.val = 1408 + f'.val at h2
    refine (dh_store_at _ r' f').trans ((dv1_at m c t r' f').trans ?_)
    rw [dh, dif_pos (by omega)]
    refine congrArg₂ (dv (arr m c) (bt t)) (congrArg (tok (nt t)) (Fin.ext h1.symm)) (Fin.ext ?_)
    show 1408 + f'.val = k.val
    omega
  · obtain ⟨r', f', rfl⟩ := eta3 x
    change r.val = r'.val at h1
    change k.val = 2816 + f'.val at h2
    refine (dh_store_at _ r' f').trans ((dg0_at m c t Z hZ r' f').trans ?_)
    rw [dh, dif_neg (by omega)]
    refine congrArg₂ (dg (arr m c) (bt t)) (by show _ = 256 * (nt t).val + r.val; rw [h1]) (Fin.ext ?_)
    show 0 + f'.val = k.val - 2816
    omega
  · obtain ⟨r', f', rfl⟩ := eta3 x
    change r.val = r'.val at h1
    change k.val = f'.val at h2
    refine (dh_store_at _ r' f').trans ((dv0_at m c t r' f').trans ?_)
    rw [dh, dif_pos (by omega)]
    refine congrArg₂ (dv (arr m c) (bt t)) (congrArg (tok (nt t)) (Fin.ext h1.symm)) (Fin.ext ?_)
    show 0 + f'.val = k.val
    omega

/-- The convolution's gradient grows by the tile's share. -/
theorem dfcL_at (L : List (View.Piece (Elt Ideal) S4x2816 .f32)) (k : Fin 4) (f : Fin 2816) :
    View.canon (dfcL m c t Z D ++ L) (ix2 k f) = D (ix2 k f) + ∑ r : Fin 256, dfcTerm (arr m c) (bt t) (tok (nt t) r) k f := by
  rw [canon_app]
  · canon_tiles x h
    · obtain ⟨f', rfl⟩ := eta2 x
      obtain rfl : k = 2 := Fin.ext h0
      obtain rfl : f = lane 1408 (by decide) f' := Fin.ext (h1.trans (by show _ = 1408 + f'.val; first | rfl | exact (Nat.zero_add _).symm))
      refine (dconv_tile _ _ _ 1408 (by omega) 2 (by omega) _ _ _ (fun r f => (cast_at _ r f).trans (h_blk m c t 4224 (by omega) _ r f)) (s1_at m c t Z hZ 0 (by omega) _) f').trans (congrArg (· + _) ?_)
      exact ld2 D 2 1408 _ 0 f'
    · obtain ⟨f', rfl⟩ := eta2 x
      obtain rfl : k = 1 := Fin.ext h0
      obtain rfl : f = lane 1408 (by decide) f' := Fin.ext (h1.trans (by show _ = 1408 + f'.val; first | rfl | exact (Nat.zero_add _).symm))
      refine (dconv_tile _ _ _ 1408 (by omega) 1 (by omega) _ _ _ (fun r f => (cast_at _ r f).trans (h_blk m c t 4224 (by omega) _ r f)) (s1_at m c t Z hZ 1 (by omega) _) f').trans (congrArg (· + _) ?_)
      exact ld2 D 1 1408 _ 0 f'
    · obtain ⟨f', rfl⟩ := eta2 x
      obtain rfl : k = 0 := Fin.ext h0
      obtain rfl : f = lane 1408 (by decide) f' := Fin.ext (h1.trans (by show _ = 1408 + f'.val; first | rfl | exact (Nat.zero_add _).symm))
      refine (dconv_tile _ _ _ 1408 (by omega) 0 (by omega) _ _ _ (fun r f => (cast_at _ r f).trans (h_blk m c t 4224 (by omega) _ r f)) (s1_at m c t Z hZ 2 (by omega) _) f').trans (congrArg (· + _) ?_)
      exact ld2 D 0 1408 _ 0 f'
    · obtain ⟨f', rfl⟩ := eta2 x
      obtain rfl : k = 3 := Fin.ext h0
      obtain rfl : f = lane 1408 (by decide) f' := Fin.ext (h1.trans (by show _ = 1408 + f'.val; first | rfl | exact (Nat.zero_add _).symm))
      refine (dbias_tile _ _ _ 1408 (by omega) _ _ _ _ _ (dgc1_at m c t) f').trans (congrArg (· + _) ?_)
      exact ld2 D 3 1408 _ 0 f'
    · obtain ⟨f', rfl⟩ := eta2 x
      obtain rfl : k = 2 := Fin.ext h0
      obtain rfl : f = lane 0 (by decide) f' := Fin.ext (h1.trans (by show _ = 0 + f'.val; first | rfl | exact (Nat.zero_add _).symm))
      refine (dconv_tile _ _ _ 0 (by omega) 2 (by omega) _ _ _ (fun r f => (cast_at _ r f).trans (h_blk m c t 2816 (by omega) _ r f)) (s0_at m c t Z hZ 0 (by omega) _) f').trans (congrArg (· + _) ?_)
      exact ld2 D 2 0 _ 0 f'
    · obtain ⟨f', rfl⟩ := eta2 x
      obtain rfl : k = 1 := Fin.ext h0
      obtain rfl : f = lane 0 (by decide) f' := Fin.ext (h1.trans (by show _ = 0 + f'.val; first | rfl | exact (Nat.zero_add _).symm))
      refine (dconv_tile _ _ _ 0 (by omega) 1 (by omega) _ _ _ (fun r f => (cast_at _ r f).trans (h_blk m c t 2816 (by omega) _ r f)) (s0_at m c t Z hZ 1 (by omega) _) f').trans (congrArg (· + _) ?_)
      exact ld2 D 1 0 _ 0 f'
    · obtain ⟨f', rfl⟩ := eta2 x
      obtain rfl : k = 0 := Fin.ext h0
      obtain rfl : f = lane 0 (by decide) f' := Fin.ext (h1.trans (by show _ = 0 + f'.val; first | rfl | exact (Nat.zero_add _).symm))
      refine (dconv_tile _ _ _ 0 (by omega) 0 (by omega) _ _ _ (fun r f => (cast_at _ r f).trans (h_blk m c t 2816 (by omega) _ r f)) (s0_at m c t Z hZ 2 (by omega) _) f').trans (congrArg (· + _) ?_)
      exact ld2 D 0 0 _ 0 f'
    · obtain ⟨f', rfl⟩ := eta2 x
      obtain rfl : k = 3 := Fin.ext h0
      obtain rfl : f = lane 0 (by decide) f' := Fin.ext (h1.trans (by show _ = 0 + f'.val; first | rfl | exact (Nat.zero_add _).symm))
      refine (dbias_tile _ _ _ 0 (by omega) _ _ _ _ _ (dgc0_at m c t) f').trans (congrArg (· + _) ?_)
      exact ld2 D 3 0 _ 0 f'
  · by_cases hf : f.val < 1408
    · match k with
      | 0 =>
        refine ⟨_, List.mem_cons_of_mem _ (List.mem_cons_of_mem _ (List.mem_cons_of_mem _ (List.mem_cons_of_mem _ (List.mem_cons_of_mem _ (List.mem_cons_of_mem _ (List.mem_cons_self ..)))))), ?_⟩
        refine (Rect.mem_set_unit (inb := inb_S4x2816_S1x1408_0_0)).mpr fun a => ?_
        match a with
        | 0 => exact ⟨Nat.le_refl 0, by show 0 < 0 + 1; omega⟩
        | 1 => exact ⟨by show 0 ≤ f.val; omega, by show f.val < 0 + 1408; omega⟩
      | 1 =>
        refine ⟨_, List.mem_cons_of_mem _ (List.mem_cons_of_mem _ (List.mem_cons_of_mem _ (List.mem_cons_of_mem _ (List.mem_cons_of_mem _ (List.mem_cons_self ..))))), ?_⟩
        refine (Rect.mem_set_unit (inb := inb_S4x2816_S1x1408_1_0)).mpr fun a => ?_
        match a with
        | 0 => exact ⟨Nat.le_refl 1, by show 1 < 1 + 1; omega⟩
        | 1 => exact ⟨by show 0 ≤ f.val; omega, by show f.val < 0 + 1408; omega⟩
      | 2 =>
        refine ⟨_, List.mem_cons_of_mem _ (List.mem_cons_of_mem _ (List.mem_cons_of_mem _ (List.mem_cons_of_mem _ (List.mem_cons_self ..)))), ?_⟩
        refine (Rect.mem_set_unit (inb := inb_S4x2816_S1x1408_2_0)).mpr fun a => ?_
        match a with
        | 0 => exact ⟨Nat.le_refl 2, by show 2 < 2 + 1; omega⟩
        | 1 => exact ⟨by show 0 ≤ f.val; omega, by show f.val < 0 + 1408; omega⟩
      | 3 =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), ?_⟩
        refine (Rect.mem_set_unit (inb := inb_S4x2816_S1x1408_3_0)).mpr fun a => ?_
        match a with
        | 0 => exact ⟨Nat.le_refl 3, by show 3 < 3 + 1; omega⟩
        | 1 => exact ⟨by show 0 ≤ f.val; omega, by show f.val < 0 + 1408; omega⟩
    · match k with
      | 0 =>
        refine ⟨_, List.mem_cons_of_mem _ (List.mem_cons_of_mem _ (List.mem_cons_self ..)), ?_⟩
        refine (Rect.mem_set_unit (inb := inb_S4x2816_S1x1408_0_1408)).mpr fun a => ?_
        match a with
        | 0 => exact ⟨Nat.le_refl 0, by show 0 < 0 + 1; omega⟩
        | 1 => exact ⟨by show 1408 ≤ f.val; omega, by show f.val < 1408 + 1408; omega⟩
      | 1 =>
        refine ⟨_, List.mem_cons_of_mem _ (List.mem_cons_self ..), ?_⟩
        refine (Rect.mem_set_unit (inb := inb_S4x2816_S1x1408_1_1408)).mpr fun a => ?_
        match a with
        | 0 => exact ⟨Nat.le_refl 1, by show 1 < 1 + 1; omega⟩
        | 1 => exact ⟨by show 1408 ≤ f.val; omega, by show f.val < 1408 + 1408; omega⟩
      | 2 =>
        refine ⟨_, List.mem_cons_self .., ?_⟩
        refine (Rect.mem_set_unit (inb := inb_S4x2816_S1x1408_2_1408)).mpr fun a => ?_
        match a with
        | 0 => exact ⟨Nat.le_refl 2, by show 2 < 2 + 1; omega⟩
        | 1 => exact ⟨by show 1408 ≤ f.val; omega, by show f.val < 1408 + 1408; omega⟩
      | 3 =>
        refine ⟨_, List.mem_cons_of_mem _ (List.mem_cons_of_mem _ (List.mem_cons_of_mem _ (List.mem_cons_self ..))), ?_⟩
        refine (Rect.mem_set_unit (inb := inb_S4x2816_S1x1408_3_1408)).mpr fun a => ?_
        match a with
        | 0 => exact ⟨Nat.le_refl 3, by show 3 < 3 + 1; omega⟩
        | 1 => exact ⟨by show 1408 ≤ f.val; omega, by show f.val < 1408 + 1408; omega⟩

/-- The modulation's gradient grows by the tile's share. -/
theorem dmodL_at (L : List (View.Piece (Elt Ideal) S1x2x1024 .f32)) (k : Fin 2) (f : Fin 1024) :
    View.canon (dmodL m c t Z M ++ L) (ix3 0 k f) = M (ix3 0 k f) + ∑ r : Fin 256, dmodTerm (arr m c) (bt t) (tok (nt t) r) k f := by
  rw [canon_app]
  · canon_tiles x h
    · obtain ⟨z, f', rfl⟩ := eta3 x
      obtain rfl : k = 1 := Fin.ext (h1.trans (by show 1 + z.val = 1; omega))
      obtain rfl : f = f' := Fin.ext h2
      obtain rfl : z = 0 := Subsingleton.elim _ _
      refine (dscale_at _ _ _ f).trans (congrArg₂ (· + ·) (ld3 M 0 1 0 _ 0 0 f |>.trans ?_) (Finset.sum_congr rfl fun r _ => ?_))
      · exact congrArg (fun i => M (ix3 0 1 i)) (Fin.ext (Nat.zero_add _))
      · exact congrArg₂ (· * ·) (duV_at m c t Z hZ r f) (x_blk m c t r f)
    · obtain ⟨z, f', rfl⟩ := eta3 x
      obtain rfl : k = 0 := Fin.ext (h1.trans (by show z.val = 0; omega))
      obtain rfl : f = f' := Fin.ext h2
      obtain rfl : z = 0 := Subsingleton.elim _ _
      refine (dshift_at _ _ _ _ _ _ f).trans (congrArg₂ (· + ·) (ld3 M 0 0 0 _ 0 0 f |>.trans ?_) (Finset.sum_congr rfl fun r _ => ?_))
      · exact congrArg (fun i => M (ix3 0 0 i)) (Fin.ext (Nat.zero_add _))
      · exact duV_at m c t Z hZ r f
  · match k with
    | 0 =>
      refine ⟨_, List.mem_cons_of_mem _ (List.mem_cons_self ..), ?_⟩
      refine (Rect.mem_set_unit (inb := inb_S1x2x1024_S1x1x1024_0_0_0)).mpr fun a => ?_
      match a with
      | 0 => exact ⟨Nat.le_refl 0, by show 0 < 0 + 1; omega⟩
      | 1 => exact ⟨Nat.le_refl 0, by show 0 < 0 + 1; omega⟩
      | 2 => exact ⟨Nat.zero_le _, by show f.val < 0 + 1024; omega⟩
    | 1 =>
      refine ⟨_, List.mem_cons_self .., ?_⟩
      refine (Rect.mem_set_unit (inb := inb_S1x2x1024_S1x1x1024_0_1_0)).mpr fun a => ?_
      match a with
      | 0 => exact ⟨Nat.le_refl 0, by show 0 < 0 + 1; omega⟩
      | 1 => exact ⟨Nat.le_refl 1, by show 1 < 1 + 1; omega⟩
      | 2 => exact ⟨Nat.zero_le _, by show f.val < 0 + 1024; omega⟩

end

end Cert.KernelIdeal.Points
-- ==== Proof.Final.lean ====
/- What the region leaves in the arrays of the results: the formulas of the derivative. -/
module

public import proofs.«01_k».proof.Proof.Stores

@[expose] public section

set_option maxRecDepth 16384

noncomputable section

namespace Cert.KernelIdeal.Points

open Idealize.ShloMosaic Idealize.ShloMosaic.TcCoe Idealize.SL.Sem Cert.KernelIdeal Cert.KernelIdeal.Gen Cert.Mixer Cert.KernelIdeal.Tile

variable (m : (ℓ : Loc nD τ sig) → Buf (Elt Ideal) ℓ) (c : Dev nD)

/-! ## The carried rows -/

/-- After a point the carried rows are the first rows of its tile's `dgc`. -/
theorem carried (t : Fin cfg0.N) (j : Fin 2) (q : Fin 8) (f : Fin 1408) :
    (outsAt0 m c t.val t.isLt).2.2.2.2.2 (ix3 j q f) = dgcz (arr m c) (bt t) (256 * nt t + q) (lane (j * 1408) (by omega) f) := by
  by_cases h0 : t.val % 8 = 0
  · by_cases h1 : t.val % 32 = 0
    · rw [carryA m c t h0 h1]; exact carryL_at m c t _ j q f
    · rw [carryC m c t h0 h1]; exact carryL_at m c t _ j q f
  · rw [carryB m c t h0 (by omega)]; exact carryL_at m c t _ j q f

/-- Within a batch row the rows left by the point before are the next tile's first rows of `dgc`. -/
theorem carried_prev (t : Fin cfg0.N) (h0 : ¬t.val % 8 = 0) (j : Fin 2) (q : Fin 8) (f : Fin 1408) :
    (outsAt0 m c (t.val - 1) (by omega)).2.2.2.2.2 (ix3 j q f) = dgcz (arr m c) (bt t) (256 * (nt t + 1) + q) (lane (j * 1408) (by omega) f) := by
  refine (carried m c ⟨t.val - 1, by omega⟩ j q f).trans ?_
  refine congrArg₂ (fun b n => dgcz (arr m c) b n _) (Fin.ext ?_) ?_
  · show (t.val - 1) / 8 = t.val / 8
    omega
  · show 256 * (7 - (t.val - 1) % 8) + q.val = 256 * (7 - t.val % 8 + 1) + q.val
    omega

/-- At the last tile of a batch row nothing is carried: there is no next tile. -/
theorem carried_none (t : Fin cfg0.N) (h0 : t.val % 8 = 0) (j : Fin 2) (q : Fin 8) (f : Fin 1408) :
    k0_pay2 (F := Ideal) (ix3 j q f) = dgcz (arr m c) (bt t) (256 * (nt t + 1) + q) (lane (j * 1408) (by omega) f) := by
  rw [zero_carry, dgcz, dif_neg]
  show ¬256 * (7 - t.val % 8 + 1) + q.val < 2048
  omega

/-! ## The results written tile by tile -/

theorem dx_out (t : Fin cfg0.N) (r : Fin 256) (k : Fin 1024) :
    (outsAt0 m c t.val t.isLt).1 (ix3 0 r k) = dx (arr m c) (bt t) (tok (nt t) r) k := by
  by_cases h0 : t.val % 8 = 0
  · by_cases h1 : t.val % 32 = 0
    · rw [dxA m c t h0 h1]; exact dxV_at m c t _ (carried_none m c t h0) r k
    · rw [dxC m c t h0 h1]; exact dxV_at m c t _ (carried_none m c t h0) r k
  · rw [dxB m c t h0 (by omega)]; exact dxV_at m c t _ (carried_prev m c t h0) r k

theorem dy_out (t : Fin cfg0.N) (r : Fin 256) (k : Fin 1024) :
    (outsAt0 m c t.val t.isLt).2.1 (ix3 0 r k) = dy (arr m c) (bt t) (tok (nt t) r) k := by
  by_cases h0 : t.val % 8 = 0
  · by_cases h1 : t.val % 32 = 0
    · rw [dyA m c t h0 h1]; exact dyS_at m c t r k
    · rw [dyC m c t h0 h1]; exact dyS_at m c t r k
  · rw [dyB m c t h0 (by omega)]; exact dyS_at m c t r k

theorem dh_out (t : Fin cfg0.N) (r : Fin 256) (k : Fin 5632) :
    (outsAt0 m c t.val t.isLt).2.2.1 (ix3 0 r k) = dh (arr m c) (bt t) (tok (nt t) r) k := by
  by_cases h0 : t.val % 8 = 0
  · by_cases h1 : t.val % 32 = 0
    · rw [dhA m c t h0 h1]; exact dhL_at m c t _ (carried_none m c t h0) r k
    · rw [dhC m c t h0 h1]; exact dhL_at m c t _ (carried_none m c t h0) r k
  · rw [dhB m c t h0 (by omega)]; exact dhL_at m c t _ (carried_prev m c t h0) r k

/-- The gradient of the input. -/
theorem final_dx : (dats m 0 c).arrAt 9 cfg0.N = fun i : S4x2048x1024.Idx => dx (arr m c) (i 0) (i 1) (i 2) := by
  refine (dats m 0 c).arrAt_eq_of_covers 9 _ (by decide +kernel) fun t hf y => ?_
  blk_simp
  rw [after0_9]
  obtain ⟨r, k, rfl⟩ := eta3 y
  refine (dx_out m c t r k).trans ?_
  exact congrArg (fun i : S4x2048x1024.Idx => dx (arr m c) (i 0) (i 1) (i 2))
    (show ix3 (bt t) (tok (nt t) r) k = _ by blk_ext [idx t])

/-- The gradient of `y`. -/
theorem final_dy : (dats m 0 c).arrAt 10 cfg0.N = fun i : S4x2048x1024.Idx => dy (arr m c) (i 0) (i 1) (i 2) := by
  refine (dats m 0 c).arrAt_eq_of_covers 10 _ (by decide +kernel) fun t hf y => ?_
  blk_simp
  rw [after0_10]
  obtain ⟨r, k, rfl⟩ := eta3 y
  refine (dy_out m c t r k).trans ?_
  exact congrArg (fun i : S4x2048x1024.Idx => dy (arr m c) (i 0) (i 1) (i 2))
    (show ix3 (bt t) (tok (nt t) r) k = _ by blk_ext [idx t])

/-- The gradient of `h`. -/
theorem final_dh : (dats m 0 c).arrAt 11 cfg0.N = fun i : S4x2048x5632.Idx => dh (arr m c) (i 0) (i 1) (i 2) := by
  refine (dats m 0 c).arrAt_eq_of_covers 11 _ (by decide +kernel) fun t hf y => ?_
  blk_simp
  rw [after0_11]
  obtain ⟨r, k, rfl⟩ := eta3 y
  refine (dh_out m c t r k).trans ?_
  exact congrArg (fun i : S4x2048x5632.Idx => dh (arr m c) (i 0) (i 1) (i 2))
    (show ix3 (bt t) (tok (nt t) r) k = _ by blk_ext [idx t])

/-! ## The accumulated results -/

/-- A sum over the tiles, the last first, and over the rows of each is the sum over the tokens. -/
theorem sum_tiles (g : Fin 2048 → EReal) : ∑ j ∈ Finset.range 8, ∑ r : Fin 256, g (tok ⟨7 - j % 8, by omega⟩ r) = ∑ t, g t := by
  rw [← Equiv.sum_comp (finProdFinEquiv : Fin 8 × Fin 256 ≃ Fin 2048), Fintype.sum_prod_type, ← Equiv.sum_comp Fin.revPerm, Finset.sum_range]
  refine Finset.sum_congr rfl fun j _ => Finset.sum_congr rfl fun r _ => congrArg g (Fin.ext ?_)
  show 256 * (7 - j.val % 8) + r.val = r.val + 256 * (8 - (j.val + 1))
  omega

/-- The same over the batch rows. -/
theorem sum_points (g : Fin 4 → Fin 2048 → EReal) :
    ∑ n ∈ Finset.range 32, ∑ r : Fin 256, g ⟨n / 8 % 4, by omega⟩ (tok ⟨7 - n % 8, by omega⟩ r) = ∑ b, ∑ t, g b t := by
  rw [Finset.sum_range, ← Equiv.sum_comp (finProdFinEquiv : Fin 4 × Fin 8 ≃ Fin 32), Fintype.sum_prod_type]
  refine Finset.sum_congr rfl fun b _ => ?_
  rw [← sum_tiles, Finset.sum_range]
  refine Finset.sum_congr rfl fun j _ => Finset.sum_congr rfl fun r _ => ?_
  refine congrArg₂ g (Fin.ext ?_) (congrArg (tok · r) (Fin.ext ?_))
  · show (j.val + 8 * b.val) / 8 % 4 = b.val
    omega
  · show 7 - (j.val + 8 * b.val) % 8 = 7 - j.val % 8
    omega

/-- After a point the convolution's gradient is the sum of the shares of the points up to it. -/
theorem dfc_out (t : Fin cfg0.N) (i : Fin 4 × Fin 2816) :
    (outsAt0 m c t.val t.isLt).2.2.2.1 (ix2 i.1 i.2) =
      0 + ∑ n ∈ Finset.range (t.val % 32 + 1), ∑ r : Fin 256, dfcTerm (arr m c) ⟨(32 * (t.val / 32) + n) / 8 % 4, by omega⟩
        (tok ⟨7 - (32 * (t.val / 32) + n) % 8, by omega⟩ r) i.1 i.2 := by
  refine Pipeline.eq_sum_of_reset_step_apply (fun n hn (i : Fin 4 × Fin 2816) => (outsAt0 m c n hn).2.2.2.1 (ix2 i.1 i.2)) 32 (fun _ => (0 : EReal))
    (fun n i => ∑ r : Fin 256, dfcTerm (arr m c) ⟨n / 8 % 4, by omega⟩ (tok ⟨7 - n % 8, by omega⟩ r) i.1 i.2) (fun t h1 i => ?_) (fun t h1 i => ?_) t i
  · have e : bt t = ⟨t.val / 8 % 4, by omega⟩ := Fin.ext (by have := (idx t).1; show t.val / 8 = t.val / 8 % 4; omega)
    rw [dfcA m c t (by omega) h1]
    refine (dfcL_at m c t _ _ (carried_none m c t (by omega)) _ i.1 i.2).trans ?_
    rw [zero_dfc, e]
  · have e : bt t = ⟨t.val / 8 % 4, by omega⟩ := Fin.ext (by have := (idx t).1; show t.val / 8 = t.val / 8 % 4; omega)
    by_cases h0 : t.val % 8 = 0
    · rw [dfcC m c t h0 h1]
      refine (dfcL_at m c t _ _ (carried_none m c t h0) _ i.1 i.2).trans ?_
      rw [e]
    · rw [dfcB m c t h0 h1]
      refine (dfcL_at m c t _ _ (carried_prev m c t h0) _ i.1 i.2).trans ?_
      rw [e]

/-- After a point the modulation's gradient is the sum of the shares of the points of its batch row up to it. -/
theorem dmod_out (t : Fin cfg0.N) (i : Fin 2 × Fin 1024) :
    (outsAt0 m c t.val t.isLt).2.2.2.2.1 (ix3 0 i.1 i.2) =
      0 + ∑ n ∈ Finset.range (t.val % 8 + 1), ∑ r : Fin 256, dmodTerm (arr m c) ⟨(8 * (t.val / 8) + n) / 8 % 4, by omega⟩
        (tok ⟨7 - (8 * (t.val / 8) + n) % 8, by omega⟩ r) i.1 i.2 := by
  refine Pipeline.eq_sum_of_reset_step_apply (fun n hn (i : Fin 2 × Fin 1024) => (outsAt0 m c n hn).2.2.2.2.1 (ix3 0 i.1 i.2)) 8 (fun _ => (0 : EReal))
    (fun n i => ∑ r : Fin 256, dmodTerm (arr m c) ⟨n / 8 % 4, by omega⟩ (tok ⟨7 - n % 8, by omega⟩ r) i.1 i.2) (fun t h0 i => ?_) (fun t h0 i => ?_) t i
  · have e : bt t = ⟨t.val / 8 % 4, by omega⟩ := Fin.ext (by have := (idx t).1; show t.val / 8 = t.val / 8 % 4; omega)
    by_cases h1 : t.val % 32 = 0
    · rw [dmodA m c t h0 h1]
      refine (dmodL_at m c t _ _ (carried_none m c t h0) _ i.1 i.2).trans ?_
      rw [zero_dmod, e]
    · rw [dmodC m c t h0 h1]
      refine (dmodL_at m c t _ _ (carried_none m c t h0) _ i.1 i.2).trans ?_
      rw [zero_dmod, e]
  · have e : bt t = ⟨t.val / 8 % 4, by omega⟩ := Fin.ext (by have := (idx t).1; show t.val / 8 = t.val / 8 % 4; omega)
    rw [dmodB m c t h0 (by omega)]
    refine (dmodL_at m c t _ _ (carried_prev m c t h0) _ i.1 i.2).trans ?_
    rw [e]

/-- The convolution's gradient, over all points. -/
theorem final_dfc : (dats m 0 c).arrAt 12 cfg0.N = fun i : S4x2816.Idx => dfc (arr m c) (i 0) (i 1) := by
  refine (dats m 0 c).arrAt_eq_of_covers 12 _ (by decide +kernel) fun t hf y => ?_
  have ht : t.val % 32 = 31 := (flush0_12 t).mp hf
  have hl : t.val < 32 := (idx t).1
  blk_simp
  rw [after0_12]
  obtain ⟨k, f, rfl⟩ : ∃ (k : Fin 4) (f : Fin 2816), y = ix2 k f := ⟨y 0, y 1, funext fun a => by
    match a with
    | 0 => rfl
    | 1 => rfl⟩
  refine (dfc_out m c t (k, f)).trans ?_
  refine Eq.trans ?_ (congrArg (fun i : S4x2816.Idx => dfc (arr m c) (i 0) (i 1)) (show ix2 k f = _ by blk_ext [idx t]))
  rw [zero_add, ht]
  refine Eq.trans ?_ (sum_points fun b s => dfcTerm (arr m c) b s k f)
  refine Finset.sum_congr rfl fun n hn => Finset.sum_congr rfl fun r _ => ?_
  refine congrArg₂ (fun b s => dfcTerm (arr m c) b s k f) (Fin.ext ?_) (congrArg (tok · r) (Fin.ext ?_))
  · show (32 * (t.val / 32) + n) / 8 % 4 = n / 8 % 4
    omega
  · show 7 - (32 * (t.val / 32) + n) % 8 = 7 - n % 8
    omega

/-- The modulation's gradient, over the points of each batch row. -/
theorem final_dmod : (dats m 0 c).arrAt 13 cfg0.N = fun i : S4x2x1024.Idx => dmod (arr m c) (i 0) (i 1) (i 2) := by
  refine (dats m 0 c).arrAt_eq_of_covers 13 _ (by decide +kernel) fun t hf y => ?_
  have ht : t.val % 8 = 7 := (flush0_13 t).mp hf
  have hl : t.val < 32 := (idx t).1
  blk_simp
  rw [after0_13]
  obtain ⟨k, f, rfl⟩ := eta3 y
  refine (dmod_out m c t (k, f)).trans ?_
  refine Eq.trans ?_ (congrArg (fun i : S4x2x1024.Idx => dmod (arr m c) (i 0) (i 1) (i 2)) (show ix3 (bt t) k f = _ by blk_ext [idx t]))
  rw [zero_add, ht]
  refine Eq.trans ?_ (sum_tiles fun s => dmodTerm (arr m c) (bt t) s k f)
  refine Finset.sum_congr rfl fun n hn => Finset.sum_congr rfl fun r _ => ?_
  have hn' : n < 8 := Finset.mem_range.mp hn
  refine congrArg₂ (fun b s => dmodTerm (arr m c) b s k f) (Fin.ext ?_) (congrArg (tok · r) (Fin.ext ?_))
  · show (8 * (t.val / 8) + n) / 8 % 4 = t.val / 8
    omega
  · show 7 - (8 * (t.val / 8) + n) % 8 = 7 - n % 8
    omega

end Cert.KernelIdeal.Points
-- ==== Proof.Pre.lean ====
/- What the precondition gives: the entries of five arguments are real numbers, and so is the gradient reaching the gate. -/
module

public import proofs.«01_k».proof.Defs
public import proofs.«01_k».proof.Proof.Ref
public import proofs.«01_k».proof.Proof.Entry
public import Idealize.ShloMosaic.Lib.KernelVsHost

@[expose] public section

set_option maxRecDepth 16384

noncomputable section

namespace Cert.Pre_finite

open Idealize.ShloMosaic

/-- The side conditions of the precondition's broadcasts. -/
theorem facts : Facts where
  bcast_S_S4x2048x1024 := by decide
  bcast_S_S4x6144 := by decide
  bcast_S_S1x1024x5632 := by decide
  bcast_S_S1x2816x1024 := by decide

end Cert.Pre_finite

namespace Cert.Mixer

open Idealize.ShloMosaic

/-- An extended real that is a real number. -/
def Real (x : EReal) : Prop := ∃ r : ℝ, x = r

/-- Sums, products and finite sums of real numbers are real numbers. -/
theorem Real.add {x y : EReal} : Real x → Real y → Real (x + y) := by
  rintro ⟨a, rfl⟩ ⟨b, rfl⟩; exact ⟨a + b, (EReal.coe_add a b).symm⟩

/-- A product of real numbers is a real number. -/
theorem Real.mul {x y : EReal} : Real x → Real y → Real (x * y) := by
  rintro ⟨a, rfl⟩ ⟨b, rfl⟩; exact ⟨a * b, (EReal.coe_mul a b).symm⟩

/-- One is a real number. -/
theorem Real.one : Real 1 := ⟨1, EReal.coe_one.symm⟩

/-- A finite sum of real numbers is a real number. -/
theorem Real.sum {n : ℕ} (f : Fin n → EReal) (h : ∀ i, Real (f i)) : Real (∑ i, f i) := by
  choose g hg using h
  refine ⟨∑ i, g i, ?_⟩
  simp only [hg]
  exact (map_sum (⟨⟨(↑), EReal.coe_zero⟩, EReal.coe_add⟩ : ℝ →+ EReal) g _).symm

/-- An entry whose absolute value compares below the infinity is a real number. -/
theorem Real.of_cmp (x : Ideal .f32)
    (h : FloatOps.cmpf .olt (FloatOps.hostAbsf x) (FloatOps.ofBits (F := Ideal) .f32 0x7F800000#32) = 1#1) : Real x := by
  rw [← Ideal.xori_weird_eq_hostAbsf_olt_inf] at h
  have h' : IntOp.xori (BitVec.ofBool (decide ((x : EReal) = ⊤ ∨ (x : EReal) = ⊥))) 1#1 = 1#1 := h
  have hn : ¬ ((x : EReal) = ⊤ ∨ (x : EReal) = ⊥) := fun hx => by simp [hx, IntOp.xori] at h'
  push Not at hn
  exact ⟨(x : EReal).toReal, (EReal.coe_toReal hn.1 hn.2).symm⟩

end Cert.Mixer

namespace Cert.ReferenceIdeal.Mixer

open Cert.ReferenceIdeal Cert.ReferenceIdeal.Gen Cert.ReferenceIdeal.Read Cert.Mixer
open Idealize.ShloMosaic Idealize.ShloMosaic.TcCoe Idealize.SL.Sem

variable (x0 : FVec Ideal S4x2048x1024 .f32) (x1 : FVec Ideal S4x6144 .f32) (x2 : FVec Ideal S1x1024x5632 .f32)
  (x3 : FVec Ideal S1x3x2816 .f32) (x4 : FVec Ideal S1x2816 .f32) (x5 : FVec Ideal S1x2816x1024 .f32)
  (x6 : FVec Ideal S4x2048x1024 .f32)

/-- Where the input, the modulation and `w_up` are real numbers, so is `h`. -/
theorem v19_real (h0 : ∀ i, Real (x0 i)) (h1 : ∀ i, Real (x1 i)) (h2 : ∀ i, Real (x2 i)) (i : S4x2048x5632.Idx) :
    Real (val_main_v19 (F := Ideal) x0 x1 x2 i) := by
  obtain ⟨b, t, f, rfl⟩ : ∃ b t f, i = ix3 b t f := ⟨i 0, i 1, i 2, funext fun a => by
    match a with
    | 0 => rfl
    | 1 => rfl
    | 2 => rfl⟩
  unfold val_main_v19
  pointwise [val_main_v18, val_main_v17, val_main_v16, val_main_v15, val_main_v14, val_main_v13, val_main_v12, val_main_v10, val_main_v9, val_main_v4,
    val_main_v3, val_main_cst]
  exact Real.sum _ fun c => ((h0 _).mul (Real.one.add (h1 _)) |>.add (h1 _)).mul (h2 _)

/-- Where the modulation, `w_down` and the cotangent are real numbers, so is the gradient of the gated product. -/
theorem df_real (h1 : ∀ i, Real (x1 i)) (h5 : ∀ i, Real (x5 i)) (h6 : ∀ i, Real (x6 i)) (b : Fin 4) (t : Fin 2048) (f : Fin 2816) :
    Real (df (arrays x0 x1 x2 x3 x4 x5 x6) b t f) :=
  Real.sum _ fun _ => ((Real.one.add (h1 _)).mul (h6 _)).mul (h5 _)

/-- Where five arguments are real numbers the reference's gradient of the convolution's output is the formula. -/
theorem v77_real (h0 : ∀ i, Real (x0 i)) (h1 : ∀ i, Real (x1 i)) (h2 : ∀ i, Real (x2 i)) (h5 : ∀ i, Real (x5 i)) (h6 : ∀ i, Real (x6 i))
    (b : Fin 4) (t : Fin 2048) (f : Fin 2816) :
    val_main_v77 (F := Ideal) x0 x1 x2 x3 x4 x5 x6 (ix3 b t f) = dgc (arrays x0 x1 x2 x3 x4 x5 x6) b t f :=
  v77_at x0 x1 x2 x3 x4 x5 x6 (fun b t f => (df_real x0 x1 x2 x3 x4 x5 x6 h1 h5 h6 b t f).mul (v19_real x0 x1 x2 h0 h1 h2 _)) b t f

end Cert.ReferenceIdeal.Mixer

namespace Cert.KernelIdeal.Points

open Idealize.ShloMosaic Idealize.ShloMosaic.TcCoe Idealize.SL.Sem Cert.KernelIdeal Cert.KernelIdeal.Gen Cert.Mixer

/-- Under the precondition the reference's gradient of the convolution's output, at the kernel's arguments, is the formula. -/
theorem v77_pre (m : (ℓ : Loc nD τ sig) → Buf (Elt Ideal) ℓ) (hm : Cert.Pre_KernelIdeal_finite (hPre_finite := Cert.Pre_finite.facts) m) (c : Dev nD)
    (b : Fin 4) (t : Fin 2048) (f : Fin 2816) :
    Cert.ReferenceIdeal.Read.val_main_v77 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix3 b t f)
      = dgc (arr m c) b t f := by
  obtain ⟨h0, h1, h2, h5, h6⟩ := hm c
  exact Cert.ReferenceIdeal.Mixer.v77_real _ _ _ _ _ _ _ (fun i => Real.of_cmp _ (congrFun h0 i)) (fun i => Real.of_cmp _ (congrFun h1 i))
    (fun i => Real.of_cmp _ (congrFun h2 i)) (fun i => Real.of_cmp _ (congrFun h5 i)) (fun i => Real.of_cmp _ (congrFun h6 i)) b t f

end Cert.KernelIdeal.Points

end
-- ==== Proof.Equal.lean ====
/- The reference's five results, whole, are the formulas of `Spec` at any arguments equal to its own; and the two runs end with
   the same numbers. -/
module

public import proofs.«01_k».proof.Proof.Gen.ReferenceIdeal.Run
public import proofs.«01_k».proof.Proof.Final
public import proofs.«01_k».proof.Proof.Pre

@[expose] public section

set_option maxRecDepth 16384

noncomputable section

namespace Cert.ReferenceIdeal.Mixer

open Cert.ReferenceIdeal Cert.ReferenceIdeal.Gen Cert.ReferenceIdeal.Read Cert.Mixer
open Idealize.ShloMosaic Idealize.ShloMosaic.TcCoe Idealize.SL.Sem

/-- An index of a rank-3 array is its three coordinates. -/
theorem ix3_eta {n0 n1 n2 : ℕ} (i : (⟨3, ![n0, n1, n2]⟩ : Shape).Idx) : i = ix3 (i 0) (i 1) (i 2) := funext fun a => by
  match a with
  | 0 => rfl
  | 1 => rfl
  | 2 => rfl

/-- An index of a rank-2 array is its two coordinates. -/
theorem ix2_eta {n0 n1 : ℕ} (i : (⟨2, ![n0, n1]⟩ : Shape).Idx) : i = ix2 (i 0) (i 1) := funext fun a => by
  match a with
  | 0 => rfl
  | 1 => rfl

variable {x0 y0 : FVec Ideal S4x2048x1024 .f32} {x1 y1 : FVec Ideal S4x6144 .f32} {x2 y2 : FVec Ideal S1x1024x5632 .f32}
  {x3 y3 : FVec Ideal S1x3x2816 .f32} {x4 y4 : FVec Ideal S1x2816 .f32} {x5 y5 : FVec Ideal S1x2816x1024 .f32}
  {x6 y6 : FVec Ideal S4x2048x1024 .f32} (e0 : x0 = y0) (e1 : x1 = y1) (e2 : x2 = y2) (e3 : x3 = y3) (e4 : x4 = y4) (e5 : x5 = y5) (e6 : x6 = y6)

variable (h77 : ∀ (b : Fin 4) (t : Fin 2048) (f : Fin 2816), val_main_v77 (F := Ideal) y0 y1 y2 y3 y4 y5 y6 (ix3 b t f) = dgc (arrays y0 y1 y2 y3 y4 y5 y6) b t f)
include e0 e1 e2 e3 e4 e5 e6 h77

/-- The gradient of the input. -/
theorem v125_eq : val_main_v125 (F := Ideal) x0 x1 x2 x3 x4 x5 x6 = fun i => dx (arrays y0 y1 y2 y3 y4 y5 y6) (i 0) (i 1) (i 2) := by
  subst e0 e1 e2 e3 e4 e5 e6
  funext i
  exact (congrArg _ (ix3_eta i)).trans (v125_at x0 x1 x2 x3 x4 x5 x6 h77 _ _ _)

/-- The gradient of `y`. -/
theorem v126_eq : val_main_v126 (F := Ideal) x1 x6 = fun i => dy (arrays y0 y1 y2 y3 y4 y5 y6) (i 0) (i 1) (i 2) := by
  subst e0 e1 e2 e3 e4 e5 e6
  funext i
  exact (congrArg _ (ix3_eta i)).trans (v126_at x0 x1 x2 x3 x4 x5 x6 h77 _ _ _)

/-- The gradient of `h`. -/
theorem v127_eq : val_main_v127 (F := Ideal) x0 x1 x2 x3 x4 x5 x6 = fun i => dh (arrays y0 y1 y2 y3 y4 y5 y6) (i 0) (i 1) (i 2) := by
  subst e0 e1 e2 e3 e4 e5 e6
  funext i
  exact (congrArg _ (ix3_eta i)).trans (v127_at x0 x1 x2 x3 x4 x5 x6 h77 _ _ _)

/-- The gradient of the convolution. -/
theorem v129_eq : val_main_v129 (F := Ideal) x0 x1 x2 x3 x4 x5 x6 = fun i => dfc (arrays y0 y1 y2 y3 y4 y5 y6) (i 0) (i 1) := by
  subst e0 e1 e2 e3 e4 e5 e6
  funext i
  exact (congrArg _ (ix2_eta i)).trans (v129_at x0 x1 x2 x3 x4 x5 x6 h77 _ _)

/-- The gradient of the shift and the scale. -/
theorem v130_eq : val_main_v130 (F := Ideal) x0 x1 x2 x3 x4 x5 x6 = fun i => dmod (arrays y0 y1 y2 y3 y4 y5 y6) (i 0) (i 1) (i 2) := by
  subst e0 e1 e2 e3 e4 e5 e6
  funext i
  exact (congrArg _ (ix3_eta i)).trans (v130_at x0 x1 x2 x3 x4 x5 x6 h77 _ _ _)

end Cert.ReferenceIdeal.Mixer

end
-- ==== Proof.Up.lean ====
/- The gradient of the up projection's weight: the kernel's call, which sums over tiles of 2048 tokens, and the reference's product
   over the batch and all tokens hold the same sums. -/
module

public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.TwoAxisContraction

@[expose] public section

set_option maxRecDepth 16384

noncomputable section

namespace Cert.Up

open Idealize.ShloMosaic

variable (x : FVec Ideal ⟨3, ![4, 2048, 1024]⟩ .f32) (mod : FVec Ideal ⟨2, ![4, 6144]⟩ .f32) (dh : FVec Ideal ⟨3, ![4, 2048, 5632]⟩ .bf16)

/-- The modulated input: `x * (1 + sc) + sh`. -/
def u (b : Fin 4) (t : Fin 2048) (k : Fin 1024) : EReal :=
  x (ix3 b t k) * (1 + mod (ix2 b ⟨4096 + k, by omega⟩)) + mod (ix2 b ⟨3072 + k, by omega⟩)

/-- The gradient of `w_up`, its columns in four blocks of 1408: the sum over the tokens of `u * dh`. -/
def gw (j : Fin 4) (k : Fin 1024) (f : Fin 1408) : EReal :=
  ∑ b : Fin 4, ∑ t : Fin 2048, u x mod b t k * dh (ix3 b t ⟨j * 1408 + f, by omega⟩)

/-- An index of a rank-3 array is its three coordinates. -/
theorem eta {n0 n1 n2 : ℕ} (i : (⟨3, ![n0, n1, n2]⟩ : Shape).Idx) : i = ix3 (i 0) (i 1) (i 2) := funext fun a => by
  match a with
  | 0 => rfl
  | 1 => rfl
  | 2 => rfl

end Cert.Up

namespace Cert.Reference2Ideal.Up

open Cert.Reference2Ideal Cert.Reference2Ideal.Gen Cert.Reference2Ideal.Read Cert.Up
open Idealize.ShloMosaic Idealize.ShloMosaic.TcCoe Idealize.SL.Sem
open Idealize.ShloMosaic.ValueIdx (contrEquiv2 contrEquiv2_symm_val0 contrEquiv2_symm_val1)

variable (x0 : FVec Ideal S4x2048x1024 .f32) (x1 : FVec Ideal S4x6144 .f32) (x2 : FVec Ideal S4x2048x5632 .bf16)

/-- The reference's modulated input. -/
theorem v18_at (b : Fin 4) (t : Fin 2048) (k : Fin 1024) : val_main_v18 (F := Ideal) x0 x1 (ix3 b t k) = u x0 x1 b t k := by
  unfold u
  pointwise [val_main_v18, val_main_v16, val_main_v17, val_main_v15, val_main_v14, val_main_v13, val_main_cst_0, val_main_v10, val_main_v9, val_main_v4, val_main_v3]

/-- A product contracting the batch and the tokens of both operands, read at an index. -/
theorem dot_at (l : FVec Ideal S4x2048x5632 .f32) (r : FVec Ideal S4x2048x1024 .f32) (f : Fin 5632) (k : Fin 1024) :
    Host.dotGeneral (F := Ideal) dot_S4x2048x5632_S4x2048x1024_S5632x1024_01_01_2_2_n_n none l r (ix2 f k) =
      ∑ b : Fin 4, ∑ t : Fin 2048, l (ix3 b t f) * r (ix3 b t k) := by
  let D := dot_S4x2048x5632_S4x2048x1024_S5632x1024_01_01_2_2_n_n
  refine (Ideal.dotGeneral_apply ..).trans ?_
  rw [← Equiv.sum_comp (contrEquiv2 D 4 2048 rfl rfl rfl).symm, Fintype.sum_prod_type]
  refine Finset.sum_congr rfl fun b _ => Finset.sum_congr rfl fun t _ => ?_
  have h0 := contrEquiv2_symm_val0 D 4 2048 rfl rfl rfl (b, t)
  have h1 := contrEquiv2_symm_val1 D 4 2048 rfl rfl rfl (b, t)
  have el : D.lhsIdx (ix2 f k) ((contrEquiv2 D 4 2048 rfl rfl rfl).symm (b, t)) = ix3 b t f := by
    funext a; apply Fin.ext
    match a with
    | ⟨0, _⟩ => exact h0
    | ⟨1, _⟩ => exact h1
    | ⟨2, _⟩ => rfl
  have er : D.rhsIdx (ix2 f k) ((contrEquiv2 D 4 2048 rfl rfl rfl).symm (b, t)) = ix3 b t k := by
    funext a; apply Fin.ext
    match a with
    | ⟨0, _⟩ => exact h0
    | ⟨1, _⟩ => exact h1
    | ⟨2, _⟩ => rfl
  rw [el, er]

/-- The reference's product over the batch and the tokens. -/
theorem v21_at (f : Fin 5632) (k : Fin 1024) :
    val_main_v21 (F := Ideal) x0 x1 x2 (ix2 f k) = ∑ b : Fin 4, ∑ t : Fin 2048, u x0 x1 b t k * x2 (ix3 b t f) := by
  unfold val_main_v21
  rw [dot_at]
  refine Finset.sum_congr rfl fun b _ => Finset.sum_congr rfl fun t _ => ?_
  rw [v18_at, mul_comm]
  refine congrArg (u x0 x1 b t k * ·) ?_
  pointwise [val_main_v20]

/-- The reference's result. -/
theorem v24_at (j : Fin 4) (k : Fin 1024) (f : Fin 1408) : val_main_v24 (F := Ideal) x0 x1 x2 (ix3 j k f) = gw x0 x1 x2 j k f := by
  unfold gw
  pointwise [val_main_v24, val_main_v23, val_main_v22, v21_at]

/-- The same for the whole array, from arguments equal to the kernel's. -/
theorem result_eq {x0 y0 : FVec Ideal S4x2048x1024 .f32} {x1 y1 : FVec Ideal S4x6144 .f32} {x2 y2 : FVec Ideal S4x2048x5632 .bf16}
    (e0 : x0 = y0) (e1 : x1 = y1) (e2 : x2 = y2) : val_main_v24 (F := Ideal) x0 x1 x2 = fun i => gw y0 y1 y2 (i 0) (i 1) (i 2) := by
  subst e0 e1 e2
  funext i
  exact (congrArg _ (eta i)).trans (v24_at x0 x1 x2 _ _ _)

end Cert.Reference2Ideal.Up

namespace Cert.Kernel2Ideal.Up

open Idealize.ShloMosaic Idealize.ShloMosaic.TcCoe Idealize.SL.Sem Cert.Kernel2Ideal Cert.Kernel2Ideal.Gen Cert.Up

/-- The fill with zeros. -/
theorem zero_at (i : S1x1024x1408.Idx) : k0_pay1 (F := Ideal) i = 0 := by pointwise [k0_pay1]

/-- A point adds its tile's product. -/
theorem step_at (acc : Vec Ideal S1x1024x1408 .f32) (a : Vec Ideal S2048x1024 .bf16) (b : Vec Ideal S2048x1408 .bf16) (k : Fin 1024) (f : Fin 1408) :
    k0_pay2 (F := Ideal) acc a b (ix3 0 k f) = acc (ix3 0 k f) + ∑ t : Fin 2048, a (ix2 t k) * b (ix2 t f) := by
  pointwise [k0_pay2]

variable (m : (ℓ : Loc nD τ sig) → Buf (Elt Ideal) ℓ) (c : Dev nD)

/-- The call's arguments: the input, the modulation and the gradient of `h`. -/
abbrev ax : FVec Ideal S4x2048x1024 .f32 := m ((c : Thread nD τ).loc main_arg0)
abbrev amod : FVec Ideal S4x6144 .f32 := m ((c : Thread nD τ).loc main_arg1)
abbrev adh : FVec Ideal S4x2048x5632 .bf16 := m ((c : Thread nD τ).loc main_arg2)

/-- The host's modulated input, its batch and tokens on one axis. -/
theorem u_at (b : Fin 4) (t : Fin 2048) (k : Fin 1024) : V m c main_v11 (ix2 ⟨b * 2048 + t, by omega⟩ k) = u (ax m c) (amod m c) b t k := by
  entry_read
  unfold u
  pointwise

theorem dh_at (b : Fin 4) (t : Fin 2048) (k : Fin 5632) : V m c main_v12 (ix2 ⟨b * 2048 + t, by omega⟩ k) = adh m c (ix3 b t k) := by
  entry_read
  pointwise

/-- Where the blocks lie: four points a block of columns, one for each sequence. -/
theorem idx : ∀ t : Fin cfg0.N, t.val < 16 ∧ win0_0.index t = ![t.val % 4, 0] ∧ win0_1.index t = ![t.val % 4, t.val / 4] ∧ win0_2.index t = ![t.val / 4, 0, 0] :=
  (by decide +kernel : ∀ t : Fin grid0.N, _)

variable (t : Fin cfg0.N)

/-- The sequence of a point and its block of columns. -/
abbrev bt : Fin 4 := ⟨t.val % 4, by omega⟩
abbrev jt : Fin 4 := ⟨t.val / 4, by have := (idx t).1; omega⟩

theorem u_blk (r : Fin 2048) (k : Fin 1024) : iblk m c 0 t (ix2 r k) = u (ax m c) (amod m c) (bt t) r k := by
  rw [← u_at]
  blk_ext [iblk, idx t]

theorem dh_blk (r : Fin 2048) (f : Fin 1408) : iblk m c 1 t (ix2 r f) = adh m c (ix3 (bt t) r ⟨jt t * 1408 + f, by omega⟩) := by
  rw [← dh_at]
  blk_ext [iblk, idx t]

/-- A point's share of a block of the gradient. -/
def term (n : ℕ) (i : Fin 1024 × Fin 1408) : EReal :=
  ∑ r : Fin 2048, u (ax m c) (amod m c) ⟨n % 4, by omega⟩ r i.1 * adh m c (ix3 ⟨n % 4, by omega⟩ r ⟨n / 4 % 4 * 1408 + i.2, by omega⟩)

/-- A point adds its share. -/
theorem step (acc : Vec Ideal S1x1024x1408 .f32) (i : Fin 1024 × Fin 1408) :
    k0_pay2 (F := Ideal) acc (iblk m c 0 t) (iblk m c 1 t) (ix3 0 i.1 i.2) = acc (ix3 0 i.1 i.2) + term m c t.val i := by
  refine (step_at _ _ _ i.1 i.2).trans (congrArg (acc (ix3 0 i.1 i.2) + ·) (Finset.sum_congr rfl fun r _ => ?_))
  rw [u_blk, dh_blk]
  refine congrArg (u (ax m c) (amod m c) (bt t) r i.1 * ·) (congrArg (fun l => adh m c (ix3 (bt t) r l)) (Fin.ext ?_))
  show t.val / 4 * 1408 + i.2.val = t.val / 4 % 4 * 1408 + i.2.val
  have := (idx t).1
  omega

/-- After a point its block holds the shares of the sequences up to it. -/
theorem out (i : Fin 1024 × Fin 1408) :
    outsAt0 m c t.val t.isLt (ix3 0 i.1 i.2) = 0 + ∑ n ∈ Finset.range (t.val % 4 + 1), term m c (4 * (t.val / 4) + n) i := by
  refine Pipeline.eq_sum_of_reset_step_apply (fun n hn (i : Fin 1024 × Fin 1408) => outsAt0 m c n hn (ix3 0 i.1 i.2)) 4 (fun _ => (0 : EReal))
    (term m c) (fun t h i => ?_) (fun t h i => ?_) t i
  · rw [outsAt0_A m c t h, Value.out_A_2_eq]
    rw [step, zero_at]
  · rw [outsAt0_B m c t h, Value.out_B_2_eq]
    rw [step]

/-- The kernel's result. -/
theorem final : (dats m 0 c).arrAt 2 cfg0.N = fun i : S4x1024x1408.Idx => gw (ax m c) (amod m c) (adh m c) (i 0) (i 1) (i 2) := by
  refine (dats m 0 c).arrAt_eq_of_covers 2 _ (by decide +kernel) fun t hf y => ?_
  have ht : t.val % 4 = 3 := (flush0_2 t).mp hf
  have hl : t.val < 16 := (idx t).1
  blk_simp
  rw [after0_2]
  obtain ⟨k, f, rfl⟩ : ∃ (k : Fin 1024) (f : Fin 1408), y = ix3 0 k f := ⟨y 1, y 2, funext fun a => by
    match a with
    | 0 => exact Subsingleton.elim (α := Fin 1) _ _
    | 1 => rfl
    | 2 => rfl⟩
  refine (out m c t (k, f)).trans ?_
  refine Eq.trans ?_ (congrArg (fun i : S4x1024x1408.Idx => gw (ax m c) (amod m c) (adh m c) (i 0) (i 1) (i 2)) (show ix3 (jt t) k f = _ by blk_ext [idx t]))
  rw [zero_add, ht, Finset.sum_range]
  refine Finset.sum_congr rfl fun b _ => Finset.sum_congr rfl fun r _ => ?_
  have e : (⟨(4 * (t.val / 4) + b.val) % 4, by omega⟩ : Fin 4) = b := Fin.ext (by show (4 * (t.val / 4) + b.val) % 4 = b.val; omega)
  have e' : (⟨(4 * (t.val / 4) + b.val) / 4 % 4 * 1408 + f.val, by omega⟩ : Fin 5632) = ⟨jt t * 1408 + f, by omega⟩ :=
    Fin.ext (by show (4 * (t.val / 4) + b.val) / 4 % 4 * 1408 + f.val = t.val / 4 * 1408 + f.val; omega)
  show u _ _ ⟨(4 * (t.val / 4) + b.val) % 4, _⟩ r k * adh m c (ix3 ⟨(4 * (t.val / 4) + b.val) % 4, _⟩ r ⟨(4 * (t.val / 4) + b.val) / 4 % 4 * 1408 + f.val, _⟩) = _
  rw [e, e']
  rfl

end Cert.Kernel2Ideal.Up

end
-- ==== Proof.Ada.lean ====
/- The backward call of the modulation with its optimiser step: the gradient of `w_ada` is the transposed `silu(c)` times the
   modulation's gradient, then AdamW's formulas entry by entry, in the kernel's tiles of 512 columns and in the reference alike. -/
module

public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit

@[expose] public section

set_option maxRecDepth 16384

noncomputable section

namespace Cert.Ada

open Idealize.ShloMosaic

/-- The first moment after a step: `b1 * m + (1 - b1) * g`. -/
def newM (g m : EReal) : EReal := Ideal.ofBits .f32 0x3F666666#32 * m + Ideal.ofBits .f32 0x3DCCCCCD#32 * g

/-- The second moment after a step: `b2 * v + (1 - b2) * g²`. -/
def newV (g v : EReal) : EReal := Ideal.ofBits .f32 0x3F7FBE77#32 * v + Ideal.ofBits .f32 0x3A83126F#32 * (g * g)

/-- The step: minus the rate times the corrected first moment over the root of the corrected second one, and the decay. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32) +
      Ideal.ofBits .f32 0x3C23D70A#32 * w)

variable (x : FVec Ideal ⟨2, ![64, 1024]⟩ .f32) (d : FVec Ideal ⟨2, ![64, 1536]⟩ .f32)

/-- The gradient of `w_ada`: the sum over the batch of `silu(c)` times the modulation's gradient. -/
def gw (k : Fin 1024) (f : Fin 1536) : EReal :=
  ∑ b : Fin 64, x (ix2 b k) * Ideal.logistic (x (ix2 b k)) * d (ix2 b f)

/-- An index of a rank-2 array is its two coordinates. -/
theorem eta {n0 n1 : ℕ} (i : (⟨2, ![n0, n1]⟩ : Shape).Idx) : i = ix2 (i 0) (i 1) := funext fun a => by
  match a with
  | 0 => rfl
  | 1 => rfl

end Cert.Ada

namespace Cert.Reference4Ideal.Ada

open Cert.Reference4Ideal Cert.Reference4Ideal.Gen Cert.Reference4Ideal.Read Cert.Ada
open Idealize.ShloMosaic Idealize.ShloMosaic.TcCoe Idealize.SL.Sem

variable (x0 : FVec Ideal S64x1024 .f32) (x1 : FVec Ideal S64x1536 .f32) (x2 x3 x4 : FVec Ideal S1024x1536 .f32)

/-- The reference's `silu`. -/
theorem v0_at (b : Fin 64) (k : Fin 1024) : val_main_v0 (F := Ideal) x0 (ix2 b k) = x0 (ix2 b k) * Ideal.logistic (x0 (ix2 b k)) := by
  unfold Ideal.logistic
  pointwise [val_main_v0, val_main_call0_v5, val_main_call0_v4, val_main_call0_v3, val_main_call0_v2, val_main_call0_v1, val_main_call0_v0, val_main_call0_cst, val_main_call0_cst_0]

/-- The reference's gradient. -/
theorem v3_at (k : Fin 1024) (f : Fin 1536) : val_main_v3 (F := Ideal) x0 x1 (ix2 k f) = gw x0 x1 k f := by
  unfold gw
  pointwise [val_main_v3, val_main_v2, v0_at]
  exact Finset.sum_congr rfl fun _ _ => mul_comm _ _

/-- The reference's moments. -/
theorem v8_at (k : Fin 1024) (f : Fin 1536) : val_main_v8 (F := Ideal) x0 x1 x3 (ix2 k f) = newM (gw x0 x1 k f) (x3 (ix2 k f)) := by
  unfold newM
  pointwise [val_main_v8, val_main_v5, val_main_v7, val_main_v4, val_main_v6, val_main_cst, val_main_cst_0, v3_at]

theorem v14_at (k : Fin 1024) (f : Fin 1536) : val_main_v14 (F := Ideal) x0 x1 x4 (ix2 k f) = newV (gw x0 x1 k f) (x4 (ix2 k f)) := by
  unfold newV
  pointwise [val_main_v14, val_main_v10, val_main_v13, val_main_v9, val_main_v12, val_main_v11, val_main_cst_1, val_main_cst_2, v3_at]

/-- The reference's step. -/
theorem v27_at (k : Fin 1024) (f : Fin 1536) :
    val_main_v27 (F := Ideal) x0 x1 x2 x3 x4 (ix2 k f) = delta (gw x0 x1 k f) (x2 (ix2 k f)) (x3 (ix2 k f)) (x4 (ix2 k f)) := by
  unfold delta
  pointwise [val_main_v27, val_main_v26, val_main_v25, val_main_v22, val_main_v24, val_main_v16, val_main_v21, val_main_v19, val_main_v18, val_main_v20,
    val_main_v15, val_main_v17, val_main_v23, val_main_cst_3, val_main_cst_4, val_main_cst_5, val_main_cst_6, val_main_cst_7, v8_at, v14_at]

section

variable {x0 y0 : FVec Ideal S64x1024 .f32} {x1 y1 : FVec Ideal S64x1536 .f32} {x2 y2 x3 y3 x4 y4 : FVec Ideal S1024x1536 .f32}
  (e0 : x0 = y0) (e1 : x1 = y1) (e2 : x2 = y2) (e3 : x3 = y3) (e4 : x4 = y4)
include e0 e1

/-- The same for the whole arrays, from arguments equal to the kernel's. -/
theorem v3_eq : val_main_v3 (F := Ideal) x0 x1 = fun i => gw y0 y1 (i 0) (i 1) := by
  subst e0 e1
  funext i
  exact (congrArg _ (eta i)).trans (v3_at x0 x1 _ _)

include e3 in
theorem v8_eq : val_main_v8 (F := Ideal) x0 x1 x3 = fun i => newM (gw y0 y1 (i 0) (i 1)) (y3 i) := by
  subst e0 e1 e3
  funext i
  exact ((congrArg _ (eta i)).trans (v8_at x0 x1 x3 _ _)).trans (congrArg (fun j => newM (gw x0 x1 (i 0) (i 1)) (x3 j)) (eta i).symm)

include e4 in
theorem v14_eq : val_main_v14 (F := Ideal) x0 x1 x4 = fun i => newV (gw y0 y1 (i 0) (i 1)) (y4 i) := by
  subst e0 e1 e4
  funext i
  exact ((congrArg _ (eta i)).trans (v14_at x0 x1 x4 _ _)).trans (congrArg (fun j => newV (gw x0 x1 (i 0) (i 1)) (x4 j)) (eta i).symm)

include e2 e3 e4 in
theorem v27_eq : val_main_v27 (F := Ideal) x0 x1 x2 x3 x4 = fun i => delta (gw y0 y1 (i 0) (i 1)) (y2 i) (y3 i) (y4 i) := by
  subst e0 e1 e2 e3 e4
  funext i
  exact ((congrArg _ (eta i)).trans (v27_at x0 x1 x2 x3 x4 _ _)).trans
    (congrArg (fun j => delta (gw x0 x1 (i 0) (i 1)) (x2 j) (x3 j) (x4 j)) (eta i).symm)

end

end Cert.Reference4Ideal.Ada

namespace Cert.Kernel4Ideal.Ada

open Idealize.ShloMosaic Idealize.ShloMosaic.TcCoe Idealize.SL.Sem Cert.Kernel4Ideal Cert.Kernel4Ideal.Gen Cert.Ada

/-- A tile's gradient. -/
theorem grad_at (a : Vec Ideal S64x1024 .f32) (b : Vec Ideal S64x512 .f32) (k : Fin 1024) (f : Fin 512) :
    k0_pay1 (F := Ideal) a b (ix2 k f) = ∑ n : Fin 64, a (ix2 n k) * Ideal.logistic (a (ix2 n k)) * b (ix2 n f) := by
  pointwise [k0_pay1]

/-- A tile's moments. -/
theorem newM_at (a : Vec Ideal S64x1024 .f32) (b : Vec Ideal S64x512 .f32) (m : Vec Ideal S1024x512 .f32) (k : Fin 1024) (f : Fin 512) :
    k0_pay2 (F := Ideal) a b m (ix2 k f) = newM (k0_pay1 (F := Ideal) a b (ix2 k f)) (m (ix2 k f)) := by
  unfold k0_pay2
  generalize k0_pay1 (F := Ideal) a b = g
  unfold newM
  pointwise

theorem newV_at (a : Vec Ideal S64x1024 .f32) (b : Vec Ideal S64x512 .f32) (v : Vec Ideal S1024x512 .f32) (k : Fin 1024) (f : Fin 512) :
    k0_pay3 (F := Ideal) a b v (ix2 k f) = newV (k0_pay1 (F := Ideal) a b (ix2 k f)) (v (ix2 k f)) := by
  unfold k0_pay3
  generalize k0_pay1 (F := Ideal) a b = g
  unfold newV
  pointwise

/-- A tile's step. -/
theorem delta_at (a : Vec Ideal S64x1024 .f32) (b : Vec Ideal S64x512 .f32) (w m v : Vec Ideal S1024x512 .f32) (k : Fin 1024) (f : Fin 512) :
    k0_pay4 (F := Ideal) a b w m v (ix2 k f) = delta (k0_pay1 (F := Ideal) a b (ix2 k f)) (w (ix2 k f)) (m (ix2 k f)) (v (ix2 k f)) := by
  unfold delta
  rw [← newM_at, ← newV_at]
  unfold k0_pay4
  generalize k0_pay2 (F := Ideal) a b m = m'
  generalize k0_pay3 (F := Ideal) a b v = v'
  pointwise

variable (m : (ℓ : Loc nD τ sig) → Buf (Elt Ideal) ℓ) (c : Dev nD)

/-- The call's arguments: `c`, the modulation's gradient, `w_ada` and its moments. -/
abbrev ac : FVec Ideal S64x1024 .f32 := m ((c : Thread nD τ).loc main_arg0)
abbrev ad : FVec Ideal S64x1536 .f32 := m ((c : Thread nD τ).loc main_arg1)
abbrev aw : FVec Ideal S1024x1536 .f32 := m ((c : Thread nD τ).loc main_arg2)
abbrev am : FVec Ideal S1024x1536 .f32 := m ((c : Thread nD τ).loc main_arg3)
abbrev av : FVec Ideal S1024x1536 .f32 := m ((c : Thread nD τ).loc main_arg4)

/-- Where the blocks lie: 512 columns a point. -/
theorem idx : ∀ t : Fin cfg0.N, t.val < 3 ∧ win0_0.index t = ![0, 0] ∧ win0_1.index t = ![0, t.val] ∧ win0_2.index t = ![0, t.val] ∧
    win0_3.index t = ![0, t.val] ∧ win0_4.index t = ![0, t.val] ∧ win0_5.index t = ![0, t.val] ∧ win0_6.index t = ![0, t.val] ∧
    win0_7.index t = ![0, t.val] ∧ win0_8.index t = ![0, t.val] :=
  (by decide +kernel : ∀ t : Fin grid0.N, _)

variable (t : Fin cfg0.N)

/-- A column of a point's tile. -/
abbrev col (f : Fin 512) : Fin 1536 := ⟨t.val * 512 + f, by have := (idx t).1; omega⟩

theorem c_blk (b : Fin 64) (k : Fin 1024) : iblk m c 0 t (ix2 b k) = ac m c (ix2 b k) := by
  blk_ext [iblk, V, idx t]

theorem d_blk (b : Fin 64) (f : Fin 512) : iblk m c 1 t (ix2 b f) = ad m c (ix2 b (col t f)) := by
  blk_ext [iblk, V, idx t]

theorem w_blk (k : Fin 1024) (f : Fin 512) : iblk m c 2 t (ix2 k f) = aw m c (ix2 k (col t f)) := by
  blk_ext [iblk, V, idx t]

theorem m_blk (k : Fin 1024) (f : Fin 512) : iblk m c 3 t (ix2 k f) = am m c (ix2 k (col t f)) := by
  blk_ext [iblk, V, idx t]

theorem v_blk (k : Fin 1024) (f : Fin 512) : iblk m c 4 t (ix2 k f) = av m c (ix2 k (col t f)) := by
  blk_ext [iblk, V, idx t]

/-- A point's gradient is the tile's columns of the whole one. -/
theorem g_tile (k : Fin 1024) (f : Fin 512) : k0_pay1 (F := Ideal) (iblk m c 0 t) (iblk m c 1 t) (ix2 k f) = gw (ac m c) (ad m c) k (col t f) := by
  rw [grad_at]
  refine Finset.sum_congr rfl fun b _ => ?_
  rw [c_blk, d_blk]

/-- A point's step and moments are the whole ones' at the tile's columns. -/
theorem delta_tile (k : Fin 1024) (f : Fin 512) :
    k0_pay4 (F := Ideal) (iblk m c 0 t) (iblk m c 1 t) (iblk m c 2 t) (iblk m c 3 t) (iblk m c 4 t) (ix2 k f) =
      delta (gw (ac m c) (ad m c) k (col t f)) (aw m c (ix2 k (col t f))) (am m c (ix2 k (col t f))) (av m c (ix2 k (col t f))) := by
  rw [delta_at, g_tile, w_blk, m_blk, v_blk]

theorem newM_tile (k : Fin 1024) (f : Fin 512) : k0_pay2 (F := Ideal) (iblk m c 0 t) (iblk m c 1 t) (iblk m c 3 t) (ix2 k f) =
    newM (gw (ac m c) (ad m c) k (col t f)) (am m c (ix2 k (col t f))) := by
  rw [newM_at, g_tile, m_blk]

theorem newV_tile (k : Fin 1024) (f : Fin 512) : k0_pay3 (F := Ideal) (iblk m c 0 t) (iblk m c 1 t) (iblk m c 4 t) (ix2 k f) =
    newV (gw (ac m c) (ad m c) k (col t f)) (av m c (ix2 k (col t f))) := by
  rw [newV_at, g_tile, v_blk]

/-- The kernel's gradient. -/
theorem final_g : (dats m 0 c).arrAt 5 cfg0.N = fun i : S1024x1536.Idx => gw (ac m c) (ad m c) (i 0) (i 1) := by
  refine (dats m 0 c).arrAt_eq_of_covers 5 _ (by decide +kernel) fun t hf y => ?_
  blk_simp
  rw [after0_5, eta y]
  refine Eq.trans ?_ (congrArg (fun i : S1024x1536.Idx => gw (ac m c) (ad m c) (i 0) (i 1)) (show ix2 (y 0) (col t (y 1)) = _ by blk_ext [idx t]))
  unfold out0_5
  frame_out
  exact g_tile m c t _ _

/-- The kernel's step. -/
theorem final_delta : (dats m 0 c).arrAt 6 cfg0.N = fun i : S1024x1536.Idx => delta (gw (ac m c) (ad m c) (i 0) (i 1)) (aw m c i) (am m c i) (av m c i) := by
  refine (dats m 0 c).arrAt_eq_of_covers 6 _ (by decide +kernel) fun t hf y => ?_
  blk_simp
  rw [after0_6, eta y]
  refine Eq.trans ?_ (congrArg (fun i : S1024x1536.Idx => delta (gw (ac m c) (ad m c) (i 0) (i 1)) (aw m c i) (am m c i) (av m c i))
    (show ix2 (y 0) (col t (y 1)) = _ by blk_ext [idx t]))
  unfold out0_6
  frame_out
  exact delta_tile m c t _ _

/-- The kernel's moments. -/
theorem final_m : (dats m 0 c).arrAt 7 cfg0.N = fun i : S1024x1536.Idx => newM (gw (ac m c) (ad m c) (i 0) (i 1)) (am m c i) := by
  refine (dats m 0 c).arrAt_eq_of_covers 7 _ (by decide +kernel) fun t hf y => ?_
  blk_simp
  rw [after0_7, eta y]
  refine Eq.trans ?_ (congrArg (fun i : S1024x1536.Idx => newM (gw (ac m c) (ad m c) (i 0) (i 1)) (am m c i)) (show ix2 (y 0) (col t (y 1)) = _ by blk_ext [idx t]))
  unfold out0_7
  frame_out
  exact newM_tile m c t _ _

theorem final_v : (dats m 0 c).arrAt 8 cfg0.N = fun i : S1024x1536.Idx => newV (gw (ac m c) (ad m c) (i 0) (i 1)) (av m c i) := by
  refine (dats m 0 c).arrAt_eq_of_covers 8 _ (by decide +kernel) fun t hf y => ?_
  blk_simp
  rw [after0_8, eta y]
  refine Eq.trans ?_ (congrArg (fun i : S1024x1536.Idx => newV (gw (ac m c) (ad m c) (i 0) (i 1)) (av m c i)) (show ix2 (y 0) (col t (y 1)) = _ by blk_ext [idx t]))
  unfold out0_8
  frame_out
  exact newV_tile m c t _ _

end Cert.Kernel4Ideal.Ada

end
-- ==== Proof.FwdSpec.lean ====
/- The forward channel mixer, its norm and the loss as formulas over arrays: what each result holds at an index. -/
module

public import proofs.«01_k».proof.Proof.Spec

@[expose] public section

set_option maxRecDepth 16384

noncomputable section

namespace Cert.Fwd

open Idealize.ShloMosaic Cert.Mixer

/-- The arrays the forward pass is made of. -/
structure Arr where
  x : FVec Ideal ⟨3, ![4, 2048, 1024]⟩ .f32
  mod : FVec Ideal ⟨2, ![4, 6144]⟩ .f32
  wup : FVec Ideal ⟨3, ![1, 1024, 5632]⟩ .f32
  cw : FVec Ideal ⟨3, ![1, 3, 2816]⟩ .f32
  cb : FVec Ideal ⟨2, ![1, 2816]⟩ .f32
  wdn : FVec Ideal ⟨3, ![1, 2816, 1024]⟩ .f32
  g2 : FVec Ideal ⟨2, ![1, 1024]⟩ .f32
  b2 : FVec Ideal ⟨2, ![1, 1024]⟩ .f32
  tg : FVec Ideal ⟨3, ![4, 2048, 1024]⟩ .f32

/-- The weight of the residual. -/
def alpha : EReal := Ideal.ofBits .f32 0x3F9837F0#32
/-- The width as a number. -/
def width : EReal := Ideal.ofBits .f32 0x44800000#32
/-- What the norm adds to the variance. -/
def eps : EReal := Ideal.ofBits .f32 0x3727C5AC#32
/-- One over the width. -/
def unit : EReal := Ideal.ofBits .f32 0x3A800000#32

variable (A : Arr) (b : Fin 4) (t : Fin 2048)

/-- The modulated input. -/
def u (c : Fin 1024) : EReal := A.x (ix3 b t c) * (1 + A.mod (ix2 b ⟨4096 + c, by omega⟩)) + A.mod (ix2 b ⟨3072 + c, by omega⟩)

/-- The up projection. -/
def h (f : Fin 5632) : EReal := ∑ c : Fin 1024, u A b t c * A.wup (ix3 0 c f)

/-- The gate half of the up projection with two rows of zeros in front. -/
def gp (k : ℕ) (f : Fin 2816) : EReal :=
  if hk : 2 ≤ k ∧ k < 2050 then h A b ⟨k - 2, by omega⟩ ⟨2816 + f, by omega⟩ else 0

/-- The convolution over the gate half. -/
def gc (f : Fin 2816) : EReal :=
  A.cb (ix2 0 f) + A.cw (ix3 0 2 f) * gp A b (t + 2) f + A.cw (ix3 0 1 f) * gp A b (t + 1) f + A.cw (ix3 0 0 f) * gp A b t f

/-- The gated product. -/
def fv (f : Fin 2816) : EReal := gate (gc A b t f) * h A b t ⟨f, by omega⟩

/-- The down projection. -/
def y (c : Fin 1024) : EReal := ∑ f : Fin 2816, fv A b t f * A.wdn (ix3 0 f c)

/-- The argument of the norm. -/
def z (c : Fin 1024) : EReal := alpha * A.x (ix3 b t c) + (1 + A.mod (ix2 b ⟨5120 + c, by omega⟩)) * y A b t c

/-- The argument less its mean. -/
def zc (c : Fin 1024) : EReal := z A b t c - Ideal.div (∑ k, z A b t k) width

/-- The reciprocal deviation. -/
def rs : EReal := Ideal.rsqrt (Ideal.div (∑ k, zc A b t k * zc A b t k) width + eps)

/-- The normalized row. -/
def nr (c : Fin 1024) : EReal := zc A b t c * rs A b t

/-- The error against the target. -/
def er (c : Fin 1024) : EReal := nr A b t c * A.g2 (ix2 0 c) + A.b2 (ix2 0 c) - A.tg (ix3 b t c)

/-- The gradient at the norm's result. -/
def dout (c : Fin 1024) : EReal := er A b t c * unit

/-- The gradient at the normalized row. -/
def dn (c : Fin 1024) : EReal := dout A b t c * A.g2 (ix2 0 c)

/-- The gradient at the norm's argument. -/
def dz (c : Fin 1024) : EReal :=
  rs A b t * (dn A b t c - Ideal.div (∑ k, dn A b t k) width - nr A b t c * Ideal.div (∑ k, dn A b t k * nr A b t k) width)

/-- A token's squared error. -/
def se : EReal := ∑ c : Fin 1024, er A b t c * er A b t c

/-- A token's shares of the gradients of the norm's weight and bias. -/
def dln (j : Fin 2) (c : Fin 1024) : EReal := if j.val = 0 then dout A b t c * nr A b t c else dout A b t c

end Cert.Fwd

end
-- ==== Proof.FwdRef.lean ====
/- The forward reference's values read at an index: they are the formulas. -/
module

public import proofs.«01_k».proof.Proof.Gen.Reference3Ideal.Read
public import proofs.«01_k».proof.Proof.FwdSpec
public import Idealize.ShloMosaic.Lib.Pipeline.ValueKit
public import Idealize.ShloMosaic.Lib.IdealHost

@[expose] public section

set_option maxRecDepth 16384

noncomputable section

namespace Cert.Reference3Ideal.Fwd

open Cert.Reference3Ideal Cert.Reference3Ideal.Gen Cert.Reference3Ideal.Read Cert.Fwd
open Idealize.ShloMosaic Idealize.ShloMosaic.TcCoe Idealize.SL.Sem

variable (A : Arr) (b : Fin 4) (t : Fin 2048)

/-- The modulated input. -/
theorem v24_at (c : Fin 1024) : val_main_v24 (F := Ideal) A.x A.mod (ix3 b t c) = u A b t c := by
  unfold u
  pointwise [val_main_v24, val_main_v23, val_main_v22, val_main_v21, val_main_v20, val_main_v19, val_main_cst_0, val_main_v10, val_main_v9, val_main_v4, val_main_v3]

/-- The up projection. -/
theorem v25_at (f : Fin 5632) : val_main_v25 (F := Ideal) A.x A.mod A.wup (ix3 b t f) = h A b t f := by
  unfold val_main_v25 h
  pointwise [val_main_v18, v24_at A]

/-- The gate half with two rows of zeros in front. -/
theorem v31_at (k : Fin 2050) (f : Fin 2816) : val_main_v31 (F := Ideal) A.x A.mod A.wup (ix3 b k f) = gp A b k f := by
  unfold val_main_v31 gp
  pointwise [val_main_v30, val_main_cst_1, val_main_v27, v25_at A]
  split
  · rw [dif_neg (by omega)]
  · rw [dif_pos (by omega)]

/-- Four terms summed from the other end. -/
theorem four (a b c d : EReal) : a + b + c + d = d + c + b + a := by ac_rfl

/-- The convolution. -/
theorem v56_at (f : Fin 2816) : val_main_v56 (F := Ideal) A.x A.mod A.wup A.cw A.cb (ix3 b t f) = gc A b t f := by
  unfold gc
  pointwise [val_main_v56, val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_cst_2, val_main_v37, val_main_v36, val_main_v35,
    val_main_v34, val_main_v33, val_main_v32, val_main_v29, val_main_v28, v31_at A]
  simp only [zero_add, add_comm 1, add_comm 2]
  exact four _ _ _ _

/-- The same values under the names the reference gives them where it computes them again. -/
theorem v60_at (f : Fin 2816) : val_main_v60 (F := Ideal) A.x A.mod A.wup (ix3 b t f) = h A b t ⟨f, by omega⟩ := by
  pointwise [val_main_v60, v25_at A]

@[inherit_doc v60_at] theorem v88_eq : val_main_v88 (F := Ideal) A.x A.mod A.wup A.cw A.cb = val_main_v56 (F := Ideal) A.x A.mod A.wup A.cw A.cb := rfl

/-- The gated product. -/
theorem v90_at (f : Fin 2816) : val_main_v90 (F := Ideal) A.x A.mod A.wup A.cw A.cb (ix3 b t f) = fv A b t f := by
  unfold fv Cert.Mixer.gate Ideal.logistic
  pointwise [val_main_v90, val_main_v89, val_main_call0_v5, val_main_call0_v4, val_main_call0_cst_0, val_main_call0_v3, val_main_call0_v2, val_main_call0_cst, val_main_call0_v1,
    val_main_call0_v0, v88_eq A, v56_at A, v60_at A]

/-- The gated product as the reference returns it. -/
theorem v181_at (f : Fin 2816) : val_main_v181 (F := Ideal) A.x A.mod A.wup A.cw A.cb (ix3 b t f) = fv A b t f := by
  unfold fv Cert.Mixer.gate Ideal.logistic
  pointwise [val_main_v181, val_main_v180, val_main_v179, val_main_call1_v5, val_main_call1_v4, val_main_call1_cst_0, val_main_call1_v3, val_main_call1_v2, val_main_call1_cst, val_main_call1_v1,
    val_main_call1_v0, v56_at A, val_main_v26, v25_at A]

/-- The down projection. -/
theorem v91_at (c : Fin 1024) : val_main_v91 (F := Ideal) A.x A.mod A.wup A.cw A.cb A.wdn (ix3 b t c) = y A b t c := by
  unfold val_main_v91 y
  pointwise [val_main_v59, v90_at A]

/-- The argument of the norm. -/
theorem v98_at (c : Fin 1024) : val_main_v98 (F := Ideal) A.x A.mod A.wup A.cw A.cb A.wdn (ix3 b t c) = z A b t c := by
  unfold z alpha
  pointwise [val_main_v98, val_main_v97, val_main_v96, val_main_v95, val_main_v94, val_main_cst_6, val_main_v93, val_main_v92, val_main_cst_5, val_main_v11, val_main_v5, v91_at A]

/-- The argument less its mean. -/
theorem v106_at (c : Fin 1024) : val_main_v106 (F := Ideal) A.x A.mod A.wup A.cw A.cb A.wdn (ix3 b t c) = zc A b t c := by
  unfold zc width
  pointwise [val_main_v106, val_main_v105, val_main_v104, val_main_v103, val_main_cst_8, val_main_v102, val_main_v101, val_main_cst_7, v98_at A]

@[inherit_doc v60_at] theorem v115_eq :
    val_main_v115 (F := Ideal) A.x A.mod A.wup A.cw A.cb A.wdn = val_main_v106 (F := Ideal) A.x A.mod A.wup A.cw A.cb A.wdn := rfl

/-- The variance and what the norm adds to it. -/
theorem v117_at : val_main_v117 (F := Ideal) A.x A.mod A.wup A.cw A.cb A.wdn (ix3 b t 0) = Ideal.div (∑ k, zc A b t k * zc A b t k) width + eps := by
  unfold eps width
  pointwise [val_main_v117, val_main_v116, val_main_cst_12, val_main_v113, val_main_v112, val_main_cst_11, val_main_v111, val_main_v110, val_main_cst_10, val_main_v107, v106_at A]

/-- The reciprocal deviation. -/
theorem v118_at : val_main_v118 (F := Ideal) A.x A.mod A.wup A.cw A.cb A.wdn (ix3 b t 0) = rs A b t := by
  unfold rs
  pointwise [val_main_v118, v117_at A]

/-- The normalized row. -/
theorem v123_at (c : Fin 1024) : val_main_v123 (F := Ideal) A.x A.mod A.wup A.cw A.cb A.wdn (ix3 b t c) = nr A b t c := by
  unfold nr
  pointwise [val_main_v123, v115_eq A, v106_at A, val_main_v122, v118_at A]

/-- The error against the target. -/
theorem v130_at (c : Fin 1024) : val_main_v130 (F := Ideal) A.x A.mod A.wup A.cw A.cb A.wdn A.g2 A.b2 A.tg (ix3 b t c) = er A b t c := by
  unfold er
  pointwise [val_main_v130, val_main_v129, val_main_v128, val_main_v127, val_main_v100, val_main_v126, val_main_v125, val_main_v124, val_main_v99, v123_at A]

end Cert.Reference3Ideal.Fwd

end
-- ==== Proof.FwdReal.lean ====
/- Where the norm's weight and bias and the target are real numbers, the norm's gradient as a chain of derivatives is the closed
   form: in a row of real numbers by algebra, in a row with an infinity because both are zero. -/
module

public import proofs.«01_k».proof.Proof.FwdSpec
public import proofs.«01_k».proof.Proof.Pre

@[expose] public section

set_option maxRecDepth 16384

noncomputable section

namespace Cert.Mixer

open Idealize.ShloMosaic

/-- A difference of real numbers is a real number. -/
theorem Real.sub {x y : EReal} : Real x → Real y → Real (x - y) := by
  rintro ⟨a, rfl⟩ ⟨b, rfl⟩; exact ⟨a - b, (EReal.coe_sub a b).symm⟩

end Cert.Mixer

namespace Cert.Fwd

open Idealize.ShloMosaic Cert.Mixer

/-- The constants as numbers. -/
theorem width_eq : width = ((1024 : ℝ) : EReal) := by
  simp [width, Ideal.ofBits, Ideal.ieee, -EReal.coe_mul]; norm_num

@[inherit_doc width_eq] theorem eps_eq : eps = ((10995116 / 1099511627776 : ℝ) : EReal) := by
  simp [eps, Ideal.ofBits, Ideal.ieee, -EReal.coe_mul]; norm_num

@[inherit_doc width_eq] theorem unit_eq : unit = ((1 / 1024 : ℝ) : EReal) := by
  simp [unit, Ideal.ofBits, Ideal.ieee, -EReal.coe_mul]; norm_num

@[inherit_doc width_eq] theorem two_eq : Ideal.ofBits .f32 0x40000000#32 = ((2 : ℝ) : EReal) := by
  simp [Ideal.ofBits, Ideal.ieee, -EReal.coe_mul]; norm_num

@[inherit_doc width_eq] theorem half_eq : Ideal.ofBits .f32 0x3F000000#32 = ((1 / 2 : ℝ) : EReal) := by
  simp [Ideal.ofBits, Ideal.ieee, -EReal.coe_mul]; norm_num

@[inherit_doc width_eq] theorem neg_half_eq : Ideal.ofBits .f32 0xBF000000#32 = ((-(1 / 2) : ℝ) : EReal) := by
  simp [Ideal.ofBits, Ideal.ieee, -EReal.coe_mul, -EReal.coe_neg]; norm_num

@[inherit_doc width_eq] theorem rows_eq : Ideal.ofBits .f32 0x45000000#32 = ((2048 : ℝ) : EReal) := by
  simp [Ideal.ofBits, Ideal.ieee, -EReal.coe_mul]; norm_num

/-- A real number over the width. -/
theorem div_width (x : ℝ) : Ideal.div (x : EReal) width = ((x / 1024 : ℝ) : EReal) := by
  rw [width_eq, Ideal.div_coe (by norm_num), ← EReal.coe_mul, mul_one_div]

/-- A finite sum of real numbers, as a sum of extended reals. -/
theorem coe_sum {n : ℕ} (f : Fin n → ℝ) : (∑ i, (f i : EReal)) = ((∑ i, f i : ℝ) : EReal) :=
  (map_sum (⟨⟨(↑), EReal.coe_zero⟩, EReal.coe_add⟩ : ℝ →+ EReal) f _).symm

/-- An extended real that isn't a real number is an infinity. -/
theorem infinite {x : EReal} (hx : ¬Real x) : x = ⊥ ∨ x = ⊤ := by
  induction x with
  | bot => exact Or.inl rfl
  | top => exact Or.inr rfl
  | coe r => exact absurd ⟨r, rfl⟩ hx

/-- A term of a real sum is real. -/
theorem term_real {x y : EReal} (hs : Real (x + y)) : Real x := by
  by_contra hx
  obtain ⟨r, hr⟩ := hs
  rcases infinite hx with rfl | rfl
  · rw [EReal.bot_add] at hr
    exact EReal.bot_ne_coe r hr
  · by_cases hy : y = ⊥
    · rw [hy, EReal.add_bot] at hr
      exact EReal.bot_ne_coe r hr
    · rw [EReal.top_add_of_ne_bot hy] at hr
      exact EReal.coe_ne_top r hr.symm

/-- The weight and the bias of the norm and the target are made of real numbers. -/
structure Reals (A : Arr) : Prop where
  g2 : ∀ i, Real (A.g2 i)
  b2 : ∀ i, Real (A.b2 i)
  tg : ∀ i, Real (A.tg i)

variable {A : Arr} (b : Fin 4) (t : Fin 2048)

/-- Where the sum of the norm's argument is real: its argument less its mean is real numbers that sum to zero, with a positive variance. -/
theorem row_real (hs : Real (∑ k, z A b t k)) : ∃ (w : Fin 1024 → ℝ) (q : ℝ), 0 < q ∧ (∑ k, w k) = 0 ∧ (∀ k, zc A b t k = w k) ∧
    Ideal.div (∑ k, zc A b t k * zc A b t k) width + eps = q := by
  have hv : ∀ k, Real (z A b t k) := fun k => by
    rw [← Finset.add_sum_erase _ _ (Finset.mem_univ k)] at hs
    exact term_real hs
  choose v hv using hv
  have hz : ∀ k, zc A b t k = ((v k - (∑ j, v j) / 1024 : ℝ) : EReal) := fun k => by
    rw [zc, funext hv, coe_sum, div_width, ← EReal.coe_sub]
  refine ⟨_, (∑ k, (v k - (∑ j, v j) / 1024) * (v k - (∑ j, v j) / 1024)) / 1024 + 10995116 / 1099511627776, ?_, ?_, hz, ?_⟩
  · exact add_pos_of_nonneg_of_pos (div_nonneg (Finset.sum_nonneg fun _ _ => mul_self_nonneg _) (by norm_num)) (by norm_num)
  · rw [Finset.sum_sub_distrib, Finset.sum_const, Finset.card_univ, Fintype.card_fin, nsmul_eq_mul]
    push_cast
    ring
  · simp only [hz, ← EReal.coe_mul, coe_sum, div_width, eps_eq, ← EReal.coe_add]

/-- Where it is not, the variance is infinite. -/
theorem row_top (hs : ¬Real (∑ k, z A b t k)) : Ideal.div (∑ k, zc A b t k * zc A b t k) width + eps = ⊤ := by
  have hw : (0 : EReal) < ((1 / 1024 : ℝ) : EReal) := by exact_mod_cast (by norm_num : (0 : ℝ) < 1 / 1024)
  have hd : ∀ x, Ideal.div x width = x * ((1 / 1024 : ℝ) : EReal) := fun x => by rw [width_eq, Ideal.div_coe (by norm_num)]
  have hz : ∀ k, zc A b t k * zc A b t k = ⊤ := fun k => by
    rw [zc, hd]
    rcases infinite hs with e | e
    · rw [e, EReal.bot_mul_of_pos hw, sub_eq_add_neg, EReal.neg_bot]
      by_cases h : z A b t k = ⊥
      · rw [h, EReal.bot_add, EReal.bot_mul_bot]
      · rw [EReal.add_top_of_ne_bot h, EReal.top_mul_top]
    · rw [e, EReal.top_mul_of_pos hw, sub_eq_add_neg, EReal.neg_top, EReal.add_bot, EReal.bot_mul_bot]
  have ht : (∑ k, zc A b t k * zc A b t k) = ⊤ := by
    rw [← Finset.add_sum_erase _ _ (Finset.mem_univ (0 : Fin 1024)), hz, EReal.top_add_of_ne_bot]
    refine ne_of_gt (lt_of_lt_of_le EReal.bot_lt_zero (Finset.sum_nonneg fun k _ => ?_))
    rw [hz]
    exact le_top
  rw [ht, hd, EReal.top_mul_of_pos hw, eps_eq, EReal.top_add_coe]

/-- The reciprocal square root of a positive number. -/
theorem rsqrt_pos (q : ℝ) (hq : 0 < q) : Ideal.rsqrt (q : EReal) = (((Real.sqrt q)⁻¹ : ℝ) : EReal) := by
  rw [Ideal.rsqrt_coe, if_neg (not_lt.mpr hq.le), if_neg hq.ne']

/-- The normalized row is real: zero where the variance is infinite. -/
theorem nr_real (c : Fin 1024) : Real (nr A b t c) := by
  by_cases hs : Real (∑ k, z A b t k)
  · obtain ⟨w, q, hq, -, hw, hQ⟩ := row_real b t hs
    exact Real.mul ⟨_, hw c⟩ ⟨_, by rw [rs, hQ, rsqrt_pos q hq]⟩
  · exact ⟨0, by rw [nr, rs, row_top b t hs, Ideal.rsqrt_top, mul_zero, EReal.coe_zero]⟩

/-- The error and the gradient at the normalized row are real. -/
theorem er_real (R : Reals A) (c : Fin 1024) : Real (er A b t c) :=
  (((nr_real b t c).mul (R.g2 _)).add (R.b2 _)).sub (R.tg _)

@[inherit_doc er_real] theorem dn_real (R : Reals A) (c : Fin 1024) : Real (dn A b t c) :=
  ((er_real b t R c).mul ⟨_, unit_eq⟩).mul (R.g2 _)

/-- The chain of derivatives through the variance and the mean is the closed form. -/
theorem chain (w d : Fin 1024 → ℝ) (q r : ℝ) (hq : 0 < q) (hr : r * r * q = 1) (hw : ∑ k, w k = 0) (k : Fin 1024) :
    d k * r + (∑ j, w j * d j) * (-(1 / 2) * (r * (1 / q))) / 1024 * (2 * w k) +
        ((∑ j, -(d j * r)) + ∑ j, -((∑ j, w j * d j) * (-(1 / 2) * (r * (1 / q))) / 1024 * (2 * w j))) / 1024 =
      r * (d k - (∑ j, d j) / 1024 - w k * r * ((∑ j, d j * (w j * r)) / 1024)) := by
  have e1 : 1 / q = r * r := by field_simp; linarith
  have e2 : (∑ j, d j * (w j * r)) = (∑ j, w j * d j) * r := by
    rw [Finset.sum_mul]; exact Finset.sum_congr rfl fun j _ => by ring
  rw [Finset.sum_neg_distrib, Finset.sum_neg_distrib, ← Finset.sum_mul, ← Finset.mul_sum, ← Finset.mul_sum, hw, e1, e2]
  ring

/-- The norm's gradient as the chain of derivatives. -/
theorem dz_chain (R : Reals A) (k : Fin 1024) :
    dn A b t k * rs A b t +
        Ideal.div ((∑ j, zc A b t j * dn A b t j) * (Ideal.ofBits .f32 0xBF000000#32 * Ideal.div (rs A b t) (Ideal.div (∑ k, zc A b t k * zc A b t k) width + eps))) width *
          (Ideal.ofBits .f32 0x40000000#32 * zc A b t k) +
        Ideal.div ((∑ j, -(dn A b t j * rs A b t)) + ∑ j, -(Ideal.div ((∑ j, zc A b t j * dn A b t j) * (Ideal.ofBits .f32 0xBF000000#32 *
          Ideal.div (rs A b t) (Ideal.div (∑ k, zc A b t k * zc A b t k) width + eps))) width * (Ideal.ofBits .f32 0x40000000#32 * zc A b t j))) width =
      dz A b t k := by
  by_cases hs : Real (∑ k, z A b t k)
  swap
  · have hr : rs A b t = 0 := by rw [rs, row_top b t hs, Ideal.rsqrt_top]
    have hw : Ideal.div 0 width = 0 := by rw [← EReal.coe_zero, div_width, zero_div]
    have ht : Ideal.div 0 ⊤ = 0 := by rw [Ideal.div, if_neg EReal.top_ne_zero, zero_mul]
    rw [row_top b t hs, dz, hr]
    simp only [ht, hw, mul_zero, zero_mul, neg_zero, Finset.sum_const_zero, add_zero]
  obtain ⟨w, q, hq, h0, hw, hQ⟩ := row_real b t hs
  choose d hd using dn_real b t R
  have hr : rs A b t = (((Real.sqrt q)⁻¹ : ℝ) : EReal) := by rw [rs, hQ, rsqrt_pos q hq]
  have hr' : (Real.sqrt q)⁻¹ * (Real.sqrt q)⁻¹ * q = 1 := by
    rw [← mul_inv, Real.mul_self_sqrt hq.le, inv_mul_cancel₀ hq.ne']
  rw [hQ]
  unfold dz nr
  simp only [hw, hd, hr, two_eq, neg_half_eq, Ideal.div_coe hq.ne', ← EReal.coe_mul, coe_sum, div_width, ← EReal.coe_neg, ← EReal.coe_add, ← EReal.coe_sub]
  exact congrArg _ (chain w d q _ hq hr' h0 k)

/-- The mean of the tokens' mean squared errors, halved and scaled back, is the sum of the squared errors. -/
theorem loss_chain (R : Reals A) : Ideal.ofBits .f32 0x45000000#32 * (Ideal.ofBits .f32 0x3F000000#32 * ∑ b, ∑ t, Ideal.div (se A b t) width) = ∑ b, ∑ t, se A b t := by
  have hs : ∀ b t, Real (se A b t) := fun b t => Real.sum _ fun c => (er_real b t R c).mul (er_real b t R c)
  choose s hs using hs
  simp only [hs, div_width, coe_sum, rows_eq, half_eq, ← EReal.coe_mul, ← Finset.sum_div]
  refine congrArg _ ?_
  ring

end Cert.Fwd

end
-- ==== Proof.FwdGrad.lean ====
/- The forward reference's gradients and loss read at an index: they are the formulas, where the norm's parameters and the target are real numbers. -/
module

public import proofs.«01_k».proof.Proof.FwdRef
public import proofs.«01_k».proof.Proof.FwdReal

@[expose] public section

set_option maxRecDepth 16384

noncomputable section

namespace Cert.Reference3Ideal.Fwd

open Cert.Reference3Ideal Cert.Reference3Ideal.Gen Cert.Reference3Ideal.Read Cert.Fwd Cert.ReferenceIdeal.Mixer
open Idealize.ShloMosaic Idealize.ShloMosaic.TcCoe Idealize.SL.Sem

variable (A : Arr) (b : Fin 4) (t : Fin 2048)

/-- The modulated input as the reference returns it. -/
theorem v178_at (c : Fin 1024) : val_main_v178 (F := Ideal) A.x A.mod (ix3 b t c) = u A b t c := by
  unfold u
  pointwise [val_main_v178, val_main_v17, val_main_v16, val_main_v15, val_main_v14, val_main_v13, val_main_v12, val_main_cst, val_main_v10, val_main_v9, val_main_v4, val_main_v3]

/-- The gradient at the norm's result. -/
theorem v144_at (c : Fin 1024) : val_main_v144 (F := Ideal) A.x A.mod A.wup A.cw A.cb A.wdn A.g2 A.b2 A.tg (ix3 b t c) = dout A b t c := by
  have e : Ideal.div (Ideal.ofBits .f32 0x3F000000#32 * 1) width * Ideal.ofBits .f32 0x40000000#32 = unit := by
    rw [mul_one, half_eq, div_width, two_eq, unit_eq, ← EReal.coe_mul]; norm_num
  unfold dout
  rw [← e, mul_comm, mul_assoc]
  unfold width
  pointwise [val_main_v144, val_main_v143, val_main_v142, val_main_v141, val_main_cst_21, val_main_v140, val_main_v139, val_main_cst_20, val_main_cst_19,
    val_main_v133, val_main_v132, val_main_cst_14, v130_at A]

/-- The gradient at the normalized row. -/
theorem v152_at (c : Fin 1024) : val_main_v152 (F := Ideal) A.x A.mod A.wup A.cw A.cb A.wdn A.g2 A.b2 A.tg (ix3 b t c) = dn A b t c := by
  unfold dn
  pointwise [val_main_v152, v144_at A, val_main_v151, val_main_v124, val_main_v99]

/-- Its product with the reciprocal deviation. -/
theorem v158_at (c : Fin 1024) : val_main_v158 (F := Ideal) A.x A.mod A.wup A.cw A.cb A.wdn A.g2 A.b2 A.tg (ix3 b t c) = dn A b t c * rs A b t := by
  pointwise [val_main_v158, v152_at A, val_main_v157, v118_at A]

/-- What comes through the variance. -/
theorem v167_at (c : Fin 1024) : val_main_v167 (F := Ideal) A.x A.mod A.wup A.cw A.cb A.wdn A.g2 A.b2 A.tg (ix3 b t c) =
    Ideal.div ((∑ j, zc A b t j * dn A b t j) * (Ideal.ofBits .f32 0xBF000000#32 * Ideal.div (rs A b t) (Ideal.div (∑ k, zc A b t k * zc A b t k) width + eps))) width *
      (Ideal.ofBits .f32 0x40000000#32 * zc A b t c) := by
  pointwise [val_main_v167, val_main_v166, val_main_v165, val_main_cst_29, val_main_v164, val_main_v163, val_main_cst_28, val_main_v159, val_main_v156, val_main_v155,
    val_main_cst_26, val_main_v154, v115_eq A, v106_at A, v152_at A, val_main_v121, val_main_v120, val_main_cst_13, val_main_v119,
    val_main_v109, val_main_v108, val_main_cst_9]
  simp only [Fin.sum_univ_one, v118_at, v117_at]
  rfl

variable {A} (R : Reals A)

include R

/-- The gradient at the norm's argument. -/
theorem v177_at (c : Fin 1024) : val_main_v177 (F := Ideal) A.x A.mod A.wup A.cw A.cb A.wdn A.g2 A.b2 A.tg (ix3 b t c) = dz A b t c := by
  rw [← dz_chain b t R c]
  pointwise [val_main_v177, val_main_v176, val_main_v175, val_main_cst_32, val_main_v174, val_main_v173, val_main_cst_31, val_main_v172, val_main_v171, val_main_v170,
    val_main_v169, val_main_cst_30, val_main_v168, val_main_v162, val_main_v161, val_main_cst_27, val_main_v160, v158_at A, v167_at A]
  simp only [Fin.sum_univ_one]
  rfl

/-- The modulation gate's gradient. -/
theorem v189_at (c : Fin 1024) : val_main_v189 (F := Ideal) A.x A.mod A.wup A.cw A.cb A.wdn A.g2 A.b2 A.tg (ix3 b 0 c) = ∑ s, dz A b s c * y A b s c := by
  pointwise [val_main_v189, val_main_v188, val_main_cst_34, val_main_v187, fun b t => v177_at (A := A) b t R, v91_at A]

/-- The loss. -/
theorem v183_at (c : Fin 1024) : val_main_v183 (F := Ideal) A.x A.mod A.wup A.cw A.cb A.wdn A.g2 A.b2 A.tg (ix2 0 c) = ∑ b, ∑ s, se A b s := by
  rw [← loss_chain R]
  unfold se width
  pointwise [val_main_v183, val_main_v182, val_main_cst_33, val_main_v138, val_main_cst_18, val_main_v137, val_main_cst_17, val_main_v136, val_main_v135, val_main_cst_16,
    val_main_v134, val_main_cst_15, val_main_v131, v130_at A]

omit R

variable (A)

/-- The norm's bias gradient. -/
theorem v147_at (c : Fin 1024) : val_main_v147 (F := Ideal) A.x A.mod A.wup A.cw A.cb A.wdn A.g2 A.b2 A.tg (ix1 c) = ∑ b, ∑ s, dout A b s c := by
  pointwise [val_main_v147, val_main_cst_23, val_main_v146, val_main_v145, val_main_cst_22, hostReduceAdd_lead, v144_at A]
  simp only [Fin.sum_univ_one]

/-- The norm's weight gradient. -/
theorem v153_at (c : Fin 1024) : val_main_v153 (F := Ideal) A.x A.mod A.wup A.cw A.cb A.wdn A.g2 A.b2 A.tg (ix1 c) = ∑ b, ∑ s, dout A b s c * nr A b s c := by
  simp only [mul_comm (dout A _ _ _)]
  pointwise [val_main_v153, val_main_cst_25, val_main_v150, val_main_v149, val_main_cst_24, val_main_v148, hostReduceAdd_lead, v144_at A, v123_at A]
  simp only [Fin.sum_univ_one]

/-- The two rows of the norm's gradients. -/
theorem v186_at (j : Fin 2) (c : Fin 1024) :
    val_main_v186 (F := Ideal) A.x A.mod A.wup A.cw A.cb A.wdn A.g2 A.b2 A.tg (ix2 j c) = ∑ b, ∑ s, dln A b s j c := by
  unfold dln
  pointwise [val_main_v186, val_main_v185, val_main_v184, v147_at A, v153_at A]
  split
  · exact Finset.sum_congr rfl fun b _ => Finset.sum_congr rfl fun s _ => (if_pos (by omega)).symm
  · exact Finset.sum_congr rfl fun b _ => Finset.sum_congr rfl fun s _ => (if_neg (by omega)).symm

end Cert.Reference3Ideal.Fwd

end
-- ==== Proof.FwdTile.lean ====
/- The forward call, one grid point: the values its body computes, as functions of the blocks it loads, the two rows of the
   gate carried from the tile before, and the sums so far. -/
module

public import proofs.«01_k».proof.Proof.Gen.Kernel3Ideal.Frame
public import proofs.«01_k».proof.Proof.Gen.Kernel3Ideal.Skeleton
public import Idealize.ShloMosaic.Lib.Pointwise.Index

@[expose] public section

set_option maxRecDepth 16384

noncomputable section

namespace Cert.Kernel3Ideal.Fwd

open Cert.Kernel3Ideal.Gen Idealize.ShloMosaic Idealize.ShloMosaic.TcCoe

variable {F : FTy → Type} [FloatOps F]

/-- The blocks a point loads: the tile of `x`, the sequence's modulation, the weights, and the tile of the target. -/
structure Blk (F : FTy → Type) where
  x : Vec F S1x256x1024 .f32
  md : Vec F S1x1x6144 .f32
  wup : Vec F S4x1024x1408 .bf16
  cw : Vec F S3x2816 .f32
  cb : Vec F S1x2816 .f32
  wdn : Vec F S2816x1024 .bf16
  g2 : Vec F S1x1024 .f32
  b2 : Vec F S1x1024 .f32
  tg : Vec F S1x256x1024 .f32

/-- The last row (`a`) and the row before it (`b`) of the gate at the tile before, for the two chunks of lanes. -/
structure Rows (F : FTy → Type) where
  a0 : Vec F S1x1408 .f32
  b0 : Vec F S1x1408 .f32
  a1 : Vec F S1x1408 .f32
  b1 : Vec F S1x1408 .f32

/-- The rows as they lie in the buffer that carries them. -/
def rowsOf (z : Vec F S2x264x1408 .f32) : Rows F :=
  ⟨fun y => z (ix3 ⟨0, by decide⟩ ⟨7, by decide⟩ (y 1)), fun y => z (ix3 ⟨0, by decide⟩ ⟨6, by decide⟩ (y 1)), fun y => z (ix3 ⟨1, by decide⟩ ⟨7, by decide⟩ (y 1)), fun y => z (ix3 ⟨1, by decide⟩ ⟨6, by decide⟩ (y 1))⟩

variable (B : Blk F) (R : Rows F)

/-- The `n`-th vector of the modulation: the shift, the scale and the gate of the second half. -/
abbrev sh2 : Vec F S1x1x1024 .f32 := View.ld B.md (Rect.unit ![0, 0, 3072] S1x1x1024.size inb_S1x1x6144_S1x1x1024_0_0_3072)
@[inherit_doc sh2] abbrev sc2 : Vec F S1x1x1024 .f32 := View.ld B.md (Rect.unit ![0, 0, 4096] S1x1x1024.size inb_S1x1x6144_S1x1x1024_0_0_4096)
@[inherit_doc sh2] abbrev gt2 : Vec F S1x1x1024 .f32 := View.ld B.md (Rect.unit ![0, 0, 5120] S1x1x1024.size inb_S1x1x6144_S1x1x1024_0_0_5120)

/-- The tiles of `x` and of the target, whole. -/
abbrev xt : Vec F S1x256x1024 .f32 := View.ld B.x (Rect.unit ![0, 0, 0] S1x256x1024.size inb_S1x256x1024_S1x256x1024_0_0_0)
@[inherit_doc xt] abbrev tt : Vec F S1x256x1024 .f32 := View.ld B.tg (Rect.unit ![0, 0, 0] S1x256x1024.size inb_S1x256x1024_S1x256x1024_0_0_0)

/-- The blocks of the up projection: the two chunks of the value, then the two of the gate. -/
abbrev wv0 : Vec F S1x1024x1408 .bf16 := View.ld B.wup (Rect.unit ![0, 0, 0] S1x1024x1408.size inb_S4x1024x1408_S1x1024x1408_0_0_0)
@[inherit_doc wv0] abbrev wv1 : Vec F S1x1024x1408 .bf16 := View.ld B.wup (Rect.unit ![1, 0, 0] S1x1024x1408.size inb_S4x1024x1408_S1x1024x1408_1_0_0)
@[inherit_doc wv0] abbrev wg0 : Vec F S1x1024x1408 .bf16 := View.ld B.wup (Rect.unit ![2, 0, 0] S1x1024x1408.size inb_S4x1024x1408_S1x1024x1408_2_0_0)
@[inherit_doc wv0] abbrev wg1 : Vec F S1x1024x1408 .bf16 := View.ld B.wup (Rect.unit ![3, 0, 0] S1x1024x1408.size inb_S4x1024x1408_S1x1024x1408_3_0_0)

/-- The convolution's bias and its three weights, chunk by chunk. -/
abbrev cb0 : Vec F S1x1408 .f32 := View.ld B.cb (Rect.unit ![0, 0] S1x1408.size inb_S1x2816_S1x1408_0_0)
@[inherit_doc cb0] abbrev cb1 : Vec F S1x1408 .f32 := View.ld B.cb (Rect.unit ![0, 1408] S1x1408.size inb_S1x2816_S1x1408_0_1408)
@[inherit_doc cb0] abbrev c00 : Vec F S1x1408 .f32 := View.ld B.cw (Rect.unit ![0, 0] S1x1408.size inb_S3x2816_S1x1408_0_0)
@[inherit_doc cb0] abbrev c10 : Vec F S1x1408 .f32 := View.ld B.cw (Rect.unit ![1, 0] S1x1408.size inb_S3x2816_S1x1408_1_0)
@[inherit_doc cb0] abbrev c20 : Vec F S1x1408 .f32 := View.ld B.cw (Rect.unit ![2, 0] S1x1408.size inb_S3x2816_S1x1408_2_0)
@[inherit_doc cb0] abbrev c01 : Vec F S1x1408 .f32 := View.ld B.cw (Rect.unit ![0, 1408] S1x1408.size inb_S3x2816_S1x1408_0_1408)
@[inherit_doc cb0] abbrev c11 : Vec F S1x1408 .f32 := View.ld B.cw (Rect.unit ![1, 1408] S1x1408.size inb_S3x2816_S1x1408_1_1408)
@[inherit_doc cb0] abbrev c21 : Vec F S1x1408 .f32 := View.ld B.cw (Rect.unit ![2, 1408] S1x1408.size inb_S3x2816_S1x1408_2_1408)

/-- The two chunks of the down projection. -/
abbrev wd0 : Vec F S1408x1024 .bf16 := View.ld B.wdn (Rect.unit ![0, 0] S1408x1024.size inb_S2816x1024_S1408x1024_0_0)
@[inherit_doc wd0] abbrev wd1 : Vec F S1408x1024 .bf16 := View.ld B.wdn (Rect.unit ![1408, 0] S1408x1024.size inb_S2816x1024_S1408x1024_1408_0)

/-- The norm's weight and bias. -/
abbrev gw : Vec F S1x1024 .f32 := View.ld B.g2 (Rect.unit ![0, 0] S1x1024.size inb_S1x1024_S1x1024_0_0)
@[inherit_doc gw] abbrev bw : Vec F S1x1024 .f32 := View.ld B.b2 (Rect.unit ![0, 0] S1x1024.size inb_S1x1024_S1x1024_0_0)

/-- The modulated tile. -/
def ut : FVec F S256x1024 .bf16 := k0_pay10 (xt B) (sh2 B) (sc2 B)
/-- The first chunk of the value and of the gate. -/
def vt0 : FVec F S256x1408 .f32 := k0_pay13 (xt B) (sh2 B) (sc2 B) (wv0 B)
@[inherit_doc vt0] def gt0 : FVec F S256x1408 .f32 := k0_pay14 (ut B) (wg0 B)
/-- The first chunk of the gate, one and two rows back. -/
def pt0 : FVec F S256x1408 .f32 := k0_pay17 (ut B) (wg0 B) R.a0
@[inherit_doc pt0] def qt0 : FVec F S256x1408 .f32 := k0_pay18 (ut B) (wg0 B) R.a0 R.b0
/-- The first chunk's share of the down projection. -/
def yt0 : FVec F S256x1024 .f32 :=
  k0_pay25 k0_pay12 (k0_pay24 (vt0 B) (gt0 B) (pt0 B R) (qt0 B R) (cb0 B) (c20 B) (c10 B) (c00 B) (wd0 B))
/-- The second chunk of the value and of the gate. -/
def vt1 : FVec F S256x1408 .f32 := k0_pay26 (ut B) (wv1 B)
@[inherit_doc vt1] def gt1 : FVec F S256x1408 .f32 := k0_pay27 (ut B) (wg1 B)
/-- The second chunk of the gate one row back. -/
def pt1 : FVec F S256x1408 .f32 := k0_pay30 (ut B) (wg1 B) R.a1
/-- The second chunk of the product that goes down. -/
def ft1 : FVec F S256x1408 .bf16 :=
  k0_pay36 (vt1 B) (gt1 B) R.a1 R.b1 (pt1 B R) k0_pay31 k0_pay32 (cb1 B) (c21 B) (c11 B) (c01 B)
/-- The down projection. -/
def yt : FVec F S256x1024 .f32 := k0_pay38 (yt0 B R) (ft1 B R) (wd1 B)
/-- The norm's reciprocal deviation, its normalized rows, and the error against the target. -/
def rt : FVec F S256x1 .f32 := k0_pay40 (k0_pay8 (xt B)) (k0_pay9 (gt2 B)) (yt0 B R) (ft1 B R) (wd1 B)
@[inherit_doc rt] def nt2 : FVec F S256x1024 .f32 := k0_pay41 (k0_pay8 (xt B)) (k0_pay9 (gt2 B)) (yt0 B R) (ft1 B R) (wd1 B)
@[inherit_doc rt] def et : FVec F S256x1024 .f32 :=
  k0_pay42 (k0_pay8 (xt B)) (k0_pay9 (gt2 B)) (yt0 B R) (ft1 B R) (wd1 B) (gw B) (bw B) (tt B)
/-- The gradient at the normalized rows and its mean along them. -/
def dt : FVec F S256x1024 .f32 := k0_pay49 (et B R) (gw B)
@[inherit_doc dt] def mt : FVec F S256x1 .f32 := k0_pay50 (nt2 B R) (et B R) (gw B)

/-! ## What the point stores -/

/-- The stores of `u2`. -/
def uP : List (View.Piece (Elt F) S1x256x1024 .bf16) :=
  [⟨Rect.unit ![0, 0, 0] S1x256x1024.size inb_S1x256x1024_S1x256x1024_0_0_0, k0_pay11 (xt B) (sh2 B) (sc2 B)⟩]
/-- The stores of `h`. -/
def hP : List (View.Piece (Elt F) S1x256x5632 .f32) :=
  [⟨Rect.unit ![0, 0, 4224] S1x256x1408.size inb_S1x256x5632_S1x256x1408_0_0_4224, k0_pay29 (ut B) (wg1 B)⟩,
    ⟨Rect.unit ![0, 0, 1408] S1x256x1408.size inb_S1x256x5632_S1x256x1408_0_0_1408, k0_pay28 (ut B) (wv1 B)⟩,
    ⟨Rect.unit ![0, 0, 2816] S1x256x1408.size inb_S1x256x5632_S1x256x1408_0_0_2816, k0_pay16 (ut B) (wg0 B)⟩,
    ⟨Rect.unit ![0, 0, 0] S1x256x1408.size inb_S1x256x5632_S1x256x1408_0_0_0, k0_pay15 (vt0 B)⟩]
/-- The stores of the product that goes down. -/
def fP : List (View.Piece (Elt F) S1x256x2816 .bf16) :=
  [⟨Rect.unit ![0, 0, 1408] S1x256x1408.size inb_S1x256x2816_S1x256x1408_0_0_1408, k0_pay37 (ft1 B R)⟩,
    ⟨Rect.unit ![0, 0, 0] S1x256x1408.size inb_S1x256x2816_S1x256x1408_0_0_0,
      k0_pay23 (vt0 B) (gt0 B) (pt0 B R) (qt0 B R) (cb0 B) (c20 B) (c10 B) (c00 B)⟩]
/-- The stores of the convolved gate. -/
def gP : List (View.Piece (Elt F) S1x256x2816 .f32) :=
  [⟨Rect.unit ![0, 0, 1408] S1x256x1408.size inb_S1x256x2816_S1x256x1408_0_0_1408,
      k0_pay34 (gt1 B) R.a1 R.b1 (pt1 B R) k0_pay31 k0_pay32 (cb1 B) (c21 B) (c11 B) (c01 B)⟩,
    ⟨Rect.unit ![0, 0, 0] S1x256x1408.size inb_S1x256x2816_S1x256x1408_0_0_0,
      k0_pay20 (gt0 B) (pt0 B R) (qt0 B R) (cb0 B) (c20 B) (c10 B) (c00 B)⟩]
/-- The stores of the gradient at the norm's argument. -/
def zP : List (View.Piece (Elt F) S1x256x1024 .f32) :=
  [⟨Rect.unit ![0, 0, 0] S1x256x1024.size inb_S1x256x1024_S1x256x1024_0_0_0,
    k0_pay2 (rt B R) (nt2 B R) (dt B R) (mt B R) k0_pay51⟩]
/-- The stores of the loss over what is loaded of it. -/
def lP (l : Vec F S1x1024 .f32) : List (View.Piece (Elt F) S1x1024 .f32) :=
  [⟨Rect.unit ![0, 0] S1x1024.size inb_S1x1024_S1x1024_0_0, k0_pay44 (et B R) (k0_pay43 l)⟩]
/-- The stores of the norm's gradients over what is loaded of them. -/
def nP (n0 n1 : Vec F S1x1024 .f32) : List (View.Piece (Elt F) S2x1024 .f32) :=
  [⟨Rect.unit ![1, 0] S1x1024.size inb_S2x1024_S1x1024_1_0, k0_pay47 (et B R) n1⟩,
    ⟨Rect.unit ![0, 0] S1x1024.size inb_S2x1024_S1x1024_0_0, k0_pay46 (nt2 B R) (et B R) n0⟩]
/-- The stores of the modulation gate's gradient over what is loaded of it. -/
def mP (d : Vec F S1x1x1024 .f32) : List (View.Piece (Elt F) S1x1x1024 .f32) :=
  [⟨Rect.unit ![0, 0, 0] S1x1x1024.size inb_S1x1x1024_S1x1x1024_0_0_0,
    k0_pay3 (yt B R) (rt B R) (nt2 B R) (dt B R) (mt B R) k0_pay51 d⟩]

/-- The kept rows with the tile below them, over a leading axis of one. -/
theorem lift0 : (![1, 264, 1408] : Fin 3 → ℕ) 0 = 1 := rfl
@[inherit_doc lift0] theorem liftS : ∀ i : Fin 2, (![1, 264, 1408] : Fin 3 → ℕ) i.succ = (![264, 1408] : Fin 2 → ℕ) i := by decide

/-- The stores of the gate's last eight rows, slice by slice of the buffer that carries them. -/
def cP : List (View.Piece (Elt F) S2x264x1408 .f32) :=
  [⟨(Rect.unit (s := S2x264x1408) ![1, 0, 0] S1x264x1408.size inb_S2x264x1408_S1x264x1408_1_0_0).within
        ((Rect.unit (s := S264x1408) ![0, 0] S8x1408.size inb_S264x1408_S8x1408_0_0).consLift ![1, 264, 1408] lift0 liftS) (fun _ => rfl),
      Rect.payAlong (r := Rect.unit (s := S264x1408) ![0, 0] S8x1408.size inb_S264x1408_S8x1408_0_0)
        (Rect.numel_consLift _ _ lift0 liftS) (k0_pay35 (gt1 B))⟩,
    ⟨(Rect.unit (s := S2x264x1408) ![0, 0, 0] S1x264x1408.size inb_S2x264x1408_S1x264x1408_0_0_0).within
        ((Rect.unit (s := S264x1408) ![0, 0] S8x1408.size inb_S264x1408_S8x1408_0_0).consLift ![1, 264, 1408] lift0 liftS) (fun _ => rfl),
      Rect.payAlong (r := Rect.unit (s := S264x1408) ![0, 0] S8x1408.size inb_S264x1408_S8x1408_0_0)
        (Rect.numel_consLift _ _ lift0 liftS) (k0_pay21 (gt0 B))⟩]

/-- The rows the point leaves for the next. -/
def nextRows : Rows F :=
  ⟨fun y => k0_pay21 (gt0 B) (ix2 7 (y 1)), fun y => k0_pay21 (gt0 B) (ix2 6 (y 1)),
    fun y => k0_pay35 (gt1 B) (ix2 7 (y 1)), fun y => k0_pay35 (gt1 B) (ix2 6 (y 1))⟩

/-- The rows the first tile of a sequence starts from. -/
def zeroRows : Rows F :=
  ⟨fun y => k0_pay4 (ix3 ⟨0, by decide⟩ ⟨7, by decide⟩ (y 1)), fun y => k0_pay4 (ix3 ⟨0, by decide⟩ ⟨6, by decide⟩ (y 1)), fun y => k0_pay4 (ix3 ⟨1, by decide⟩ ⟨7, by decide⟩ (y 1)), fun y => k0_pay4 (ix3 ⟨1, by decide⟩ ⟨6, by decide⟩ (y 1))⟩

/-! ## Where the stores lie -/

/-- The stores into a result cover its block. -/
theorem uP_cover (y) : ∃ p ∈ uP B, y ∈ p.1.set := View.cover_of_tiledL (uP B) S1x256x1024.size (by sl_kernel_rfl) y
@[inherit_doc uP_cover] theorem hP_cover (y) : ∃ p ∈ hP B, y ∈ p.1.set := View.cover_of_tiledL (hP B) S1x256x1408.size (by sl_kernel_rfl) y
@[inherit_doc uP_cover] theorem fP_cover (y) : ∃ p ∈ fP B R, y ∈ p.1.set := View.cover_of_tiledL (fP B R) S1x256x1408.size (by sl_kernel_rfl) y
@[inherit_doc uP_cover] theorem gP_cover (y) : ∃ p ∈ gP B R, y ∈ p.1.set := View.cover_of_tiledL (gP B R) S1x256x1408.size (by sl_kernel_rfl) y
@[inherit_doc uP_cover] theorem zP_cover (y) : ∃ p ∈ zP B R, y ∈ p.1.set := View.cover_of_tiledL (zP B R) S1x256x1024.size (by sl_kernel_rfl) y
@[inherit_doc uP_cover] theorem lP_cover (l) (y) : ∃ p ∈ lP B R l, y ∈ p.1.set := View.cover_of_tiledL (lP B R l) S1x1024.size (by sl_kernel_rfl) y
@[inherit_doc uP_cover] theorem nP_cover (n0 n1) (y) : ∃ p ∈ nP B R n0 n1, y ∈ p.1.set := View.cover_of_tiledL (nP B R n0 n1) S1x1024.size (by sl_kernel_rfl) y
@[inherit_doc uP_cover] theorem mP_cover (l) (y) : ∃ p ∈ mP B R l, y ∈ p.1.set := View.cover_of_tiledL (mP B R l) S1x1x1024.size (by sl_kernel_rfl) y

end Cert.Kernel3Ideal.Fwd

end
-- ==== Proof.FwdVal.lean ====
/- One grid point of the forward call: if its blocks are pieces of the arrays and the carried rows those before the tile, then
   what it computes are pieces of the formulas. -/
module

public import proofs.«01_k».proof.Proof.FwdTile
public import proofs.«01_k».proof.Proof.FwdSpec
public import proofs.«01_k».proof.Proof.Blocks
public import Idealize.ShloMosaic.Lib.Pipeline.ValueKit

@[expose] public section

set_option maxRecDepth 16384

noncomputable section

namespace Cert.Kernel3Ideal.Fwd

open Idealize.ShloMosaic Idealize.SL.Sem Cert.Kernel3Ideal Cert.Kernel3Ideal.Gen Cert.Fwd
open Cert.KernelIdeal.Points (ld2 ld3)

/-- The token of row `r` of tile `n`. -/
abbrev tok (n : Fin 8) (r : Fin 256) : Fin 2048 := ⟨256 * n + r, by omega⟩

/-- Lane `f` of the chunk that starts at lane `o` of the 2816. -/
abbrev lane (o : ℕ) (ho : o ≤ 1408) (f : Fin 1408) : Fin 2816 := ⟨o + f, by omega⟩

/-- The blocks of a point are the pieces of the arrays for tile `n` of batch row `b`. -/
structure Is (A : Arr) (b : Fin 4) (n : Fin 8) (B : Blk Ideal) : Prop where
  x : ∀ r c, B.x (ix3 0 r c) = A.x (ix3 b (tok n r) c)
  md : ∀ c, B.md (ix3 0 0 c) = A.mod (ix2 b c)
  wup : ∀ (q : Fin 4) (c : Fin 1024) (f : Fin 1408), B.wup (ix3 q c f) = A.wup (ix3 0 c ⟨1408 * q + f, by omega⟩)
  cw : ∀ k f, B.cw (ix2 k f) = A.cw (ix3 0 k f)
  cb : ∀ f, B.cb (ix2 0 f) = A.cb (ix2 0 f)
  wdn : ∀ f c, B.wdn (ix2 f c) = A.wdn (ix3 0 f c)
  g2 : ∀ c, B.g2 (ix2 0 c) = A.g2 (ix2 0 c)
  b2 : ∀ c, B.b2 (ix2 0 c) = A.b2 (ix2 0 c)
  tg : ∀ r c, B.tg (ix3 0 r c) = A.tg (ix3 b (tok n r) c)

/-- The carried rows are the two rows of the gate before tile `n`. -/
structure Behind (A : Arr) (b : Fin 4) (n : Fin 8) (R : Rows Ideal) : Prop where
  a0 : ∀ f, R.a0 (ix2 0 f) = gp A b (256 * n + 1) (lane 0 (by omega) f)
  b0 : ∀ f, R.b0 (ix2 0 f) = gp A b (256 * n) (lane 0 (by omega) f)
  a1 : ∀ f, R.a1 (ix2 0 f) = gp A b (256 * n + 1) (lane 1408 (by omega) f)
  b1 : ∀ f, R.b1 (ix2 0 f) = gp A b (256 * n) (lane 1408 (by omega) f)

/-- A choice by the row's number. -/
theorem pick (r : Fin 256) (k : ℕ) (hk : k < 256) (a c : EReal) :
    Scalar.select (IntOp.cmpi CmpIPredicate.eq (BitVec.ofNat 32 r.val) (BitVec.ofNat 32 k)) a c = if r.val = k then a else c := by
  have e : (BitVec.ofNat 32 r.val == BitVec.ofNat 32 k) = decide (r.val = k) := by
    rw [Bool.eq_iff_iff, beq_iff_eq, decide_eq_true_eq, ← BitVec.toNat_inj, BitVec.toNat_ofNat, BitVec.toNat_ofNat]; omega
  by_cases h : r.val = k <;> simp [Scalar.select, IntOp.cmpi, h, e]

variable {A : Arr} {b : Fin 4} {n : Fin 8} {B : Blk Ideal} {R : Rows Ideal} (hB : Is A b n B) (hR : Behind A b n R)

/-! ## The blocks as they are loaded -/

section
include hB

/-- The pieces of the blocks the tile is computed from. -/
theorem xt_is (r : Fin 256) (c : Fin 1024) : xt B (ix3 0 r c) = A.x (ix3 b (tok n r) c) := by
  refine (ld3 B.x 0 0 0 _ 0 r c).trans ((congrArg B.x ?_).trans (hB.x r c))
  exact congrArg₂ (ix3 0) (Fin.ext (Nat.zero_add _)) (Fin.ext (Nat.zero_add _))

@[inherit_doc xt_is] theorem tt_is (r : Fin 256) (c : Fin 1024) : tt B (ix3 0 r c) = A.tg (ix3 b (tok n r) c) := by
  refine (ld3 B.tg 0 0 0 _ 0 r c).trans ((congrArg B.tg ?_).trans (hB.tg r c))
  exact congrArg₂ (ix3 0) (Fin.ext (Nat.zero_add _)) (Fin.ext (Nat.zero_add _))

@[inherit_doc xt_is] theorem sh2_is (c : Fin 1024) : sh2 B (ix3 0 0 c) = A.mod (ix2 b ⟨3072 + c, by omega⟩) := (ld3 B.md 0 0 3072 _ 0 0 c).trans (hB.md ⟨3072 + c, by omega⟩)
@[inherit_doc xt_is] theorem sc2_is (c : Fin 1024) : sc2 B (ix3 0 0 c) = A.mod (ix2 b ⟨4096 + c, by omega⟩) := (ld3 B.md 0 0 4096 _ 0 0 c).trans (hB.md ⟨4096 + c, by omega⟩)
@[inherit_doc xt_is] theorem gt2_is (c : Fin 1024) : gt2 B (ix3 0 0 c) = A.mod (ix2 b ⟨5120 + c, by omega⟩) := (ld3 B.md 0 0 5120 _ 0 0 c).trans (hB.md ⟨5120 + c, by omega⟩)

/-- A block of the up projection. -/
theorem wup_is (q : Fin 4) (io : ∀ a, (![q.val, 0, 0] : Fin 3 → ℕ) a + (![1, 1024, 1408] : Fin 3 → ℕ) a ≤ S4x1024x1408.size a) (c : Fin 1024) (f : Fin 1408) :
    View.ld B.wup (Rect.unit (s := S4x1024x1408) ![q.val, 0, 0] ![1, 1024, 1408] io) (ix3 0 c f) = A.wup (ix3 0 c ⟨1408 * q + f, by omega⟩) := by
  refine (ld3 B.wup q.val 0 0 io 0 c f).trans ((congrArg B.wup ?_).trans (hB.wup q c f))
  exact congrArg₂ (ix3 q) (Fin.ext (Nat.zero_add _)) (Fin.ext (Nat.zero_add _))

/-- A chunk of a row of the convolution's weights. -/
theorem cw_is (k : Fin 3) (o : ℕ) (ho : o ≤ 1408) (io : ∀ a, (![k.val, o] : Fin 2 → ℕ) a + (![1, 1408] : Fin 2 → ℕ) a ≤ S3x2816.size a) (f : Fin 1408) :
    View.ld B.cw (Rect.unit (s := S3x2816) ![k.val, o] ![1, 1408] io) (ix2 0 f) = A.cw (ix3 0 k (lane o ho f)) :=
  (ld2 B.cw k.val o io 0 f).trans (hB.cw k ⟨o + f, by omega⟩)

/-- A chunk of the convolution's bias. -/
theorem cb_is (o : ℕ) (ho : o ≤ 1408) (io : ∀ a, (![0, o] : Fin 2 → ℕ) a + (![1, 1408] : Fin 2 → ℕ) a ≤ S1x2816.size a) (f : Fin 1408) :
    View.ld B.cb (Rect.unit (s := S1x2816) ![0, o] ![1, 1408] io) (ix2 0 f) = A.cb (ix2 0 (lane o ho f)) :=
  (ld2 B.cb 0 o io 0 f).trans (hB.cb ⟨o + f, by omega⟩)

/-- A chunk of the down projection. -/
theorem wdn_is (o : ℕ) (ho : o ≤ 1408) (io : ∀ a, (![o, 0] : Fin 2 → ℕ) a + (![1408, 1024] : Fin 2 → ℕ) a ≤ S2816x1024.size a) (f : Fin 1408) (c : Fin 1024) :
    View.ld B.wdn (Rect.unit (s := S2816x1024) ![o, 0] ![1408, 1024] io) (ix2 f c) = A.wdn (ix3 0 (lane o ho f) c) := by
  refine (ld2 B.wdn o 0 io f c).trans ((congrArg B.wdn ?_).trans (hB.wdn ⟨o + f, by omega⟩ c))
  exact congrArg (ix2 _) (Fin.ext (Nat.zero_add _))

/-- The norm's weight and bias. -/
theorem gw_is (c : Fin 1024) : gw B (ix2 0 c) = A.g2 (ix2 0 c) :=
  (ld2 B.g2 0 0 _ 0 c).trans ((congrArg B.g2 (congrArg (ix2 0) (Fin.ext (Nat.zero_add _)))).trans (hB.g2 c))

@[inherit_doc gw_is] theorem bw_is (c : Fin 1024) : bw B (ix2 0 c) = A.b2 (ix2 0 c) :=
  (ld2 B.b2 0 0 _ 0 c).trans ((congrArg B.b2 (congrArg (ix2 0) (Fin.ext (Nat.zero_add _)))).trans (hB.b2 c))

/-! ## The projections and the convolution -/

/-- The modulated input of the tile. -/
theorem ut_is (r : Fin 256) (c : Fin 1024) : ut B (ix2 r c) = u A b (tok n r) c := by
  have e : ut B (ix2 r c) = xt B (ix3 0 r c) * (1 + sc2 B (ix3 0 0 c)) + sh2 B (ix3 0 0 c) := by pointwise [ut, k0_pay10, k0_pay8]
  rw [e, xt_is hB, sc2_is hB, sh2_is hB, u]

/-- A product with a block of the up projection. -/
theorem up_at (v : FVec Ideal S256x1024 .bf16) (w : Vec Ideal S1x1024x1408 .bf16) (q : Fin 4) (hv : ∀ r c, v (ix2 r c) = u A b (tok n r) c)
    (hw : ∀ c f, w (ix3 0 c f) = A.wup (ix3 0 c ⟨1408 * q + f, by omega⟩)) (r : Fin 256) (f : Fin 1408) :
    k0_pay14 (F := Ideal) v w (ix2 r f) = h A b (tok n r) ⟨1408 * q + f, by omega⟩ := by
  have e : k0_pay14 (F := Ideal) v w (ix2 r f) = ∑ c : Fin 1024, v (ix2 r c) * w (ix3 0 c f) := by pointwise [k0_pay14]
  rw [e, h]
  simp only [hv, hw]

/-- The value half and the gate half of the up projection, in two blocks each. -/
theorem vt0_is (r : Fin 256) (f : Fin 1408) : vt0 B (ix2 r f) = h A b (tok n r) ⟨lane 0 (by omega) f, by omega⟩ := by
  refine (up_at hB (ut B) (wv0 B) 0 (ut_is hB) (wup_is hB 0 _) r f).trans (congrArg (h A b (tok n r)) (Fin.ext ?_))
  show 1408 * 0 + f.val = 0 + f.val; omega

@[inherit_doc vt0_is] theorem vt1_is (r : Fin 256) (f : Fin 1408) : vt1 B (ix2 r f) = h A b (tok n r) ⟨lane 1408 (by omega) f, by omega⟩ := by
  refine (up_at hB (ut B) (wv1 B) 1 (ut_is hB) (wup_is hB 1 _) r f).trans (congrArg (h A b (tok n r)) (Fin.ext ?_))
  show 1408 * 1 + f.val = 1408 + f.val; omega

@[inherit_doc vt0_is] theorem gt0_is (r : Fin 256) (f : Fin 1408) : gt0 B (ix2 r f) = gp A b (256 * n + r + 2) (lane 0 (by omega) f) := by
  refine (up_at hB (ut B) (wg0 B) 2 (ut_is hB) (wup_is hB 2 _) r f).trans ?_
  rw [gp, dif_pos (by omega)]
  exact congrArg₂ (h A b) (Fin.ext rfl) (Fin.ext (by show 1408 * 2 + f.val = 2816 + (0 + f.val); omega))

@[inherit_doc vt0_is] theorem gt1_is (r : Fin 256) (f : Fin 1408) : gt1 B (ix2 r f) = gp A b (256 * n + r + 2) (lane 1408 (by omega) f) := by
  refine (up_at hB (ut B) (wg1 B) 3 (ut_is hB) (wup_is hB 3 _) r f).trans ?_
  rw [gp, dif_pos (by omega)]
  exact congrArg₂ (h A b) (Fin.ext rfl) (Fin.ext (by show 1408 * 3 + f.val = 2816 + (1408 + f.val); omega))

end

section
variable (o : ℕ) (ho : o ≤ 1408)

/-- The gate one row back: the rows of the tile from the second on, before them the carried row. -/
theorem back1 (g : FVec Ideal S256x1408 .f32) (a : Vec Ideal S1x1408 .f32) (hg : ∀ r f, g (ix2 r f) = gp A b (256 * n + r + 2) (lane o ho f))
    (ha : ∀ f, a (ix2 0 f) = gp A b (256 * n + 1) (lane o ho f)) (r : Fin 256) (f : Fin 1408) :
    Scalar.select (IntOp.cmpi CmpIPredicate.eq (BitVec.ofNat 32 r.val) 0#32) (a (ix2 0 f)) (g (ix2 ⟨(r + 256 - 1) % 256, Nat.mod_lt _ (by decide)⟩ f)) =
      gp A b (256 * n + r + 1) (lane o ho f) := by
  refine (pick r 0 (by decide) _ _).trans ?_
  split
  · rename_i h; rw [ha, h]
  · rw [hg]; congr 1; show 256 * n.val + (r.val + 256 - 1) % 256 + 2 = _; omega

/-- The gate two rows back. -/
theorem back2 (g : FVec Ideal S256x1408 .f32) (a d : Vec Ideal S1x1408 .f32) (hg : ∀ r f, g (ix2 r f) = gp A b (256 * n + r + 2) (lane o ho f))
    (ha : ∀ f, a (ix2 0 f) = gp A b (256 * n + 1) (lane o ho f)) (hd : ∀ f, d (ix2 0 f) = gp A b (256 * n) (lane o ho f)) (r : Fin 256) (f : Fin 1408) :
    Scalar.select (IntOp.cmpi CmpIPredicate.eq (BitVec.ofNat 32 r.val) 0#32) (d (ix2 0 f))
        (Scalar.select (IntOp.cmpi CmpIPredicate.eq (BitVec.ofNat 32 r.val) 1#32) (a (ix2 0 f)) (g (ix2 ⟨(r + 256 - 2) % 256, Nat.mod_lt _ (by decide)⟩ f))) =
      gp A b (256 * n + r) (lane o ho f) := by
  refine (pick r 0 (by decide) _ _).trans ?_
  split
  · rename_i h; rw [hd, h]; rfl
  refine (pick r 1 (by decide) _ _).trans ?_
  split
  · rename_i h; rw [ha, h]
  · rw [hg]; congr 1; show 256 * n.val + (r.val + 256 - 2) % 256 + 2 = _; omega

/-- The convolution at a row and a lane of the chunk. -/
theorem conv_at (g p q : FVec Ideal S256x1408 .f32) (w0 w1 w2 w3 : Vec Ideal S1x1408 .f32) (hg : ∀ r f, g (ix2 r f) = gp A b (256 * n + r + 2) (lane o ho f))
    (hp : ∀ r f, p (ix2 r f) = gp A b (256 * n + r + 1) (lane o ho f)) (hq : ∀ r f, q (ix2 r f) = gp A b (256 * n + r) (lane o ho f))
    (h0 : ∀ f, w0 (ix2 0 f) = A.cb (ix2 0 (lane o ho f))) (h1 : ∀ f, w1 (ix2 0 f) = A.cw (ix3 0 2 (lane o ho f)))
    (h2 : ∀ f, w2 (ix2 0 f) = A.cw (ix3 0 1 (lane o ho f))) (h3 : ∀ f, w3 (ix2 0 f) = A.cw (ix3 0 0 (lane o ho f))) (r : Fin 256) (f : Fin 1408) :
    k0_pay19 (F := Ideal) g p q w0 w1 w2 w3 (ix2 r f) = gc A b (tok n r) (lane o ho f) := by
  have e : k0_pay19 (F := Ideal) g p q w0 w1 w2 w3 (ix2 r f) =
      w0 (ix2 0 f) + w1 (ix2 0 f) * g (ix2 r f) + w2 (ix2 0 f) * p (ix2 r f) + w3 (ix2 0 f) * q (ix2 r f) := by pointwise [k0_pay19]
  rw [e, hg, hp, hq, h0, h1, h2, h3, gc]

/-- The gated product at a row and a lane of the chunk. -/
theorem fv_at (v g p q : FVec Ideal S256x1408 .f32) (w0 w1 w2 w3 : Vec Ideal S1x1408 .f32) (hv : ∀ r f, v (ix2 r f) = h A b (tok n r) ⟨lane o ho f, by omega⟩)
    (hc : ∀ r f, k0_pay19 (F := Ideal) g p q w0 w1 w2 w3 (ix2 r f) = gc A b (tok n r) (lane o ho f)) (r : Fin 256) (f : Fin 1408) :
    k0_pay22 (F := Ideal) v g p q w0 w1 w2 w3 (ix2 r f) = fv A b (tok n r) (lane o ho f) := by
  have e : k0_pay22 (F := Ideal) v g p q w0 w1 w2 w3 (ix2 r f) = Cert.Mixer.gate (k0_pay19 (F := Ideal) g p q w0 w1 w2 w3 (ix2 r f)) * v (ix2 r f) := by
    unfold Cert.Mixer.gate; pointwise [k0_pay22]
  rw [e, hv, hc, fv]
end

section
include hB hR

/-- The convolution of the tile, and the row before each row. -/
theorem gc0_is (r : Fin 256) (f : Fin 1408) :
    k0_pay19 (F := Ideal) (gt0 B) (pt0 B R) (qt0 B R) (cb0 B) (c20 B) (c10 B) (c00 B) (ix2 r f) = gc A b (tok n r) (lane 0 (by omega) f) := by
  refine conv_at 0 (by omega) _ _ _ _ _ _ _ (gt0_is hB) (fun r f => ?_) (fun r f => ?_) (cb_is hB 0 (by omega) _) (cw_is hB 2 0 (by omega) _)
    (cw_is hB 1 0 (by omega) _) (cw_is hB 0 0 (by omega) _) r f
  · refine Eq.trans ?_ (back1 0 (by omega) (gt0 B) R.a0 (gt0_is hB) hR.a0 r f)
    pointwise [pt0, k0_pay17, gt0]
  · refine Eq.trans ?_ (back2 0 (by omega) (gt0 B) R.a0 R.b0 (gt0_is hB) hR.a0 hR.b0 r f)
    pointwise [qt0, k0_pay18, gt0]

@[inherit_doc gc0_is] theorem pt1_is (r : Fin 256) (f : Fin 1408) : pt1 B R (ix2 r f) = gp A b (256 * n + r + 1) (lane 1408 (by omega) f) := by
  refine Eq.trans ?_ (back1 1408 (by omega) (gt1 B) R.a1 (gt1_is hB) hR.a1 r f)
  pointwise [pt1, k0_pay30, gt1]

@[inherit_doc gc0_is] theorem gc1_is (r : Fin 256) (f : Fin 1408) :
    k0_pay33 (F := Ideal) (gt1 B) R.a1 R.b1 (pt1 B R) k0_pay31 k0_pay32 (cb1 B) (c21 B) (c11 B) (c01 B) (ix2 r f) = gc A b (tok n r) (lane 1408 (by omega) f) := by
  obtain ⟨q, hq⟩ : ∃ q : FVec Ideal S256x1408 .f32, ∀ r f, q (ix2 r f) =
      Scalar.select (IntOp.cmpi CmpIPredicate.eq (BitVec.ofNat 32 r.val) 0#32) (R.b1 (ix2 0 f))
        (Scalar.select (IntOp.cmpi CmpIPredicate.eq (BitVec.ofNat 32 r.val) 1#32) (R.a1 (ix2 0 f)) (gt1 B (ix2 ⟨(r + 256 - 2) % 256, Nat.mod_lt _ (by decide)⟩ f))) :=
    ⟨fun i => Scalar.select (IntOp.cmpi CmpIPredicate.eq (BitVec.ofNat 32 (i 0).val) 0#32) (R.b1 (ix2 0 (i 1)))
        (Scalar.select (IntOp.cmpi CmpIPredicate.eq (BitVec.ofNat 32 (i 0).val) 1#32) (R.a1 (ix2 0 (i 1))) (gt1 B (ix2 ⟨((i 0).val + 256 - 2) % 256, Nat.mod_lt _ (by decide)⟩ (i 1)))),
      fun _ _ => rfl⟩
  refine Eq.trans ?_ (conv_at 1408 (by omega) (gt1 B) (pt1 B R) q (cb1 B) (c21 B) (c11 B) (c01 B) (gt1_is hB) (pt1_is hB hR)
    (fun r f => (hq r f).trans (back2 1408 (by omega) (gt1 B) R.a1 R.b1 (gt1_is hB) hR.a1 hR.b1 r f)) (cb_is hB 1408 (by omega) _) (cw_is hB 2 1408 (by omega) _)
    (cw_is hB 1 1408 (by omega) _) (cw_is hB 0 1408 (by omega) _) r f)
  pointwise [k0_pay33, k0_pay31, k0_pay32, k0_pay19, hq]

/-- The gated product of the tile. -/
theorem f0_is (r : Fin 256) (f : Fin 1408) :
    k0_pay22 (F := Ideal) (vt0 B) (gt0 B) (pt0 B R) (qt0 B R) (cb0 B) (c20 B) (c10 B) (c00 B) (ix2 r f) = fv A b (tok n r) (lane 0 (by omega) f) :=
  fv_at 0 (by omega) _ _ _ _ _ _ _ _ (vt0_is hB) (gc0_is hB hR) r f

@[inherit_doc f0_is] theorem f1_is (r : Fin 256) (f : Fin 1408) : ft1 B R (ix2 r f) = fv A b (tok n r) (lane 1408 (by omega) f) := by
  have e : ft1 B R (ix2 r f) = Cert.Mixer.gate (k0_pay33 (F := Ideal) (gt1 B) R.a1 R.b1 (pt1 B R) k0_pay31 k0_pay32 (cb1 B) (c21 B) (c11 B) (c01 B) (ix2 r f)) * vt1 B (ix2 r f) := by
    unfold Cert.Mixer.gate; pointwise [ft1, k0_pay36]
  rw [e, vt1_is hB, gc1_is hB hR, fv]

/-! ## The down projection and the norm -/

/-- The tile's down projection, its norm, the error and the gradient at the normalized row. -/
theorem yt_is (r : Fin 256) (c : Fin 1024) : yt B R (ix2 r c) = y A b (tok n r) c := by
  have e : yt B R (ix2 r c) = (∑ f : Fin 1408, k0_pay22 (F := Ideal) (vt0 B) (gt0 B) (pt0 B R) (qt0 B R) (cb0 B) (c20 B) (c10 B) (c00 B) (ix2 r f) * wd0 B (ix2 f c)) +
      ∑ f : Fin 1408, ft1 B R (ix2 r f) * wd1 B (ix2 f c) := by
    pointwise [yt, k0_pay38, yt0, k0_pay25, k0_pay12, k0_pay24]
  have s := Fin.sum_univ_add (a := 1408) (b := 1408) fun f => fv A b (tok n r) f * A.wdn (ix3 0 f c)
  rw [e, y, show (∑ f : Fin 2816, fv A b (tok n r) f * A.wdn (ix3 0 f c)) = _ from s]
  simp only [f0_is hB hR, f1_is hB hR]
  refine congrArg₂ (· + ·) (Finset.sum_congr rfl fun f _ => ?_) (Finset.sum_congr rfl fun f _ => ?_)
  · rw [show lane 0 (by omega) f = Fin.castAdd 1408 f from Fin.ext (Nat.zero_add _)]
    exact congrArg _ ((wdn_is hB 0 (by omega) _ f c).trans (congrArg (fun f => A.wdn (ix3 0 f c)) (Fin.ext (Nat.zero_add _))))
  · exact congrArg _ (wdn_is hB 1408 (by omega) _ f c)

@[inherit_doc yt_is] theorem zc_is (r : Fin 256) (c : Fin 1024) :
    k0_pay39 (F := Ideal) (k0_pay8 (xt B)) (k0_pay9 (gt2 B)) (yt0 B R) (ft1 B R) (wd1 B) (ix2 r c) = zc A b (tok n r) c := by
  have e : k0_pay39 (F := Ideal) (k0_pay8 (xt B)) (k0_pay9 (gt2 B)) (yt0 B R) (ft1 B R) (wd1 B) (ix2 r c) =
      (alpha * xt B (ix3 0 r c) + (1 + gt2 B (ix3 0 0 c)) * yt B R (ix2 r c)) -
        Ideal.div (∑ k, (alpha * xt B (ix3 0 r k) + (1 + gt2 B (ix3 0 0 k)) * yt B R (ix2 r k))) width := by
    unfold alpha width; pointwise [k0_pay39, k0_pay8, k0_pay9, yt]
  rw [e, zc]
  simp only [xt_is hB, gt2_is hB, yt_is hB hR, z]

@[inherit_doc yt_is] theorem rt_is (r : Fin 256) : rt B R (ix2 r 0) = rs A b (tok n r) := by
  have e : rt B R (ix2 r 0) = Ideal.rsqrt (Ideal.div (∑ k, k0_pay39 (F := Ideal) (k0_pay8 (xt B)) (k0_pay9 (gt2 B)) (yt0 B R) (ft1 B R) (wd1 B) (ix2 r k) *
      k0_pay39 (F := Ideal) (k0_pay8 (xt B)) (k0_pay9 (gt2 B)) (yt0 B R) (ft1 B R) (wd1 B) (ix2 r k)) width + eps) := by
    unfold width eps; pointwise [rt, k0_pay40]
  rw [e, rs]
  simp only [zc_is hB hR]

@[inherit_doc yt_is] theorem nt_is (r : Fin 256) (c : Fin 1024) : nt2 B R (ix2 r c) = nr A b (tok n r) c := by
  have e : nt2 B R (ix2 r c) = k0_pay39 (F := Ideal) (k0_pay8 (xt B)) (k0_pay9 (gt2 B)) (yt0 B R) (ft1 B R) (wd1 B) (ix2 r c) * rt B R (ix2 r 0) := by
    pointwise [nt2, k0_pay41, rt]
  rw [e, zc_is hB hR, rt_is hB hR, nr]

@[inherit_doc yt_is] theorem et_is (r : Fin 256) (c : Fin 1024) : et B R (ix2 r c) = er A b (tok n r) c := by
  have e : et B R (ix2 r c) = nt2 B R (ix2 r c) * gw B (ix2 0 c) + bw B (ix2 0 c) - tt B (ix3 0 r c) := by pointwise [et, k0_pay42, nt2]
  rw [e, nt_is hB hR, gw_is hB, bw_is hB, tt_is hB, er]

@[inherit_doc yt_is] theorem dn_is (r : Fin 256) (c : Fin 1024) : k0_pay48 (F := Ideal) (et B R) (gw B) (ix2 r c) = dn A b (tok n r) c := by
  have e : k0_pay48 (F := Ideal) (et B R) (gw B) (ix2 r c) = et B R (ix2 r c) * unit * gw B (ix2 0 c) := by unfold unit; pointwise [k0_pay48, k0_pay45]
  rw [e, et_is hB hR, gw_is hB, dn, dout]

/-- The gradient at the norm's argument. -/
theorem dz_is (r : Fin 256) (c : Fin 1024) : k0_pay1 (F := Ideal) (rt B R) (nt2 B R) (dt B R) (mt B R) k0_pay51 (ix2 r c) = dz A b (tok n r) c := by
  have e : k0_pay1 (F := Ideal) (rt B R) (nt2 B R) (dt B R) (mt B R) k0_pay51 (ix2 r c) =
      rt B R (ix2 r 0) * (k0_pay48 (F := Ideal) (et B R) (gw B) (ix2 r c) - Ideal.div (∑ k, k0_pay48 (F := Ideal) (et B R) (gw B) (ix2 r k)) width -
        nt2 B R (ix2 r c) * Ideal.div (∑ k, k0_pay48 (F := Ideal) (et B R) (gw B) (ix2 r k) * nt2 B R (ix2 r k)) width) := by
    unfold width; pointwise [k0_pay1, k0_pay51, dt, k0_pay49, mt, k0_pay50]
  rw [e, rt_is hB hR, dz]
  simp only [dn_is hB hR, nt_is hB hR]

end

end Cert.Kernel3Ideal.Fwd

end
-- ==== Proof.FwdNext.lean ====
/- The forward call, a tile that is not the first of its sequence: the run of the body with the list of stores it leaves in each result and in the kept rows. -/
module

public import proofs.«01_k».proof.Proof.Gen.Kernel3Ideal.Frame
public import proofs.«01_k».proof.Proof.Gen.Kernel3Ideal.Skeleton
public import Idealize.ShloMosaic.Lib.Tactic

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first tile of its sequence. -/
abbrev firstTile (i : grid0.Coords) : Prop := (Scalar.cmpi .ne (Scalar.extui (Scalar.cmpi .eq (BitVec.ofNat 32 (i 1).val) 0#32)) 0#32) = 1#1

/-- The grid point is the first tile of the first sequence. -/
abbrev firstPoint (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

set_option maxHeartbeats 4000000 in
set_option sl_exec.squeezeSlice true in
/-- The body at a tile that is not the first of its sequence: from the blocks whole and what was kept, it leaves the blocks as they were and the listed stores in the results. -/
noncomputable def runNext (hc0 : ¬firstTile i) (hc1 : ¬firstPoint i)
    (x0 : Vec F S1x256x1024 .f32) (x1 : Vec F S1x1x6144 .f32) (x2 : Vec F S4x1024x1408 .bf16) (x3 : Vec F S3x2816 .f32) (x4 : Vec F S1x2816 .f32) (x5 : Vec F S2816x1024 .bf16) (x6 : Vec F S1x1024 .f32) (x7 : Vec F S1x1024 .f32) (x8 : Vec F S1x256x1024 .f32) (y5 : Vec F S1x1024 .f32) (y6 : Vec F S2x1024 .f32) (y7 : Vec F S1x1x1024 .f32) (z : Vec F S2x264x1408 .f32) :
    Σ' (L0 : List (View.Piece (Elt F) S1x256x1024 .bf16)), Σ' (L1 : List (View.Piece (Elt F) S1x256x5632 .f32)), Σ' (L2 : List (View.Piece (Elt F) S1x256x2816 .bf16)), Σ' (L3 : List (View.Piece (Elt F) S1x256x2816 .f32)), Σ' (L4 : List (View.Piece (Elt F) S1x256x1024 .f32)), Σ' (L5 : List (View.Piece (Elt F) S1x1024 .f32)), Σ' (L6 : List (View.Piece (Elt F) S2x1024 .f32)), Σ' (L7 : List (View.Piece (Elt F) S1x1x1024 .f32)), { L8 : List (View.Piece (Elt F) S2x264x1408 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ owns (c : Thread nD τ) arg16 fullShare y5
          ∗ owns (c : Thread nD τ) arg17 fullShare y6
          ∗ owns (c : Thread nD τ) arg18 fullShare y7
          ∗ owns (c : Thread nD τ) arg19 fullShare z
          ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare x6
              ∗ owns (c : Thread nD τ) arg9 fullShare x7
              ∗ owns (c : Thread nD τ) arg10 fullShare x8
              ∗ (∃ f, arg11.view.loc (c : Thread nD τ) ↦[arg11.view.set]{fullShare} arg11.view.writes (Elt F) f L0)
              ∗ (∃ f, arg12.view.loc (c : Thread nD τ) ↦[arg12.view.set]{fullShare} arg12.view.writes (Elt F) f L1)
              ∗ (∃ f, arg13.view.loc (c : Thread nD τ) ↦[arg13.view.set]{fullShare} arg13.view.writes (Elt F) f L2)
              ∗ (∃ f, arg14.view.loc (c : Thread nD τ) ↦[arg14.view.set]{fullShare} arg14.view.writes (Elt F) f L3)
              ∗ (∃ f, arg15.view.loc (c : Thread nD τ) ↦[arg15.view.set]{fullShare} arg15.view.writes (Elt F) f L4)
              ∗ (∃ f, arg16.view.loc (c : Thread nD τ) ↦[arg16.view.set]{fullShare} arg16.view.writes (Elt F) f L5)
              ∗ (∃ f, arg17.view.loc (c : Thread nD τ) ↦[arg17.view.set]{fullShare} arg17.view.writes (Elt F) f L6)
              ∗ (∃ f, arg18.view.loc (c : Thread nD τ) ↦[arg18.view.set]{fullShare} arg18.view.writes (Elt F) f L7)
              ∗ (∃ f, arg19.view.loc (c : Thread nD τ) ↦[arg19.view.set]{fullShare} arg19.view.writes (Elt F) f L8)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, fun E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d0, %g0, -, G0⟩, ⟨%d1, %g1, -, G1⟩, ⟨%d2, %g2, -, G2⟩, ⟨%d3, %g3, -, G3⟩, ⟨%d4, %g4, -, G4⟩, ⟨%g5, %hg5, G5⟩, ⟨%g6, %hg6, G6⟩, ⟨%g7, %hg7, G7⟩, ⟨%g8, %hg8, G8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg16.eq_unread hg5; obtain rfl := harg17.eq_unread hg6; obtain rfl := harg18.eq_unread hg7; obtain rfl := harg19.eq_unread hg8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    iexists _; iexact G8

end Cert.Kernel3Ideal.Fwd

end
-- ==== Proof.FwdFirst.lean ====
/- The forward call, the first tile of the first sequence: the run of the body with the list of stores it leaves in each result and in the kept rows. -/
module

public import proofs.«01_k».proof.Proof.FwdNext

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

set_option maxHeartbeats 4000000 in
set_option sl_exec.squeezeSlice true in
/-- The body at the first tile of the first sequence: from the blocks whole and what was kept, it leaves the blocks as they were and the listed stores in the results. -/
noncomputable def runFirst (hc0 : firstTile i) (hc1 : firstPoint i)
    (x0 : Vec F S1x256x1024 .f32) (x1 : Vec F S1x1x6144 .f32) (x2 : Vec F S4x1024x1408 .bf16) (x3 : Vec F S3x2816 .f32) (x4 : Vec F S1x2816 .f32) (x5 : Vec F S2816x1024 .bf16) (x6 : Vec F S1x1024 .f32) (x7 : Vec F S1x1024 .f32) (x8 : Vec F S1x256x1024 .f32) :
    Σ' (L0 : List (View.Piece (Elt F) S1x256x1024 .bf16)), Σ' (L1 : List (View.Piece (Elt F) S1x256x5632 .f32)), Σ' (L2 : List (View.Piece (Elt F) S1x256x2816 .bf16)), Σ' (L3 : List (View.Piece (Elt F) S1x256x2816 .f32)), Σ' (L4 : List (View.Piece (Elt F) S1x256x1024 .f32)), Σ' (L5 : List (View.Piece (Elt F) S1x1024 .f32)), Σ' (L6 : List (View.Piece (Elt F) S2x1024 .f32)), Σ' (L7 : List (View.Piece (Elt F) S1x1x1024 .f32)), { L8 : List (View.Piece (Elt F) S2x264x1408 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare x6
              ∗ owns (c : Thread nD τ) arg9 fullShare x7
              ∗ owns (c : Thread nD τ) arg10 fullShare x8
              ∗ (∃ f, arg11.view.loc (c : Thread nD τ) ↦[arg11.view.set]{fullShare} arg11.view.writes (Elt F) f L0)
              ∗ (∃ f, arg12.view.loc (c : Thread nD τ) ↦[arg12.view.set]{fullShare} arg12.view.writes (Elt F) f L1)
              ∗ (∃ f, arg13.view.loc (c : Thread nD τ) ↦[arg13.view.set]{fullShare} arg13.view.writes (Elt F) f L2)
              ∗ (∃ f, arg14.view.loc (c : Thread nD τ) ↦[arg14.view.set]{fullShare} arg14.view.writes (Elt F) f L3)
              ∗ (∃ f, arg15.view.loc (c : Thread nD τ) ↦[arg15.view.set]{fullShare} arg15.view.writes (Elt F) f L4)
              ∗ (∃ f, arg16.view.loc (c : Thread nD τ) ↦[arg16.view.set]{fullShare} arg16.view.writes (Elt F) f L5)
              ∗ (∃ f, arg17.view.loc (c : Thread nD τ) ↦[arg17.view.set]{fullShare} arg17.view.writes (Elt F) f L6)
              ∗ (∃ f, arg18.view.loc (c : Thread nD τ) ↦[arg18.view.set]{fullShare} arg18.view.writes (Elt F) f L7)
              ∗ (∃ f, arg19.view.loc (c : Thread nD τ) ↦[arg19.view.set]{fullShare} arg19.view.writes (Elt F) f L8)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, fun E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%d7, %g7, -, G7⟩, ⟨%d8, %g8, -, G8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    iexists _; iexact G8

end Cert.Kernel3Ideal.Fwd

end
-- ==== Proof.FwdNextEq.lean ====
/- The forward call: the stores of a point that is not the first tile of its sequence are those of the tile's values. -/
module

public import proofs.«01_k».proof.Proof.FwdNext
public import proofs.«01_k».proof.Proof.FwdTile
public import Idealize.ShloMosaic.Lib.WholeRead
public import Idealize.ShloMosaic.Lib.Pipeline.ReadBack

@[expose] public section

set_option maxRecDepth 16384

noncomputable section

namespace Cert.Kernel3Ideal.Fwd

open Cert.Kernel3Ideal.Gen Idealize.ShloMosaic Idealize.ShloMosaic.TcCoe

variable {F : FTy → Type} [FloatOps F]

/-- A load of a rectangle of a buffer held at `X` reads `X` there. -/
theorem read_rect {S : Shape} {e : EltTy} {m : Memref sig .tc .vmem S e} (h : m.IsWhole) (X : S.Idx → Elt F e) (r : Rect S) :
    View.readAt (Elt F) m.view r.toLoadRect (h.unread X) = View.ld X r := funext (h.readAt_unread X _)

/-- A load of one row of a slice of the carrying buffer held at `z` reads that row of `z`. -/
theorem read_row {m : Memref sig .tc .vmem S2x264x1408 .f32} (h : m.IsWhole) (z : Vec F S2x264x1408 .f32) (j k : ℕ) (hj : j < 2) (hk : k < 264) (i0 i1 h0 hs hw)
    (hn : (Rect.unit (s := S264x1408) ![k, 0] S1x1408.size i1).toLoadRect.shape.numel = _) :
    LoadRect.valAlong (lr := (Rect.unit (s := S264x1408) ![k, 0] S1x1408.size i1).toLoadRect) hn
      (View.readAt (Elt F) m.view ((Rect.unit (s := S2x264x1408) ![j, 0, 0] S1x264x1408.size i0).withinL
        ((Rect.unit (s := S264x1408) ![k, 0] S1x1408.size i1).toLoadRect.consLift ![1, 264, 1408] h0 hs) hw) (h.unread z)) =
      (fun y => z (ix3 ⟨j, hj⟩ ⟨k, hk⟩ (y 1)) : Vec F S1x1408 .f32) := by
  funext y
  refine (h.readAt_unread z _ _).trans (congrArg z ?_)
  have e : Shape.reshapeEquiv hn y = Fin.cons ⟨0, Nat.one_pos⟩ y := Shape.reshapeEquiv_cons_one (d := S1x1408.size) _ _
  funext a
  refine Fin.ext ((LoadRect.idx_apply ..).trans ?_)
  rw [e]
  match a with
  | 0 => rfl
  | 1 =>
    have : (y 0).val = 0 := by have : (y 0).val < 1 := (y 0).isLt; omega
    show 0 + k + 1 * (y 0).val = k
    omega
  | 2 =>
    show 0 + 0 + 1 * (y 1).val = (y 1).val
    omega

/-- A load of one row of a slice of the carrying buffer, after the fill of its first eight rows alone, reads that row of the fill. -/
theorem fill_row (v : View sig Kind.tc Space.vmem S2x264x1408 EltTy.f32) (Z : Vec F S2x8x1408 .f32) (j k : ℕ) (hj : j < 2) (hk : k < 8) (ib i0 i1 h0 hs hw)
    (hn : (Rect.unit (s := S264x1408) ![k, 0] S1x1408.size i1).toLoadRect.shape.numel = _) :
    LoadRect.valAlong (lr := (Rect.unit (s := S264x1408) ![k, 0] S1x1408.size i1).toLoadRect) hn
      (v.readCov [⟨Rect.unit (s := S2x264x1408) ![0, 0, 0] S2x8x1408.size ib, Z⟩] ((Rect.unit (s := S2x264x1408) ![j, 0, 0] S1x264x1408.size i0).withinL
        ((Rect.unit (s := S264x1408) ![k, 0] S1x1408.size i1).toLoadRect.consLift ![1, 264, 1408] h0 hs) hw)) =
      (fun y => Z (ix3 ⟨j, hj⟩ ⟨k, hk⟩ (y 1)) : Vec F S1x1408 .f32) := by
  rw [View.readCov_eq_canon']
  funext y
  have e : Shape.reshapeEquiv hn y = Fin.cons ⟨0, Nat.one_pos⟩ y := Shape.reshapeEquiv_cons_one (d := S1x1408.size) _ _
  refine (congrArg (View.canon _) ?_).trans (View.canon_cons_emb (Rect.unit (s := S2x264x1408) ![0, 0, 0] S2x8x1408.size ib) Z [] (ix3 ⟨j, hj⟩ ⟨k, hk⟩ (y 1)))
  funext a
  refine Fin.ext ((LoadRect.idx_apply ..).trans ?_)
  rw [e]
  match a with
  | 0 =>
    show j + 0 + 1 * 0 = 0 + 1 * j
    omega
  | 1 =>
    have : (y 0).val = 0 := by have : (y 0).val < 1 := (y 0).isLt; omega
    show 0 + k + 1 * (y 0).val = 0 + 1 * k
    omega
  | 2 =>
    show 0 + 0 + 1 * (y 1).val = 0 + 1 * (y 1).val
    omega

/-- The same of the second slice after a store of the first. -/
theorem past_row (v : View sig Kind.tc Space.vmem S2x264x1408 EltTy.f32) (Z : Vec F S2x8x1408 .f32) (k : ℕ) (hk : k < 8) (ib i0 i1 h0 hs hw ic ie f0 fs fw w)
    (hn : (Rect.unit (s := S264x1408) ![k, 0] S1x1408.size i1).toLoadRect.shape.numel = _) :
    LoadRect.valAlong (lr := (Rect.unit (s := S264x1408) ![k, 0] S1x1408.size i1).toLoadRect) hn
      (v.readCov [⟨(Rect.unit (s := S2x264x1408) ![0, 0, 0] S1x264x1408.size ic).within ((Rect.unit (s := S264x1408) ![0, 0] S8x1408.size ie).consLift ![1, 264, 1408] f0 fs) fw, w⟩,
        ⟨Rect.unit (s := S2x264x1408) ![0, 0, 0] S2x8x1408.size ib, Z⟩] ((Rect.unit (s := S2x264x1408) ![1, 0, 0] S1x264x1408.size i0).withinL
        ((Rect.unit (s := S264x1408) ![k, 0] S1x1408.size i1).toLoadRect.consLift ![1, 264, 1408] h0 hs) hw)) =
      (fun y => Z (ix3 ⟨1, by decide⟩ ⟨k, hk⟩ (y 1)) : Vec F S1x1408 .f32) := by
  refine Eq.trans (congrArg (LoadRect.valAlong hn) ?_) (fill_row v Z 1 k (by decide) hk ib i0 i1 h0 hs hw hn)
  rw [View.readCov_eq_canon', View.readCov_eq_canon']
  funext y
  refine View.canon_cons_of_not_mem _ _ fun hm => ?_
  obtain ⟨x, hx, e⟩ := (LoadRect.mem_set _).mp hm 0
  have hl : (((Rect.unit (s := S2x264x1408) ![1, 0, 0] S1x264x1408.size i0).withinL
        ((Rect.unit (s := S264x1408) ![k, 0] S1x1408.size i1).toLoadRect.consLift ![1, 264, 1408] h0 hs) hw).idx y 0).val = 1 + 0 + 1 * (y 0).val := LoadRect.idx_apply ..
  rw [hl] at e
  have e' : 1 + 0 + 1 * (y 0).val = 0 + 0 + 1 * x := e
  have hx' : x < 1 := hx
  omega

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

variable (B : Blk F) (z : Vec F S2x264x1408 .f32) (y5 : Vec F S1x1024 .f32) (y6 : Vec F S2x1024 .f32) (y7 : Vec F S1x1x1024 .f32)

/-- The rows as the body loads them. -/
def rowsN : Rows F :=
  ⟨LoadRect.valAlong (lr := (Rect.unit (s := S264x1408) ![7, 0] S1x1408.size inb_S264x1408_S1x1408_7_0).toLoadRect) (by exact LoadRect.numel_consLift _ _ lift0 liftS) (runNext.sl.v41 c arg19 harg19 z),
    LoadRect.valAlong (lr := (Rect.unit (s := S264x1408) ![6, 0] S1x1408.size inb_S264x1408_S1x1408_6_0).toLoadRect) (by exact LoadRect.numel_consLift _ _ lift0 liftS) (runNext.sl.v44 c arg19 harg19 z),
    LoadRect.valAlong (lr := (Rect.unit (s := S264x1408) ![7, 0] S1x1408.size inb_S264x1408_S1x1408_7_0).toLoadRect) (by exact LoadRect.numel_consLift _ _ lift0 liftS) (runNext.sl.v114 c arg19 harg19 z),
    LoadRect.valAlong (lr := (Rect.unit (s := S264x1408) ![6, 0] S1x1408.size inb_S264x1408_S1x1408_6_0).toLoadRect) (by exact LoadRect.numel_consLift _ _ lift0 liftS) (runNext.sl.v117 c arg19 harg19 z)⟩

/-- The rows kept for the next tile. -/
theorem rowsN_eq : rowsN c arg19 harg19 z = rowsOf z := by
  unfold rowsN rowsOf
  congr 1
  · exact read_row harg19 z 0 7 (by decide) (by decide) _ _ _ _ _ _
  · exact read_row harg19 z 0 6 (by decide) (by decide) _ _ _ _ _ _
  · exact read_row harg19 z 1 7 (by decide) (by decide) _ _ _ _ _ _
  · exact read_row harg19 z 1 6 (by decide) (by decide) _ _ _ _ _ _

set_option maxHeartbeats 400000 in
/-- The stores are the tile's. -/
theorem runNext_eq (hc0 : ¬firstTile i) (hc1 : ¬firstPoint i) (R : Rows F) (hR : R = rowsN c arg19 harg19 z)
    (r) (hr : r = runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg y5 y6 y7 z) :
    r.1 = uP B ∧ r.2.1 = hP B ∧ r.2.2.1 = fP B R ∧ r.2.2.2.1 = gP B R ∧ r.2.2.2.2.1 = zP B R ∧
      r.2.2.2.2.2.1 = lP B R (View.ld y5 (Rect.unit ![0, 0] S1x1024.size inb_S1x1024_S1x1024_0_0)) ∧
      r.2.2.2.2.2.2.1 = nP B R (View.ld y6 (Rect.unit ![0, 0] S1x1024.size inb_S2x1024_S1x1024_0_0)) (View.ld y6 (Rect.unit ![1, 0] S1x1024.size inb_S2x1024_S1x1024_1_0)) ∧
      r.2.2.2.2.2.2.2.1 = mP B R (View.ld y7 (Rect.unit ![0, 0, 0] S1x1x1024.size inb_S1x1x1024_S1x1x1024_0_0_0)) ∧
      r.2.2.2.2.2.2.2.2.val = cP B := by
  subst hR hr
  unfold runNext
  simp only [runNext.sl.r, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.v223, read_rect, rowsN, uP, hP, fP, gP, zP, lP, nP, mP, cP, ut, vt0, gt0, pt0, qt0, yt0, vt1, gt1, pt1, ft1, yt, rt, nt2, et, dt, mt]
  and_intros <;> first | exact trivial | rfl

end Cert.Kernel3Ideal.Fwd

end
-- ==== Proof.FwdFirstEq.lean ====
/- The forward call: the stores of the first tile of the first sequence are those of the tile's values. -/
module

public import proofs.«01_k».proof.Proof.FwdFirst
public import proofs.«01_k».proof.Proof.FwdNextEq
public import Idealize.ShloMosaic.Lib.Pipeline.ReadBack

@[expose] public section

set_option maxRecDepth 16384

noncomputable section

namespace Cert.Kernel3Ideal.Fwd

open Cert.Kernel3Ideal.Gen Idealize.ShloMosaic Idealize.ShloMosaic.TcCoe

variable {F : FTy → Type} [FloatOps F]

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

variable (B : Blk F)

/-- The rows as the body loads them. -/
def rowsF : Rows F :=
  ⟨LoadRect.valAlong (lr := (Rect.unit (s := S264x1408) ![7, 0] S1x1408.size inb_S264x1408_S1x1408_7_0).toLoadRect) (by exact LoadRect.numel_consLift _ _ lift0 liftS) (runFirst.sl.v41 c arg19),
    LoadRect.valAlong (lr := (Rect.unit (s := S264x1408) ![6, 0] S1x1408.size inb_S264x1408_S1x1408_6_0).toLoadRect) (by exact LoadRect.numel_consLift _ _ lift0 liftS) (runFirst.sl.v44 c arg19),
    LoadRect.valAlong (lr := (Rect.unit (s := S264x1408) ![7, 0] S1x1408.size inb_S264x1408_S1x1408_7_0).toLoadRect) (by exact LoadRect.numel_consLift _ _ lift0 liftS) (runFirst.sl.v114 c arg2 harg2 arg3 harg3 arg4 harg4 arg19 B.x B.md B.wup),
    LoadRect.valAlong (lr := (Rect.unit (s := S264x1408) ![6, 0] S1x1408.size inb_S264x1408_S1x1408_6_0).toLoadRect) (by exact LoadRect.numel_consLift _ _ lift0 liftS) (runFirst.sl.v117 c arg2 harg2 arg3 harg3 arg4 harg4 arg19 B.x B.md B.wup)⟩

/-- They are the rows a sequence starts from. -/
theorem rowsF_eq : rowsF c arg2 harg2 arg3 harg3 arg4 harg4 arg19 B = zeroRows := by
  unfold rowsF zeroRows runFirst.sl.v41 runFirst.sl.v44 runFirst.sl.v114 runFirst.sl.v117 runFirst.sl.G8_2 runFirst.sl.G8_1
  congr 1
  · exact fill_row arg19.view _ 0 7 (by decide) (by decide) _ _ _ _ _ _ _
  · exact fill_row arg19.view _ 0 6 (by decide) (by decide) _ _ _ _ _ _ _
  · exact past_row arg19.view _ 7 (by decide) _ _ _ _ _ _ _ _ _ _ _ _ _
  · exact past_row arg19.view _ 6 (by decide) _ _ _ _ _ _ _ _ _ _ _ _ _

/-- The loss is loaded as its fill. -/
theorem loss_F : runFirst.sl.v204 (F := F) c arg16 = View.ld k0_pay6 (Rect.unit ![0, 0] S1x1024.size inb_S1x1024_S1x1024_0_0) := by
  unfold runFirst.sl.v204 runFirst.sl.G5_1
  exact View.readCov_fill _ _ _ _ _ (by decide)

/-- The norm's gradients are loaded as their fill. -/
theorem norm0_F : runFirst.sl.v216 (F := F) c arg17 = View.ld k0_pay7 (Rect.unit (s := S2x1024) ![0, 0] S1x1024.size inb_S2x1024_S1x1024_0_0) := by
  unfold runFirst.sl.v216 runFirst.sl.G6_1
  exact View.readCov_fill _ _ _ _ _ (by decide)

@[inherit_doc norm0_F] theorem norm1_F : runFirst.sl.v223 c arg2 harg2 arg3 harg3 arg4 harg4 arg5 harg5 arg6 harg6 arg7 harg7 arg8 harg8 arg9 harg9 arg10 harg10 arg17 arg19 B.x B.md B.wup B.cw B.cb B.wdn B.g2 B.b2 B.tg = View.ld k0_pay7 (Rect.unit (s := S2x1024) ![1, 0] S1x1024.size inb_S2x1024_S1x1024_1_0) := by
  unfold runFirst.sl.v223 runFirst.sl.G6_2
  refine (View.readCov_skip _ _ _ _ _ (by decide)).trans ?_
  unfold runFirst.sl.G6_1
  exact View.readCov_fill _ _ _ _ _ (by decide)

/-- The modulation gate's gradient is loaded as its fill. -/
theorem gate_F : runFirst.sl.v251 (F := F) c arg18 = View.ld k0_pay5 (Rect.unit ![0, 0, 0] S1x1x1024.size inb_S1x1x1024_S1x1x1024_0_0_0) := by
  unfold runFirst.sl.v251 runFirst.sl.G7_1
  exact View.readCov_fill _ _ _ _ _ (by decide)

set_option maxHeartbeats 400000 in
/-- The stores are the tile's, over the fills. -/
theorem runFirst_eq (hc0 : firstTile i) (hc1 : firstPoint i) (R : Rows F) (hR : R = rowsF c arg2 harg2 arg3 harg3 arg4 harg4 arg19 B)
    (r) (hr : r = runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg) :
    r.1 = uP B ∧ r.2.1 = hP B ∧ r.2.2.1 = fP B R ∧ r.2.2.2.1 = gP B R ∧ r.2.2.2.2.1 = zP B R ∧
      r.2.2.2.2.2.1 = lP B R (View.ld k0_pay6 (Rect.unit ![0, 0] S1x1024.size inb_S1x1024_S1x1024_0_0)) ++ runFirst.sl.G5_1 ∧
      r.2.2.2.2.2.2.1 = nP B R (View.ld k0_pay7 (Rect.unit (s := S2x1024) ![0, 0] S1x1024.size inb_S2x1024_S1x1024_0_0)) (View.ld k0_pay7 (Rect.unit (s := S2x1024) ![1, 0] S1x1024.size inb_S2x1024_S1x1024_1_0)) ++ runFirst.sl.G6_1 ∧
      r.2.2.2.2.2.2.2.1 = mP B R (View.ld k0_pay5 (Rect.unit ![0, 0, 0] S1x1x1024.size inb_S1x1x1024_S1x1x1024_0_0_0)) ++ runFirst.sl.G7_1 ∧
      r.2.2.2.2.2.2.2.2.val = cP B ++ runFirst.sl.G8_1 := by
  subst hR hr
  unfold runFirst
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, loss_F, norm0_F, norm1_F, runFirst.sl.G6_2, gate_F, runFirst.sl.G8_2, read_rect, rowsF, uP, hP, fP, gP, zP, lP, nP, mP, cP, ut, vt0, gt0, pt0, qt0, yt0, vt1, gt1, pt1, ft1, yt, rt, nt2, et, dt, mt, List.cons_append, List.nil_append]
  and_intros <;> first | exact trivial | rfl

end Cert.Kernel3Ideal.Fwd

end
-- ==== Proof.FwdOpenEq.lean ====
/- The forward call: the stores of the first tile of a later sequence are those of the tile's values. -/
module

public import proofs.«01_k».proof.Proof.FwdOpen
public import proofs.«01_k».proof.Proof.FwdNextEq
public import Idealize.ShloMosaic.Lib.Pipeline.ReadBack

@[expose] public section

set_option maxRecDepth 16384

noncomputable section

namespace Cert.Kernel3Ideal.Fwd

open Cert.Kernel3Ideal.Gen Idealize.ShloMosaic Idealize.ShloMosaic.TcCoe

variable {F : FTy → Type} [FloatOps F]

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

variable (B : Blk F) (y5 : Vec F S1x1024 .f32) (y6 : Vec F S2x1024 .f32)

/-- The rows as the body loads them. -/
def rowsO : Rows F :=
  ⟨LoadRect.valAlong (lr := (Rect.unit (s := S264x1408) ![7, 0] S1x1408.size inb_S264x1408_S1x1408_7_0).toLoadRect) (by exact LoadRect.numel_consLift _ _ lift0 liftS) (runOpen.sl.v41 c arg19),
    LoadRect.valAlong (lr := (Rect.unit (s := S264x1408) ![6, 0] S1x1408.size inb_S264x1408_S1x1408_6_0).toLoadRect) (by exact LoadRect.numel_consLift _ _ lift0 liftS) (runOpen.sl.v44 c arg19),
    LoadRect.valAlong (lr := (Rect.unit (s := S264x1408) ![7, 0] S1x1408.size inb_S264x1408_S1x1408_7_0).toLoadRect) (by exact LoadRect.numel_consLift _ _ lift0 liftS) (runOpen.sl.v114 c arg2 harg2 arg3 harg3 arg4 harg4 arg19 B.x B.md B.wup),
    LoadRect.valAlong (lr := (Rect.unit (s := S264x1408) ![6, 0] S1x1408.size inb_S264x1408_S1x1408_6_0).toLoadRect) (by exact LoadRect.numel_consLift _ _ lift0 liftS) (runOpen.sl.v117 c arg2 harg2 arg3 harg3 arg4 harg4 arg19 B.x B.md B.wup)⟩

/-- They are the rows a sequence starts from. -/
theorem rowsO_eq : rowsO c arg2 harg2 arg3 harg3 arg4 harg4 arg19 B = zeroRows := by
  unfold rowsO zeroRows runOpen.sl.v41 runOpen.sl.v44 runOpen.sl.v114 runOpen.sl.v117 runOpen.sl.G8_2 runOpen.sl.G8_1
  congr 1
  · exact fill_row arg19.view _ 0 7 (by decide) (by decide) _ _ _ _ _ _ _
  · exact fill_row arg19.view _ 0 6 (by decide) (by decide) _ _ _ _ _ _ _
  · exact past_row arg19.view _ 7 (by decide) _ _ _ _ _ _ _ _ _ _ _ _ _
  · exact past_row arg19.view _ 6 (by decide) _ _ _ _ _ _ _ _ _ _ _ _ _

/-- The modulation gate's gradient is loaded as its fill. -/
theorem gate_O : runOpen.sl.v251 (F := F) c arg18 = View.ld k0_pay5 (Rect.unit ![0, 0, 0] S1x1x1024.size inb_S1x1x1024_S1x1x1024_0_0_0) := by
  unfold runOpen.sl.v251 runOpen.sl.G7_1
  exact View.readCov_fill _ _ _ _ _ (by decide)

set_option maxHeartbeats 400000 in
/-- The stores are the tile's, over the fills. -/
theorem runOpen_eq (hc0 : firstTile i) (hc1 : ¬firstPoint i) (R : Rows F) (hR : R = rowsO c arg2 harg2 arg3 harg3 arg4 harg4 arg19 B)
    (r) (hr : r = runOpen c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg y5 y6) :
    r.1 = uP B ∧ r.2.1 = hP B ∧ r.2.2.1 = fP B R ∧ r.2.2.2.1 = gP B R ∧ r.2.2.2.2.1 = zP B R ∧
      r.2.2.2.2.2.1 = lP B R (View.ld y5 (Rect.unit ![0, 0] S1x1024.size inb_S1x1024_S1x1024_0_0)) ∧
      r.2.2.2.2.2.2.1 = nP B R (View.ld y6 (Rect.unit ![0, 0] S1x1024.size inb_S2x1024_S1x1024_0_0)) (View.ld y6 (Rect.unit ![1, 0] S1x1024.size inb_S2x1024_S1x1024_1_0)) ∧
      r.2.2.2.2.2.2.2.1 = mP B R (View.ld k0_pay5 (Rect.unit ![0, 0, 0] S1x1x1024.size inb_S1x1x1024_S1x1x1024_0_0_0)) ++ runOpen.sl.G7_1 ∧
      r.2.2.2.2.2.2.2.2.val = cP B ++ runOpen.sl.G8_1 := by
  subst hR hr
  unfold runOpen
  simp only [runOpen.sl.r, runOpen.sl.r_1, runOpen.sl.r_2, runOpen.sl.r_3, runOpen.sl.r_4, runOpen.sl.r_5, runOpen.sl.r_6, runOpen.sl.r_7, runOpen.sl.r_8, runOpen.sl.r_9, runOpen.sl.r_10, runOpen.sl.r_11, runOpen.sl.r_12, runOpen.sl.r_13, runOpen.sl.r_14, runOpen.sl.r_15, runOpen.sl.r_16, runOpen.sl.r_17, runOpen.sl.r_18, runOpen.sl.r_19, runOpen.sl.r_20, runOpen.sl.r_21, runOpen.sl.v223, gate_O, runOpen.sl.G8_2, read_rect, rowsO, uP, hP, fP, gP, zP, lP, nP, mP, cP, ut, vt0, gt0, pt0, qt0, yt0, vt1, gt1, pt1, ft1, yt, rt, nt2, et, dt, mt, List.cons_append, List.nil_append]
  and_intros <;> first | exact trivial | rfl

end Cert.Kernel3Ideal.Fwd

end
-- ==== Proof.FwdPost.lean ====
/- The forward call, one grid point: what the body leaves, whichever of its three cases the point is in. -/
module

public import proofs.«01_k».proof.Proof.FwdFirstEq
public import proofs.«01_k».proof.Proof.FwdOpenEq

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Earlier stores are not seen where later ones cover. -/
theorem canon_over {S : Shape} {e : EltTy} (L' : List (View.Piece (Elt F) S e)) (y : S.Idx) :
    ∀ (L : List (View.Piece (Elt F) S e)), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' y L ?_
      obtain ⟨q, hq, hyq⟩ := h
      rcases List.mem_cons.mp hq with rfl | hq'
      · exact absurd hyq hm
      · exact ⟨q, hq', hyq⟩

/-- A buffer written by a list of stores whose last ones cover it is held at what those make. -/
theorem keep (c : Dev nD) {S : Shape} {e : EltTy} (a : Memref sig .tc .vmem S e) {L M : List (View.Piece (Elt F) S e)}
    (h : ∀ y, ∃ p ∈ L, y ∈ p.1.set) (hp : L <+: M) :
    (iprop(∃ f, a.view.loc (c : Thread nD τ) ↦[a.view.set]{fullShare} a.view.writes (Elt F) f M) : sProp 𝕄)
      ⊢ owns (c : Thread nD τ) a fullShare (View.canon L) := by
  iintro ⟨%f, H⟩
  unfold owns; iexists _; isplitr
  swap; · iexact H
  ipureintro
  obtain ⟨L', rfl⟩ := hp
  funext y
  rw [View.read_writes_apply_eq_canon _ _ _ _ (by obtain ⟨p, hp, hy⟩ := h y; exact ⟨p, List.mem_append_left _ hp, hy⟩)]
  exact canon_over L' y L (h y)

/-- The piece that carries the last rows of slice `j`. -/
abbrev cpiece (j : ℕ) (i0 : ∀ a : Fin 3, (![j, 0, 0] : Fin 3 → ℕ) a + S1x264x1408.size a ≤ S2x264x1408.size a) (w : Vec F S8x1408 .f32) : View.Piece (Elt F) S2x264x1408 .f32 :=
  ⟨(Rect.unit (s := S2x264x1408) ![j, 0, 0] S1x264x1408.size i0).within
        ((Rect.unit (s := S264x1408) ![0, 0] S8x1408.size inb_S264x1408_S8x1408_0_0).consLift ![1, 264, 1408] lift0 liftS) (fun _ => rfl),
      Rect.payAlong (r := Rect.unit (s := S264x1408) ![0, 0] S8x1408.size inb_S264x1408_S8x1408_0_0)
        (Rect.numel_consLift _ _ lift0 liftS) w⟩

/-- Where an entry of it lies. -/
theorem cpiece_at (j : ℕ) (hj : j < 2) (i0) (k : ℕ) (hk : k < 8) (f : Fin 1408) :
    (ix3 ⟨j, hj⟩ ⟨k, by omega⟩ f : S2x264x1408.Idx) = (Rect.unit (s := S2x264x1408) ![j, 0, 0] S1x264x1408.size i0).emb
      (((Rect.unit (s := S264x1408) ![0, 0] S8x1408.size inb_S264x1408_S8x1408_0_0).consLift ![1, 264, 1408] lift0 liftS).emb (ix3 0 ⟨k, hk⟩ f)) := by
  funext a
  refine Fin.ext ?_
  match a with
  | 0 =>
    show j = j + 1 * (0 + 1 * 0)
    omega
  | 1 =>
    show k = 0 + 1 * (0 + 1 * k)
    omega
  | 2 =>
    show f.val = 0 + 1 * (0 + 1 * f.val)
    omega

/-- An entry of the last piece is its payload's. -/
theorem cpiece_get (j : ℕ) (hj : j < 2) (i0) (w : Vec F S8x1408 .f32) (L) (k : ℕ) (hk : k < 8) (f : Fin 1408) :
    View.canon (cpiece j i0 w :: L) (ix3 ⟨j, hj⟩ ⟨k, by omega⟩ f) = w (ix2 ⟨k, hk⟩ f) := by
  refine (congrArg _ (cpiece_at j hj i0 k hk f)).trans ((View.canon_cons_within_emb (Rect.unit (s := S2x264x1408) ![j, 0, 0] S1x264x1408.size i0)
    ((Rect.unit (s := S264x1408) ![0, 0] S8x1408.size inb_S264x1408_S8x1408_0_0).consLift ![1, 264, 1408] lift0 liftS) (fun _ => rfl) _ L (ix3 0 ⟨k, hk⟩ f)).trans
      (Rect.payAlong_consLift (Rect.unit (s := S264x1408) ![0, 0] S8x1408.size inb_S264x1408_S8x1408_0_0) ![1, 264, 1408] lift0 liftS w (Rect.numel_consLift _ _ lift0 liftS) (ix3 0 ⟨k, hk⟩ f) (ix2 ⟨k, hk⟩ f) fun a => ?_))
  match a with
  | 0 => rfl
  | 1 => rfl

/-- An entry of the first slice is not of the second's piece. -/
theorem cpiece_skip (i0) (w : Vec F S8x1408 .f32) (L) (k : Fin 264) (f : Fin 1408) :
    View.canon (cpiece 1 i0 w :: L) (ix3 ⟨0, by decide⟩ k f) = View.canon L (ix3 ⟨0, by decide⟩ k f) := by
  refine View.canon_cons_of_not_mem _ _ fun hm => ?_
  obtain ⟨x, hx, e⟩ := (LoadRect.mem_set _).mp hm 0
  have e' : 0 = 1 + 0 + 1 * x := e
  omega

/-- An entry of a piece is in its rectangle. -/
theorem cpiece_mem (j : ℕ) (hj : j < 2) (i0) (w : Vec F S8x1408 .f32) (k : ℕ) (hk : k < 8) (f : Fin 1408) :
    (ix3 ⟨j, hj⟩ ⟨k, by omega⟩ f : S2x264x1408.Idx) ∈ (cpiece j i0 w).1.set := by
  have e := (cpiece_at j hj i0 k hk f).trans (Rect.emb_within (Rect.unit (s := S2x264x1408) ![j, 0, 0] S1x264x1408.size i0) ((Rect.unit (s := S264x1408) ![0, 0] S8x1408.size inb_S264x1408_S8x1408_0_0).consLift ![1, 264, 1408] lift0 liftS) (fun _ => rfl) (ix3 0 ⟨k, hk⟩ f)).symm
  rw [e]
  exact LoadRect.idx_mem _ _

/-- The buffer that carries the rows holds the next tile's. -/
theorem carry (c : Dev nD) (B : Blk F) (a : Memref sig .tc .vmem S2x264x1408 .f32) {M : List (View.Piece (Elt F) S2x264x1408 .f32)} (hp : cP B <+: M) :
    (iprop(∃ f, a.view.loc (c : Thread nD τ) ↦[a.view.set]{fullShare} a.view.writes (Elt F) f M) : sProp 𝕄)
      ⊢ iprop(∃ z, ⌜rowsOf z = nextRows B⌝ ∗ owns (c : Thread nD τ) a fullShare z) := by
  iintro ⟨%f, H⟩
  iexists (a.view.read (Elt F) (a.view.writes (Elt F) f M))
  isplitr
  · ipureintro
    obtain ⟨L', rfl⟩ := hp
    have h1 (k : ℕ) (hk : k < 8) (g : Fin 1408) : a.view.read (Elt F) (a.view.writes (Elt F) f (cP B ++ L')) (ix3 ⟨1, by decide⟩ ⟨k, by omega⟩ g) =
        k0_pay35 (gt1 B) (ix2 ⟨k, hk⟩ g) :=
      (View.read_writes_apply_eq_canon _ _ _ _ ⟨_, List.mem_append_left _ List.mem_cons_self, cpiece_mem 1 (by decide) _ _ k hk g⟩).trans
        (cpiece_get 1 (by decide) _ _ _ k hk g)
    have h0 (k : ℕ) (hk : k < 8) (g : Fin 1408) : a.view.read (Elt F) (a.view.writes (Elt F) f (cP B ++ L')) (ix3 ⟨0, by decide⟩ ⟨k, by omega⟩ g) =
        k0_pay21 (gt0 B) (ix2 ⟨k, hk⟩ g) :=
      (View.read_writes_apply_eq_canon _ _ _ _ ⟨_, List.mem_append_left _ (List.mem_cons_of_mem _ List.mem_cons_self), cpiece_mem 0 (by decide) _ _ k hk g⟩).trans
        ((cpiece_skip _ _ _ _ _).trans (cpiece_get 0 (by decide) _ _ _ k hk g))
    unfold rowsOf nextRows
    congr 1
    · exact funext fun y => h0 7 (by decide) _
    · exact funext fun y => h0 6 (by decide) _
    · exact funext fun y => h1 7 (by decide) _
    · exact funext fun y => h1 6 (by decide) _
  unfold owns; iexists _; isplitr
  swap; · iexact H
  ipureintro; rfl

variable (c : Dev nD) (i : grid0.Coords)
  (arg2 : Memref sig .tc .vmem S1x256x1024 .f32) (harg2 : arg2.IsWhole)
  (arg3 : Memref sig .tc .vmem S1x1x6144 .f32) (harg3 : arg3.IsWhole)
  (arg4 : Memref sig .tc .vmem S4x1024x1408 .bf16) (harg4 : arg4.IsWhole)
  (arg5 : Memref sig .tc .vmem S3x2816 .f32) (harg5 : arg5.IsWhole)
  (arg6 : Memref sig .tc .vmem S1x2816 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x256x1024 .f32) (harg10 : arg10.IsWhole)
  (arg11 : Memref sig .tc .vmem S1x256x1024 .bf16) (harg11 : arg11.IsWhole)
  (arg12 : Memref sig .tc .vmem S1x256x5632 .f32) (harg12 : arg12.IsWhole)
  (arg13 : Memref sig .tc .vmem S1x256x2816 .bf16) (harg13 : arg13.IsWhole)
  (arg14 : Memref sig .tc .vmem S1x256x2816 .f32) (harg14 : arg14.IsWhole)
  (arg15 : Memref sig .tc .vmem S1x256x1024 .f32) (harg15 : arg15.IsWhole)
  (arg16 : Memref sig .tc .vmem S1x1024 .f32) (harg16 : arg16.IsWhole)
  (arg17 : Memref sig .tc .vmem S2x1024 .f32) (harg17 : arg17.IsWhole)
  (arg18 : Memref sig .tc .vmem S1x1x1024 .f32) (harg18 : arg18.IsWhole)
  (arg19 : Memref sig .tc .vmem S2x264x1408 .f32) (harg19 : arg19.IsWhole)

variable (B : Blk F) (R : Rows F) (l : Vec F S1x1024 .f32) (n0 n1 : Vec F S1x1024 .f32) (d : Vec F S1x1x1024 .f32)

/-- What the body leaves: the inputs as they were, the outputs at what the stores make, the rows of the next tile in the buffer that carries them. -/
def held : sProp 𝕄 :=
  iprop(owns (c : Thread nD τ) arg2 fullShare B.x ∗ owns (c : Thread nD τ) arg3 fullShare B.md ∗ owns (c : Thread nD τ) arg4 fullShare B.wup ∗ owns (c : Thread nD τ) arg5 fullShare B.cw ∗ owns (c : Thread nD τ) arg6 fullShare B.cb ∗ owns (c : Thread nD τ) arg7 fullShare B.wdn ∗ owns (c : Thread nD τ) arg8 fullShare B.g2 ∗ owns (c : Thread nD τ) arg9 fullShare B.b2 ∗ owns (c : Thread nD τ) arg10 fullShare B.tg
    ∗ owns (c : Thread nD τ) arg11 fullShare (View.canon (uP B))
    ∗ owns (c : Thread nD τ) arg12 fullShare (View.canon (hP B))
    ∗ owns (c : Thread nD τ) arg13 fullShare (View.canon (fP B R))
    ∗ owns (c : Thread nD τ) arg14 fullShare (View.canon (gP B R))
    ∗ owns (c : Thread nD τ) arg15 fullShare (View.canon (zP B R))
    ∗ owns (c : Thread nD τ) arg16 fullShare (View.canon (lP B R l))
    ∗ owns (c : Thread nD τ) arg17 fullShare (View.canon (nP B R n0 n1))
    ∗ owns (c : Thread nD τ) arg18 fullShare (View.canon (mP B R d))
    ∗ (∃ z, ⌜rowsOf z = nextRows B⌝ ∗ owns (c : Thread nD τ) arg19 fullShare z))

/-- It is what the stores leave, earlier fills or not. -/
theorem collect {L0 : List (View.Piece (Elt F) S1x256x1024 .bf16)} {L1 : List (View.Piece (Elt F) S1x256x5632 .f32)} {L2 : List (View.Piece (Elt F) S1x256x2816 .bf16)} {L3 : List (View.Piece (Elt F) S1x256x2816 .f32)} {L4 : List (View.Piece (Elt F) S1x256x1024 .f32)} {L5 : List (View.Piece (Elt F) S1x1024 .f32)} {L6 : List (View.Piece (Elt F) S2x1024 .f32)} {L7 : List (View.Piece (Elt F) S1x1x1024 .f32)} {L8 : List (View.Piece (Elt F) S2x264x1408 .f32)}
    (h0 : uP B <+: L0) (h1 : hP B <+: L1) (h2 : fP B R <+: L2) (h3 : gP B R <+: L3) (h4 : zP B R <+: L4) (h5 : lP B R l <+: L5) (h6 : nP B R n0 n1 <+: L6) (h7 : mP B R d <+: L7) (h8 : cP B <+: L8) :
    (iprop(owns (c : Thread nD τ) arg2 fullShare B.x ∗ owns (c : Thread nD τ) arg3 fullShare B.md ∗ owns (c : Thread nD τ) arg4 fullShare B.wup ∗ owns (c : Thread nD τ) arg5 fullShare B.cw ∗ owns (c : Thread nD τ) arg6 fullShare B.cb ∗ owns (c : Thread nD τ) arg7 fullShare B.wdn ∗ owns (c : Thread nD τ) arg8 fullShare B.g2 ∗ owns (c : Thread nD τ) arg9 fullShare B.b2 ∗ owns (c : Thread nD τ) arg10 fullShare B.tg
      ∗ (∃ f, arg11.view.loc (c : Thread nD τ) ↦[arg11.view.set]{fullShare} arg11.view.writes (Elt F) f L0)
      ∗ (∃ f, arg12.view.loc (c : Thread nD τ) ↦[arg12.view.set]{fullShare} arg12.view.writes (Elt F) f L1)
      ∗ (∃ f, arg13.view.loc (c : Thread nD τ) ↦[arg13.view.set]{fullShare} arg13.view.writes (Elt F) f L2)
      ∗ (∃ f, arg14.view.loc (c : Thread nD τ) ↦[arg14.view.set]{fullShare} arg14.view.writes (Elt F) f L3)
      ∗ (∃ f, arg15.view.loc (c : Thread nD τ) ↦[arg15.view.set]{fullShare} arg15.view.writes (Elt F) f L4)
      ∗ (∃ f, arg16.view.loc (c : Thread nD τ) ↦[arg16.view.set]{fullShare} arg16.view.writes (Elt F) f L5)
      ∗ (∃ f, arg17.view.loc (c : Thread nD τ) ↦[arg17.view.set]{fullShare} arg17.view.writes (Elt F) f L6)
      ∗ (∃ f, arg18.view.loc (c : Thread nD τ) ↦[arg18.view.set]{fullShare} arg18.view.writes (Elt F) f L7)
      ∗ (∃ f, arg19.view.loc (c : Thread nD τ) ↦[arg19.view.set]{fullShare} arg19.view.writes (Elt F) f L8)) : sProp 𝕄)
    ⊢ held c arg2 arg3 arg4 arg5 arg6 arg7 arg8 arg9 arg10 arg11 arg12 arg13 arg14 arg15 arg16 arg17 arg18 arg19 B R l n0 n1 d := by
  unfold held
  iterate 9 refine BIClass.sep_mono .rfl ?_
  refine BIClass.sep_mono (keep c _ (uP_cover B) h0) ?_
  refine BIClass.sep_mono (keep c _ (hP_cover B) h1) ?_
  refine BIClass.sep_mono (keep c _ (fP_cover B R) h2) ?_
  refine BIClass.sep_mono (keep c _ (gP_cover B R) h3) ?_
  refine BIClass.sep_mono (keep c _ (zP_cover B R) h4) ?_
  refine BIClass.sep_mono (keep c _ (lP_cover B R l) h5) ?_
  refine BIClass.sep_mono (keep c _ (nP_cover B R n0 n1) h6) ?_
  refine BIClass.sep_mono (keep c _ (mP_cover B R d) h7) ?_
  exact carry c B _ h8

variable (y5 : Vec F S1x1024 .f32) (y6 : Vec F S2x1024 .f32) (y7 : Vec F S1x1x1024 .f32) (z : Vec F S2x264x1408 .f32)

open Classical in
/-- The rows a point starts from. -/
def inRows : Rows F := if firstTile i then zeroRows else rowsOf z
open Classical in
/-- The loss, the norm's gradients and the modulation gate's gradient a point starts from. -/
def inLoss : Vec F S1x1024 .f32 := if firstPoint i then k0_pay6 else y5
open Classical in
@[inherit_doc inLoss] def inNorm : Vec F S2x1024 .f32 := if firstPoint i then k0_pay7 else y6
open Classical in
@[inherit_doc inLoss] def inGate : Vec F S1x1x1024 .f32 := if firstTile i then k0_pay5 else y7

/-- The loss as it is loaded, the two rows of the norm's gradients, and the gate's gradient. -/
abbrev ldLoss (y : Vec F S1x1024 .f32) : Vec F S1x1024 .f32 := View.ld y (Rect.unit ![0, 0] S1x1024.size inb_S1x1024_S1x1024_0_0)
@[inherit_doc ldLoss] abbrev ldNorm0 (y : Vec F S2x1024 .f32) : Vec F S1x1024 .f32 := View.ld y (Rect.unit (s := S2x1024) ![0, 0] S1x1024.size inb_S2x1024_S1x1024_0_0)
@[inherit_doc ldLoss] abbrev ldNorm1 (y : Vec F S2x1024 .f32) : Vec F S1x1024 .f32 := View.ld y (Rect.unit (s := S2x1024) ![1, 0] S1x1024.size inb_S2x1024_S1x1024_1_0)
@[inherit_doc ldLoss] abbrev ldGate (y : Vec F S1x1x1024 .f32) : Vec F S1x1x1024 .f32 := View.ld y (Rect.unit ![0, 0, 0] S1x1x1024.size inb_S1x1x1024_S1x1x1024_0_0_0)

/-- A list of stores equal to one begins with it. -/
theorem prefix_of_eq {α : Type} {L M : List α} (h : M = L) : L <+: M := ⟨[], by rw [List.append_nil, h]⟩

/-- The body at any point: from any contents of its outputs and of the buffer that carries the rows, it leaves `held`. -/
theorem step (h01 : firstPoint i → firstTile i) (K : PUnit → sProp 𝕄) :
    iprop(owns (c : Thread nD τ) arg2 fullShare B.x ∗ owns (c : Thread nD τ) arg3 fullShare B.md ∗ owns (c : Thread nD τ) arg4 fullShare B.wup ∗ owns (c : Thread nD τ) arg5 fullShare B.cw ∗ owns (c : Thread nD τ) arg6 fullShare B.cb ∗ owns (c : Thread nD τ) arg7 fullShare B.wdn ∗ owns (c : Thread nD τ) arg8 fullShare B.g2 ∗ owns (c : Thread nD τ) arg9 fullShare B.b2 ∗ owns (c : Thread nD τ) arg10 fullShare B.tg
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ owns (c : Thread nD τ) arg16 fullShare y5 ∗ owns (c : Thread nD τ) arg17 fullShare y6 ∗ owns (c : Thread nD τ) arg18 fullShare y7 ∗ owns (c : Thread nD τ) arg19 fullShare z
      ∗ (held c arg2 arg3 arg4 arg5 arg6 arg7 arg8 arg9 arg10 arg11 arg12 arg13 arg14 arg15 arg16 arg17 arg18 arg19 B (inRows i z) (ldLoss (inLoss i y5)) (ldNorm0 (inNorm i y6)) (ldNorm1 (inNorm i y6)) (ldGate (inGate i y7)) -∗ K ⟨⟩))
    ⊢ wp frame (wpE (defs₀ (F := F)) Variants.none c none) Set.univ (cc0_ffn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases hc0 : firstTile i
  · by_cases hc1 : firstPoint i
    · obtain ⟨r, hr⟩ : ∃ r, r = runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg := ⟨_, rfl⟩
      have e := runFirst_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B hc0 hc1 _ (rowsF_eq c arg2 harg2 arg3 harg3 arg4 harg4 arg19 B).symm r hr
      clear hr
      obtain ⟨L0, L1, L2, L3, L4, L5, L6, L7, L8, h⟩ := r
      obtain ⟨e0, e1, e2, e3, e4, e5, e6, e7, e8⟩ := e
      refine .trans ?_ (h Set.univ K)
      simp only [inRows, inLoss, inNorm, inGate, if_pos hc0, if_pos hc1]
      iterate 14 refine BIClass.sep_mono .rfl ?_
      iterate 4 refine BIClass.sep_mono (exists_intro _) ?_
      exact wand_mono (collect c arg2 arg3 arg4 arg5 arg6 arg7 arg8 arg9 arg10 arg11 arg12 arg13 arg14 arg15 arg16 arg17 arg18 arg19 B _ _ _ _ _ (prefix_of_eq e0) (prefix_of_eq e1) (prefix_of_eq e2) (prefix_of_eq e3) (prefix_of_eq e4) ⟨_, e5.symm⟩ ⟨_, e6.symm⟩ ⟨_, e7.symm⟩ ⟨_, e8.symm⟩) .rfl
    · obtain ⟨r, hr⟩ : ∃ r, r = runOpen c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg y5 y6 := ⟨_, rfl⟩
      have e := runOpen_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B y5 y6 hc0 hc1 _ (rowsO_eq c arg2 harg2 arg3 harg3 arg4 harg4 arg19 B).symm r hr
      clear hr
      obtain ⟨L0, L1, L2, L3, L4, L5, L6, L7, L8, h⟩ := r
      obtain ⟨e0, e1, e2, e3, e4, e5, e6, e7, e8⟩ := e
      refine .trans ?_ (h Set.univ K)
      simp only [inRows, inLoss, inNorm, inGate, if_pos hc0, if_neg hc1]
      iterate 16 refine BIClass.sep_mono .rfl ?_
      iterate 2 refine BIClass.sep_mono (exists_intro _) ?_
      exact wand_mono (collect c arg2 arg3 arg4 arg5 arg6 arg7 arg8 arg9 arg10 arg11 arg12 arg13 arg14 arg15 arg16 arg17 arg18 arg19 B _ _ _ _ _ (prefix_of_eq e0) (prefix_of_eq e1) (prefix_of_eq e2) (prefix_of_eq e3) (prefix_of_eq e4) (prefix_of_eq e5) (prefix_of_eq e6) ⟨_, e7.symm⟩ ⟨_, e8.symm⟩) .rfl
  · have hc1 : ¬firstPoint i := fun h => hc0 (h01 h)
    obtain ⟨r, hr⟩ : ∃ r, r = runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 B.x B.md B.wup B.cw B.cb B.wdn B.g2 B.b2 B.tg y5 y6 y7 z := ⟨_, rfl⟩
    have e := runNext_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B z y5 y6 y7 hc0 hc1 _ (rowsN_eq c arg19 harg19 z).symm r hr
    clear hr
    obtain ⟨L0, L1, L2, L3, L4, L5, L6, L7, L8, h⟩ := r
    obtain ⟨e0, e1, e2, e3, e4, e5, e6, e7, e8⟩ := e
    refine .trans ?_ (h Set.univ K)
    simp only [inRows, inLoss, inNorm, inGate, if_neg hc0, if_neg hc1]
    iterate 18 refine BIClass.sep_mono .rfl ?_
    exact wand_mono (collect c arg2 arg3 arg4 arg5 arg6 arg7 arg8 arg9 arg10 arg11 arg12 arg13 arg14 arg15 arg16 arg17 arg18 arg19 B _ _ _ _ _ (prefix_of_eq e0) (prefix_of_eq e1) (prefix_of_eq e2) (prefix_of_eq e3) (prefix_of_eq e4) (prefix_of_eq e5) (prefix_of_eq e6) (prefix_of_eq e7) (prefix_of_eq e8)) .rfl

end Cert.Kernel3Ideal.Fwd

end
-- ==== Proof.FwdFrame.lean ====
/- The forward call: the whole run, point by point, and what it leaves untouched. -/
module

public import proofs.«01_k».proof.Proof.FwdPost
public import Idealize.ShloMosaic.Lib.Claim

@[expose] public section

set_option maxRecDepth 16384

noncomputable section

namespace Cert.Kernel3Ideal.Fwd

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is the first tile of a sequence where its number is a multiple of eight. -/
theorem firstTile_iff (t : Fin cfg0.N) : firstTile (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [firstTile, e0, e1]
    word_cmp
   : ∀ t : Fin grid0.N, firstTile (grid0.coords t) ↔ t.val % 8 = 0) t

/-- It is the first of all where its number is zero. -/
theorem firstPoint_iff (t : Fin cfg0.N) : firstPoint (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [firstPoint, e0, e1]
    word_cmp
   : ∀ t : Fin grid0.N, firstPoint (grid0.coords t) ↔ t.val % 32 = 0) t

/-! ## The values point by point -/

/-- The blocks of point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t⟩

/-- The rows point `n` starts from. -/
def rowsAt (c : Dev nD) : (n : ℕ) → n < cfg0.N → Rows F
  | 0, _ => zeroRows
  | n + 1, h => if (n + 1) % 8 = 0 then zeroRows else nextRows (blk m c ⟨n, by omega⟩)

/-- The loss after point `n`. -/
def lossAt (c : Dev nD) : (n : ℕ) → n < cfg0.N → Vec F S1x1024 .f32
  | 0, h => View.canon (lP (blk m c ⟨0, h⟩) (rowsAt m c 0 h) (ldLoss k0_pay6))
  | n + 1, h => View.canon (lP (blk m c ⟨n + 1, h⟩) (rowsAt m c (n + 1) h) (ldLoss (lossAt c n (by omega))))

/-- The norm's gradients after point `n`. -/
def normAt (c : Dev nD) : (n : ℕ) → n < cfg0.N → Vec F S2x1024 .f32
  | 0, h => View.canon (nP (blk m c ⟨0, h⟩) (rowsAt m c 0 h) (ldNorm0 k0_pay7) (ldNorm1 k0_pay7))
  | n + 1, h => View.canon (nP (blk m c ⟨n + 1, h⟩) (rowsAt m c (n + 1) h) (ldNorm0 (normAt c n (by omega))) (ldNorm1 (normAt c n (by omega))))

/-- The modulation gate's gradient after point `n`. -/
def gateAt (c : Dev nD) : (n : ℕ) → n < cfg0.N → Vec F S1x1x1024 .f32
  | 0, h => View.canon (mP (blk m c ⟨0, h⟩) (rowsAt m c 0 h) (ldGate k0_pay5))
  | n + 1, h => View.canon (mP (blk m c ⟨n + 1, h⟩) (rowsAt m c (n + 1) h) (ldGate (if (n + 1) % 8 = 0 then k0_pay5 else gateAt c n (by omega))))

/-- The rows a point starts from, given what the point before left. -/
theorem rowsAt_eq (c : Dev nD) (t : Fin cfg0.N) (z) (hz : ∀ k (h : k < cfg0.N), t.val = k + 1 → rowsOf z = nextRows (blk m c ⟨k, h⟩)) :
    inRows (grid0.coords t) z = rowsAt m c t.val t.isLt := by
  obtain ⟨n, hn⟩ := t
  unfold inRows
  cases n with
  | zero => rw [if_pos ((firstTile_iff _).mpr rfl)]; rfl
  | succ n =>
    simp only [rowsAt]
    by_cases h : (n + 1) % 8 = 0
    · rw [if_pos ((firstTile_iff _).mpr h), if_pos h]
    · rw [if_neg (fun h' => h ((firstTile_iff _).mp h')), if_neg h, hz n _ rfl]

/-- The loss after a point, given the loss after the point before. -/
theorem lossAt_eq (c : Dev nD) (t : Fin cfg0.N) (y) (hy : ∀ k (h : k < cfg0.N), t.val = k + 1 → y = lossAt m c k h) :
    lossAt m c t.val t.isLt = View.canon (lP (blk m c t) (rowsAt m c t.val t.isLt) (ldLoss (inLoss (grid0.coords t) y))) := by
  obtain ⟨n, hn⟩ := t
  have hN : n < 32 := lt_of_lt_of_eq hn N_0
  unfold inLoss
  cases n with
  | zero => rw [if_pos ((firstPoint_iff _).mpr rfl)]; rfl
  | succ n =>
    rw [if_neg (fun h' => by have := (firstPoint_iff _).mp h'; dsimp only at this; omega), hy n _ rfl]
    rfl

/-- The norm's gradients after a point, given those after the point before. -/
theorem normAt_eq (c : Dev nD) (t : Fin cfg0.N) (y) (hy : ∀ k (h : k < cfg0.N), t.val = k + 1 → y = normAt m c k h) :
    normAt m c t.val t.isLt = View.canon (nP (blk m c t) (rowsAt m c t.val t.isLt) (ldNorm0 (inNorm (grid0.coords t) y)) (ldNorm1 (inNorm (grid0.coords t) y))) := by
  obtain ⟨n, hn⟩ := t
  have hN : n < 32 := lt_of_lt_of_eq hn N_0
  unfold inNorm
  cases n with
  | zero => rw [if_pos ((firstPoint_iff _).mpr rfl)]; rfl
  | succ n =>
    rw [if_neg (fun h' => by have := (firstPoint_iff _).mp h'; dsimp only at this; omega), hy n _ rfl]
    rfl

/-- The modulation gate's gradient after a point, given that after the point before. -/
theorem gateAt_eq (c : Dev nD) (t : Fin cfg0.N) (y) (hy : ∀ k (h : k < cfg0.N), t.val = k + 1 → ¬t.val % 8 = 0 → y = gateAt m c k h) :
    gateAt m c t.val t.isLt = View.canon (mP (blk m c t) (rowsAt m c t.val t.isLt) (ldGate (inGate (grid0.coords t) y))) := by
  obtain ⟨n, hn⟩ := t
  unfold inGate
  cases n with
  | zero => rw [if_pos ((firstTile_iff _).mpr rfl)]; rfl
  | succ n =>
    rw [gateAt]
    by_cases h : (n + 1) % 8 = 0
    · rw [if_pos ((firstTile_iff _).mpr h), if_pos h]
    · rw [if_neg (fun h' => h ((firstTile_iff _).mp h')), if_neg h, hy n _ rfl h]

/-! ## The proof data -/

/-- The buffer that carries the rows. -/
abbrev scM : Memref sig .tc .vmem S2x264x1408 .f32 := Memref.whole cc0_scratch0

/-- Before point `n`: the carrying buffer at the rows the point before left, and the generator's register at some state. -/
def PhiS (c : Dev nD) (n : ℕ) (_ : n ≤ cfg0.N) : sProp 𝕄 :=
  iprop((∃ z, ⌜∀ k (h : k < cfg0.N), n = k + 1 → rowsOf z = nextRows (blk m c ⟨k, h⟩)⌝ ∗ owns (c : Thread nD τ) scM fullShare z) ∗ (∃ r, prngReg c r))

/-- What the launch hands over, with the carrying buffer at some contents. -/
theorem launch_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; rfl

/-- The arrays as the region finds them, and each window's buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (uP (blk m c t))
    | ⟨10, _⟩ => View.canon (hP (blk m c t))
    | ⟨11, _⟩ => View.canon (fP (blk m c t) (rowsAt m c t.val t.isLt))
    | ⟨12, _⟩ => View.canon (gP (blk m c t) (rowsAt m c t.val t.isLt))
    | ⟨13, _⟩ => View.canon (zP (blk m c t) (rowsAt m c t.val t.isLt))
    | ⟨14, _⟩ => lossAt m c t.val t.isLt
    | ⟨15, _⟩ => normAt m c t.val t.isLt
    | ⟨16, _⟩ => gateAt m c t.val t.isLt
    | ⟨_ + 17, h⟩ => absurd h (Nat.not_lt.mpr (Nat.le_add_left 17 _))
  Φ t := PhiS m c t.val (Nat.le_of_lt_succ t.isLt)
  q _ := fullShare
  owed _ := 0

/-- The arrays at the start of the launch. -/
theorem A_eq (c : Dev nD) (w : Fin cfg0.W) : (dats m 0 c).A w = V m c (Pipeline.arrRef spec0 w) := by
  dsimp only [dats]

/-- The scratch before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- What a window holds after a point. -/
theorem after_0 (c : Dev nD) (t : Fin cfg0.N) : (dats m 0 c).after 0 t = iblk m c 0 t := by dsimp only [dats]
@[inherit_doc after_0] theorem after_1 (c : Dev nD) (t : Fin cfg0.N) : (dats m 0 c).after 1 t = iblk m c 1 t := by dsimp only [dats]
@[inherit_doc after_0] theorem after_2 (c : Dev nD) (t : Fin cfg0.N) : (dats m 0 c).after 2 t = iblk m c 2 t := by dsimp only [dats]
@[inherit_doc after_0] theorem after_3 (c : Dev nD) (t : Fin cfg0.N) : (dats m 0 c).after 3 t = iblk m c 3 t := by dsimp only [dats]
@[inherit_doc after_0] theorem after_4 (c : Dev nD) (t : Fin cfg0.N) : (dats m 0 c).after 4 t = iblk m c 4 t := by dsimp only [dats]
@[inherit_doc after_0] theorem after_5 (c : Dev nD) (t : Fin cfg0.N) : (dats m 0 c).after 5 t = iblk m c 5 t := by dsimp only [dats]
@[inherit_doc after_0] theorem after_6 (c : Dev nD) (t : Fin cfg0.N) : (dats m 0 c).after 6 t = iblk m c 6 t := by dsimp only [dats]
@[inherit_doc after_0] theorem after_7 (c : Dev nD) (t : Fin cfg0.N) : (dats m 0 c).after 7 t = iblk m c 7 t := by dsimp only [dats]
@[inherit_doc after_0] theorem after_8 (c : Dev nD) (t : Fin cfg0.N) : (dats m 0 c).after 8 t = iblk m c 8 t := by dsimp only [dats]
@[inherit_doc after_0] theorem after_9 (c : Dev nD) (t : Fin cfg0.N) : (dats m 0 c).after 9 t = View.canon (uP (blk m c t)) := by dsimp only [dats]
@[inherit_doc after_0] theorem after_10 (c : Dev nD) (t : Fin cfg0.N) : (dats m 0 c).after 10 t = View.canon (hP (blk m c t)) := by dsimp only [dats]
@[inherit_doc after_0] theorem after_11 (c : Dev nD) (t : Fin cfg0.N) : (dats m 0 c).after 11 t = View.canon (fP (blk m c t) (rowsAt m c t.val t.isLt)) := by dsimp only [dats]
@[inherit_doc after_0] theorem after_12 (c : Dev nD) (t : Fin cfg0.N) : (dats m 0 c).after 12 t = View.canon (gP (blk m c t) (rowsAt m c t.val t.isLt)) := by dsimp only [dats]
@[inherit_doc after_0] theorem after_13 (c : Dev nD) (t : Fin cfg0.N) : (dats m 0 c).after 13 t = View.canon (zP (blk m c t) (rowsAt m c t.val t.isLt)) := by dsimp only [dats]
@[inherit_doc after_0] theorem after_14 (c : Dev nD) (t : Fin cfg0.N) : (dats m 0 c).after 14 t = lossAt m c t.val t.isLt := by dsimp only [dats]
@[inherit_doc after_0] theorem after_15 (c : Dev nD) (t : Fin cfg0.N) : (dats m 0 c).after 15 t = normAt m c t.val t.isLt := by dsimp only [dats]
@[inherit_doc after_0] theorem after_16 (c : Dev nD) (t : Fin cfg0.N) : (dats m 0 c).after 16 t = gateAt m c t.val t.isLt := by dsimp only [dats]

/-- What an input window holds before a point. -/
theorem before_0 (c : Dev nD) (t : Fin cfg0.N) (d) : (dats m 0 c).before 0 t d = iblk m c 0 t := before0_0_of m (dats m 0 c) (A_eq m c 0) (after_0 m c) t d
@[inherit_doc before_0] theorem before_1 (c : Dev nD) (t : Fin cfg0.N) (d) : (dats m 0 c).before 1 t d = iblk m c 1 t := before0_1_of m (dats m 0 c) (A_eq m c 1) (after_1 m c) t d
@[inherit_doc before_0] theorem before_2 (c : Dev nD) (t : Fin cfg0.N) (d) : (dats m 0 c).before 2 t d = iblk m c 2 t := before0_2_of m (dats m 0 c) (A_eq m c 2) (after_2 m c) t d
@[inherit_doc before_0] theorem before_3 (c : Dev nD) (t : Fin cfg0.N) (d) : (dats m 0 c).before 3 t d = iblk m c 3 t := before0_3_of m (dats m 0 c) (A_eq m c 3) (after_3 m c) t d
@[inherit_doc before_0] theorem before_4 (c : Dev nD) (t : Fin cfg0.N) (d) : (dats m 0 c).before 4 t d = iblk m c 4 t := before0_4_of m (dats m 0 c) (A_eq m c 4) (after_4 m c) t d
@[inherit_doc before_0] theorem before_5 (c : Dev nD) (t : Fin cfg0.N) (d) : (dats m 0 c).before 5 t d = iblk m c 5 t := before0_5_of m (dats m 0 c) (A_eq m c 5) (after_5 m c) t d
@[inherit_doc before_0] theorem before_6 (c : Dev nD) (t : Fin cfg0.N) (d) : (dats m 0 c).before 6 t d = iblk m c 6 t := before0_6_of m (dats m 0 c) (A_eq m c 6) (after_6 m c) t d
@[inherit_doc before_0] theorem before_7 (c : Dev nD) (t : Fin cfg0.N) (d) : (dats m 0 c).before 7 t d = iblk m c 7 t := before0_7_of m (dats m 0 c) (A_eq m c 7) (after_7 m c) t d
@[inherit_doc before_0] theorem before_8 (c : Dev nD) (t : Fin cfg0.N) (d) : (dats m 0 c).before 8 t d = iblk m c 8 t := before0_8_of m (dats m 0 c) (A_eq m c 8) (after_8 m c) t d

/-- Output 14's buffer is kept from the point before. -/
theorem before_14 (c : Dev nD) (t : Fin cfg0.N) (d) (k : ℕ) (h : k < cfg0.N) (ht : t.val = k + 1) : (dats m 0 c).before 14 t d = lossAt m c k h := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
  obtain ⟨n, hn⟩ := t
  dsimp only at ht
  subst ht
  rfl

/-- Output 15's buffer is kept from the point before. -/
theorem before_15 (c : Dev nD) (t : Fin cfg0.N) (d) (k : ℕ) (h : k < cfg0.N) (ht : t.val = k + 1) : (dats m 0 c).before 15 t d = normAt m c k h := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
  obtain ⟨n, hn⟩ := t
  dsimp only at ht
  subst ht
  rfl

/-- Output 16's buffer is kept from the point before. -/
theorem before_16 (c : Dev nD) (t : Fin cfg0.N) (d) (k : ℕ) (h : k < cfg0.N) (ht : t.val = k + 1) (h8 : ¬t.val % 8 = 0) : (dats m 0 c).before 16 t d = gateAt m c k h := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
  obtain ⟨n, hn⟩ := t
  dsimp only at ht
  subst ht
  rfl

/-! ## The body at a point -/

/-- The buffers the body is handed at point `t`. -/
abbrev st_0 (t : Fin cfg0.N) : Memref sig .tc .vmem S1x256x1024 .f32 := win0_0.stage (cfg0.slots t 0)
/-- Where a window stands at a point. -/
abbrev st_1 (t : Fin cfg0.N) : Memref sig .tc .vmem S1x1x6144 .f32 := win0_1.stage (cfg0.slots t 1)
@[inherit_doc st_1] abbrev st_2 (t : Fin cfg0.N) : Memref sig .tc .vmem S4x1024x1408 .bf16 := win0_2.stage (cfg0.slots t 2)
@[inherit_doc st_1] abbrev st_3 (t : Fin cfg0.N) : Memref sig .tc .vmem S3x2816 .f32 := win0_3.stage (cfg0.slots t 3)
@[inherit_doc st_1] abbrev st_4 (t : Fin cfg0.N) : Memref sig .tc .vmem S1x2816 .f32 := win0_4.stage (cfg0.slots t 4)
@[inherit_doc st_1] abbrev st_5 (t : Fin cfg0.N) : Memref sig .tc .vmem S2816x1024 .bf16 := win0_5.stage (cfg0.slots t 5)
@[inherit_doc st_1] abbrev st_6 (t : Fin cfg0.N) : Memref sig .tc .vmem S1x1024 .f32 := win0_6.stage (cfg0.slots t 6)
@[inherit_doc st_1] abbrev st_7 (t : Fin cfg0.N) : Memref sig .tc .vmem S1x1024 .f32 := win0_7.stage (cfg0.slots t 7)
@[inherit_doc st_1] abbrev st_8 (t : Fin cfg0.N) : Memref sig .tc .vmem S1x256x1024 .f32 := win0_8.stage (cfg0.slots t 8)
@[inherit_doc st_1] abbrev st_9 (t : Fin cfg0.N) : Memref sig .tc .vmem S1x256x1024 .bf16 := win0_9.stage (cfg0.slots t 9)
@[inherit_doc st_1] abbrev st_10 (t : Fin cfg0.N) : Memref sig .tc .vmem S1x256x5632 .f32 := win0_10.stage (cfg0.slots t 10)
@[inherit_doc st_1] abbrev st_11 (t : Fin cfg0.N) : Memref sig .tc .vmem S1x256x2816 .bf16 := win0_11.stage (cfg0.slots t 11)
@[inherit_doc st_1] abbrev st_12 (t : Fin cfg0.N) : Memref sig .tc .vmem S1x256x2816 .f32 := win0_12.stage (cfg0.slots t 12)
@[inherit_doc st_1] abbrev st_13 (t : Fin cfg0.N) : Memref sig .tc .vmem S1x256x1024 .f32 := win0_13.stage (cfg0.slots t 13)
@[inherit_doc st_1] abbrev st_14 (t : Fin cfg0.N) : Memref sig .tc .vmem S1x1024 .f32 := win0_14.stage (cfg0.slots t 14)
@[inherit_doc st_1] abbrev st_15 (t : Fin cfg0.N) : Memref sig .tc .vmem S2x1024 .f32 := win0_15.stage (cfg0.slots t 15)
@[inherit_doc st_1] abbrev st_16 (t : Fin cfg0.N) : Memref sig .tc .vmem S1x1x1024 .f32 := win0_16.stage (cfg0.slots t 16)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d))
    ∗ (∃ d, owns (c : Thread nD τ) (st_9 t) fullShare ((dats m 0 c).before 9 t d))
    ∗ (∃ d, owns (c : Thread nD τ) (st_10 t) fullShare ((dats m 0 c).before 10 t d))
    ∗ (∃ d, owns (c : Thread nD τ) (st_11 t) fullShare ((dats m 0 c).before 11 t d))
    ∗ (∃ d, owns (c : Thread nD τ) (st_12 t) fullShare ((dats m 0 c).before 12 t d))
    ∗ (∃ d, owns (c : Thread nD τ) (st_13 t) fullShare ((dats m 0 c).before 13 t d))
    ∗ (∃ d, owns (c : Thread nD τ) (st_14 t) fullShare ((dats m 0 c).before 14 t d))
    ∗ (∃ d, owns (c : Thread nD τ) (st_15 t) fullShare ((dats m 0 c).before 15 t d))
    ∗ (∃ d, owns (c : Thread nD τ) (st_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t)
    ∗ owns (c : Thread nD τ) (st_6 t) fullShare ((dats m 0 c).after 6 t)
    ∗ owns (c : Thread nD τ) (st_7 t) fullShare ((dats m 0 c).after 7 t)
    ∗ owns (c : Thread nD τ) (st_8 t) fullShare ((dats m 0 c).after 8 t)
    ∗ owns (c : Thread nD τ) (st_9 t) fullShare ((dats m 0 c).after 9 t)
    ∗ owns (c : Thread nD τ) (st_10 t) fullShare ((dats m 0 c).after 10 t)
    ∗ owns (c : Thread nD τ) (st_11 t) fullShare ((dats m 0 c).after 11 t)
    ∗ owns (c : Thread nD τ) (st_12 t) fullShare ((dats m 0 c).after 12 t)
    ∗ owns (c : Thread nD τ) (st_13 t) fullShare ((dats m 0 c).after 13 t)
    ∗ owns (c : Thread nD τ) (st_14 t) fullShare ((dats m 0 c).after 14 t)
    ∗ owns (c : Thread nD τ) (st_15 t) fullShare ((dats m 0 c).after 15 t)
    ∗ owns (c : Thread nD τ) (st_16 t) fullShare ((dats m 0 c).after 16 t))

set_option maxHeartbeats 4000000 in
/-- The body at any point: `step` at the point's blocks, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl, after_0, after_1, after_2, after_3, after_4, after_5, after_6, after_7, after_8, after_9, after_10, after_11, after_12, after_13, after_14, after_15, after_16]
  rw [show (dats m 0 c).Φ t.succ = PhiS m c (t.val + 1) t.isLt from rfl, PhiS_castSucc]
  unfold PhiS
  iintro ⟨⟨⟨%z, %hz, Hz⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [lossAt_eq m c t _ fun k h e => before_14 m c t d14 k h e, normAt_eq m c t _ fun k h e => before_15 m c t d15 k h e,
    gateAt_eq m c t _ fun k h e h8 => before_16 m c t d16 k h e h8, ← rowsAt_eq m c t z hz]
  iapply (step c (grid0.coords t) _ _ _ _ _ _ _ _ _ _ _ _ _ _ _ _ _ _ _ _ _ _ _ _ _ _ _ _ _ _ _ _ _ _ scM (Memref.isWhole_whole _) (blk m c t) _ _ _ z
    (fun h => (firstTile_iff t).mpr (by have := (firstPoint_iff t).mp h; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [Hz]; · iexact Hz
  unfold held
  iintro ⟨H0, H1, H2, H3, H4, H5, H6, H7, H8, H9, H10, H11, H12, H13, H14, H15, H16, ⟨%z', %hz', Hz⟩⟩
  isplitl [Hz Hg]
  · isplitl [Hz]
    · iexists z'; isplitr
      · ipureintro; intro k h e; have e' : t.val = k := by omega
        subst e'; exact hz'
      iexact Hz
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t` is the body. -/
theorem row_eq (t : Fin cfg0.N) : defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands over is what holds before the first point. -/
theorem hin (c : Dev nD) : Pipeline.ΦA spec0 c ⊢ (dats m 0 c).Φ 0 := by
  rw [show (dats m 0 c).Φ 0 = PhiS m c 0 (Nat.zero_le _) from rfl, launch_eq]
  unfold PhiS
  iintro ⟨⟨%d, H⟩, Hg⟩
  isplitl [H]
  · iexists d; isplitr
    · ipureintro; intro k h e; omega
    iexact H
  iexact Hg

/-- What holds after the last point gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, launch_eq]
  unfold PhiS
  iintro ⟨⟨%d, -, H⟩, Hg⟩
  isplitl [H]
  · iexists d; iexact H
  iexact Hg

set_option backward.isDefEq.respectTransparency.types false in
/-- Every execution ends with the windows' arrays at what the points leave, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- Every execution leaves the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel3Ideal.Fwd

end
-- ==== Proof.FwdOuts.lean ====
/- The stores of a grid point of the forward call, read at an index: pieces of the formulas. -/
module

public import proofs.«01_k».proof.Proof.FwdVal
public import proofs.«01_k».proof.Proof.FwdFrame
public import proofs.«01_k».proof.Proof.Stores

@[expose] public section

set_option maxRecDepth 16384

noncomputable section

namespace Cert.Kernel3Ideal.Fwd

open Idealize.ShloMosaic Idealize.SL.Sem Cert.Kernel3Ideal Cert.Kernel3Ideal.Gen Cert.Fwd
open Cert.KernelIdeal.Points (ld2 ld3 eta2 eta3)

variable {A : Arr} {b : Fin 4} {n : Fin 8} {B : Blk Ideal} {R : Rows Ideal} (hB : Is A b n B) (hR : Behind A b n R)

section
include hB

/-- The stored `u2`. -/
theorem uP_is (r : Fin 256) (c : Fin 1024) : View.canon (uP B) (ix3 0 r c) = u A b (tok n r) c := by
  unfold uP
  canon_tiles x h
  obtain ⟨r', c', rfl⟩ := eta3 x
  obtain rfl : r = r' := Fin.ext h1
  obtain rfl : c = c' := Fin.ext h2
  refine Eq.trans ?_ (ut_is hB r c)
  pointwise [k0_pay11, ut]

/-- The stored `h`, a chunk at a time. -/
theorem hP_is (r : Fin 256) (f : Fin 5632) : View.canon (hP B) (ix3 0 r f) = h A b (tok n r) f := by
  have hg : ∀ (r : Fin 256) (o : ℕ) (ho : o ≤ 1408) (f : Fin 1408), gp A b (256 * n + r + 2) (lane o ho f) = h A b (tok n r) ⟨2816 + (o + f), by omega⟩ :=
    fun r o ho f => by
      rw [gp, dif_pos (by omega)]
      exact congrArg₂ (h A b) (Fin.ext rfl) rfl
  unfold hP
  canon_tiles x h
  · obtain ⟨r', f', rfl⟩ := eta3 x
    change r.val = r'.val at h1
    change f.val = 4224 + f'.val at h2
    have e : k0_pay29 (F := Ideal) (ut B) (wg1 B) (ix3 0 r' f') = gt1 B (ix2 r' f') := by pointwise [k0_pay29, gt1]
    refine e.trans ((gt1_is hB r' f').trans ((hg r' 1408 (by omega) f').trans ?_))
    exact congrArg₂ (Cert.Fwd.h A b) (congrArg (tok n) (Fin.ext h1.symm)) (Fin.ext (by show 2816 + (1408 + f'.val) = f.val; omega))
  · obtain ⟨r', f', rfl⟩ := eta3 x
    change r.val = r'.val at h1
    change f.val = 1408 + f'.val at h2
    have e : k0_pay28 (F := Ideal) (ut B) (wv1 B) (ix3 0 r' f') = vt1 B (ix2 r' f') := by pointwise [k0_pay28, vt1]
    refine e.trans ((vt1_is hB r' f').trans ?_)
    exact congrArg₂ (Cert.Fwd.h A b) (congrArg (tok n) (Fin.ext h1.symm)) (Fin.ext (by show 1408 + f'.val = f.val; omega))
  · obtain ⟨r', f', rfl⟩ := eta3 x
    change r.val = r'.val at h1
    change f.val = 2816 + f'.val at h2
    have e : k0_pay16 (F := Ideal) (ut B) (wg0 B) (ix3 0 r' f') = gt0 B (ix2 r' f') := by pointwise [k0_pay16, gt0]
    refine e.trans ((gt0_is hB r' f').trans ((hg r' 0 (by omega) f').trans ?_))
    exact congrArg₂ (Cert.Fwd.h A b) (congrArg (tok n) (Fin.ext h1.symm)) (Fin.ext (by show 2816 + (0 + f'.val) = f.val; omega))
  · obtain ⟨r', f', rfl⟩ := eta3 x
    change r.val = r'.val at h1
    change f.val = f'.val at h2
    have e : k0_pay15 (F := Ideal) (vt0 B) (ix3 0 r' f') = vt0 B (ix2 r' f') := by pointwise [k0_pay15]
    refine e.trans ((vt0_is hB r' f').trans ?_)
    exact congrArg₂ (Cert.Fwd.h A b) (congrArg (tok n) (Fin.ext h1.symm)) (Fin.ext (by show 0 + f'.val = f.val; omega))

/-- The rows left for the next tile are its rows behind. -/
theorem next_is (n' : Fin 8) (hn : n'.val = n.val + 1) : Behind A b n' (nextRows B) where
  a0 f := by
    have e : k0_pay21 (F := Ideal) (gt0 B) (ix2 7 f) = gt0 B (ix2 255 f) := by pointwise [k0_pay21]
    refine e.trans ((gt0_is hB 255 f).trans (congrArg (gp A b · _) ?_))
    show 256 * n.val + 255 + 2 = 256 * n'.val + 1; omega
  b0 f := by
    have e : k0_pay21 (F := Ideal) (gt0 B) (ix2 6 f) = gt0 B (ix2 254 f) := by pointwise [k0_pay21]
    refine e.trans ((gt0_is hB 254 f).trans (congrArg (gp A b · _) ?_))
    show 256 * n.val + 254 + 2 = 256 * n'.val; omega
  a1 f := by
    have e : k0_pay35 (F := Ideal) (gt1 B) (ix2 7 f) = gt1 B (ix2 255 f) := by pointwise [k0_pay35]
    refine e.trans ((gt1_is hB 255 f).trans (congrArg (gp A b · _) ?_))
    show 256 * n.val + 255 + 2 = 256 * n'.val + 1; omega
  b1 f := by
    have e : k0_pay35 (F := Ideal) (gt1 B) (ix2 6 f) = gt1 B (ix2 254 f) := by pointwise [k0_pay35]
    refine e.trans ((gt1_is hB 254 f).trans (congrArg (gp A b · _) ?_))
    show 256 * n.val + 254 + 2 = 256 * n'.val; omega

end

/-- The rows behind a sequence's first tile are zero. -/
theorem zero_is (n : Fin 8) (hn : n.val = 0) : Behind A b n zeroRows where
  a0 f := by
    have e : k0_pay4 (F := Ideal) (ix3 0 7 f) = 0 := by pointwise [k0_pay4]
    refine e.trans ?_; rw [gp, dif_neg (by omega)]
  b0 f := by
    have e : k0_pay4 (F := Ideal) (ix3 0 6 f) = 0 := by pointwise [k0_pay4]
    refine e.trans ?_; rw [gp, dif_neg (by omega)]
  a1 f := by
    have e : k0_pay4 (F := Ideal) (ix3 1 7 f) = 0 := by pointwise [k0_pay4]
    refine e.trans ?_; rw [gp, dif_neg (by omega)]
  b1 f := by
    have e : k0_pay4 (F := Ideal) (ix3 1 6 f) = 0 := by pointwise [k0_pay4]
    refine e.trans ?_; rw [gp, dif_neg (by omega)]

section
include hB hR

/-- The stored product that goes down. -/
theorem fP_is (r : Fin 256) (f : Fin 2816) : View.canon (fP B R) (ix3 0 r f) = fv A b (tok n r) f := by
  unfold fP
  canon_tiles x h
  · obtain ⟨r', f', rfl⟩ := eta3 x
    obtain rfl : r = r' := Fin.ext h1
    obtain rfl : f = lane 1408 (by decide) f' := Fin.ext h2
    refine Eq.trans ?_ (f1_is hB hR r f')
    pointwise [k0_pay37]
  · obtain ⟨r', f', rfl⟩ := eta3 x
    obtain rfl : r = r' := Fin.ext h1
    obtain rfl : f = lane 0 (by decide) f' := Fin.ext (h2.trans (Nat.zero_add _).symm)
    refine Eq.trans ?_ (f0_is hB hR r f')
    pointwise [k0_pay23]

/-- The stored convolution. -/
theorem gP_is (r : Fin 256) (f : Fin 2816) : View.canon (gP B R) (ix3 0 r f) = gc A b (tok n r) f := by
  unfold gP
  canon_tiles x h
  · obtain ⟨r', f', rfl⟩ := eta3 x
    obtain rfl : r = r' := Fin.ext h1
    obtain rfl : f = lane 1408 (by decide) f' := Fin.ext h2
    refine Eq.trans ?_ (gc1_is hB hR r f')
    pointwise [k0_pay34]
  · obtain ⟨r', f', rfl⟩ := eta3 x
    obtain rfl : r = r' := Fin.ext h1
    obtain rfl : f = lane 0 (by decide) f' := Fin.ext (h2.trans (Nat.zero_add _).symm)
    refine Eq.trans ?_ (gc0_is hB hR r f')
    pointwise [k0_pay20]

/-- The stored gradient at the norm's argument. -/
theorem zP_is (r : Fin 256) (c : Fin 1024) : View.canon (zP B R) (ix3 0 r c) = dz A b (tok n r) c := by
  unfold zP
  canon_tiles x h
  obtain ⟨r', c', rfl⟩ := eta3 x
  obtain rfl : r = r' := Fin.ext h1
  obtain rfl : c = c' := Fin.ext h2
  refine Eq.trans ?_ (dz_is hB hR r c)
  pointwise [k0_pay2]

/-- The loss grows by the tile's squared errors. -/
theorem lP_is (l : Vec Ideal S1x1024 .f32) (c : Fin 1024) : View.canon (lP B R (ldLoss l)) (ix2 0 c) = l (ix2 0 c) + ∑ r : Fin 256, se A b (tok n r) := by
  unfold lP
  canon_tiles x h
  obtain ⟨c', rfl⟩ := eta2 x
  obtain rfl : c = c' := Fin.ext h1
  have e : k0_pay44 (F := Ideal) (et B R) (k0_pay43 (ldLoss l)) (ix2 0 c) = ldLoss l (ix2 0 c) + ∑ k : Fin 1024, ∑ r : Fin 256, et B R (ix2 r k) * et B R (ix2 r k) := by
    pointwise [k0_pay44, k0_pay43]
  refine e.trans (congrArg₂ (· + ·) ((ld2 l 0 0 _ 0 c).trans (congrArg (fun i => l (ix2 0 i)) (Fin.ext (Nat.zero_add _)))) ?_)
  rw [Finset.sum_comm]
  simp only [et_is hB hR, se]

/-- The norm's gradients grow by the tile's share. -/
theorem nP_is (d : Vec Ideal S2x1024 .f32) (j : Fin 2) (c : Fin 1024) :
    View.canon (nP B R (ldNorm0 d) (ldNorm1 d)) (ix2 j c) = d (ix2 j c) + ∑ r : Fin 256, dln A b (tok n r) j c := by
  unfold nP
  canon_tiles x h
  · obtain ⟨c', rfl⟩ := eta2 x
    obtain rfl : j = 1 := Fin.ext h0
    obtain rfl : c = c' := Fin.ext h1
    have e : k0_pay47 (F := Ideal) (et B R) (ldNorm1 d) (ix2 0 c) = ldNorm1 d (ix2 0 c) + ∑ r : Fin 256, et B R (ix2 r c) * unit := by
      unfold unit; pointwise [k0_pay47, k0_pay45]
    refine e.trans (congrArg₂ (· + ·) ((ld2 d 1 0 _ 0 c).trans (congrArg (fun i => d (ix2 1 i)) (Fin.ext (Nat.zero_add _)))) ?_)
    simp only [et_is hB hR, dln, dout]
    rfl
  · obtain ⟨c', rfl⟩ := eta2 x
    obtain rfl : j = 0 := Fin.ext h0
    obtain rfl : c = c' := Fin.ext h1
    have e : k0_pay46 (F := Ideal) (nt2 B R) (et B R) (ldNorm0 d) (ix2 0 c) = ldNorm0 d (ix2 0 c) + ∑ r : Fin 256, et B R (ix2 r c) * unit * nt2 B R (ix2 r c) := by
      unfold unit; pointwise [k0_pay46, k0_pay45]
    refine e.trans (congrArg₂ (· + ·) ((ld2 d 0 0 _ 0 c).trans (congrArg (fun i => d (ix2 0 i)) (Fin.ext (Nat.zero_add _)))) ?_)
    simp only [et_is hB hR, nt_is hB hR, dln, dout]
    rfl

/-- The modulation gate's gradient grows by the tile's share. -/
theorem mP_is (d : Vec Ideal S1x1x1024 .f32) (c : Fin 1024) :
    View.canon (mP B R (ldGate d)) (ix3 0 0 c) = d (ix3 0 0 c) + ∑ r : Fin 256, dz A b (tok n r) c * y A b (tok n r) c := by
  unfold mP
  canon_tiles x h
  obtain ⟨z, c', rfl⟩ := eta3 x
  obtain rfl : c = c' := Fin.ext h2
  obtain rfl : z = 0 := Subsingleton.elim _ _
  have e : k0_pay3 (F := Ideal) (yt B R) (rt B R) (nt2 B R) (dt B R) (mt B R) k0_pay51 (ldGate d) (ix3 0 0 c) =
      ldGate d (ix3 0 0 c) + ∑ r : Fin 256, k0_pay1 (F := Ideal) (rt B R) (nt2 B R) (dt B R) (mt B R) k0_pay51 (ix2 r c) * yt B R (ix2 r c) := by
    pointwise [k0_pay3]
  refine e.trans (congrArg₂ (· + ·) ((ld3 d 0 0 0 _ 0 0 c).trans (congrArg (fun i => d (ix3 0 0 i)) (Fin.ext (Nat.zero_add _)))) ?_)
  simp only [dz_is hB hR, yt_is hB hR]

end

end Cert.Kernel3Ideal.Fwd

end
-- ==== Proof.FwdBlk.lean ====
/- The blocks of a grid point of the forward call as pieces of the whole arrays, and the rows carried to it. -/
module

public import proofs.«01_k».proof.Proof.FwdOuts

@[expose] public section

set_option maxRecDepth 16384

noncomputable section

namespace Cert.Kernel3Ideal.Fwd

open Idealize.ShloMosaic Idealize.ShloMosaic.TcCoe Idealize.SL.Sem Cert.Kernel3Ideal Cert.Kernel3Ideal.Gen Cert.Fwd
open Cert.KernelIdeal.Points (ld2 ld3 eta2 eta3)

variable (m : (ℓ : Loc nD τ sig) → Buf (Elt Ideal) ℓ) (c : Dev nD) (t : Fin cfg0.N)

/-- The arrays of the formulas, from the call's arguments. -/
abbrev arr : Arr :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩

/-! ## The arrays the host prepared -/

/-- The modulation with an axis between. -/
theorem mod_host (b : Fin 4) (k : Fin 6144) : V m c main_v4 (ix3 b 0 k) = (arr m c).mod (ix2 b k) := by
  entry_read
  pointwise

/-- The up projection's weight in four blocks. -/
theorem wup_host (q : Fin 4) (k : Fin 1024) (f : Fin 1408) : V m c main_v3 (ix3 q k f) = (arr m c).wup (ix3 0 k ⟨1408 * q + f, by omega⟩) := by
  entry_read
  pointwise
  refine congrArg (fun f => (arr m c).wup (ix3 0 k f)) (Fin.ext ?_)
  show q.val * 1408 + f.val = 1408 * q.val + f.val
  omega

/-- The convolution's weights. -/
theorem cw_host (k : Fin 3) (f : Fin 2816) : V m c main_v5 (ix2 k f) = (arr m c).cw (ix3 0 k f) := by
  entry_read
  pointwise

/-- The down projection's weight. -/
theorem wdn_host (f : Fin 2816) (k : Fin 1024) : V m c main_v7 (ix2 f k) = (arr m c).wdn (ix3 0 f k) := by
  entry_read
  pointwise

/-! ## The blocks of a point -/

/-- Where each window's block lies at a point: eight points a batch row, the tiles in order. -/
theorem idx : ∀ t : Fin cfg0.N, t.val < 32 ∧
    win0_0.index t = ![t.val / 8, t.val % 8, 0] ∧ win0_1.index t = ![t.val / 8, 0, 0] ∧ win0_2.index t = ![0, 0, 0] ∧ win0_3.index t = ![0, 0] ∧
    win0_4.index t = ![0, 0] ∧ win0_5.index t = ![0, 0] ∧ win0_6.index t = ![0, 0] ∧ win0_7.index t = ![0, 0] ∧
    win0_8.index t = ![t.val / 8, t.val % 8, 0] ∧ win0_9.index t = ![t.val / 8, t.val % 8, 0] ∧ win0_10.index t = ![t.val / 8, t.val % 8, 0] ∧
    win0_11.index t = ![t.val / 8, t.val % 8, 0] ∧ win0_12.index t = ![t.val / 8, t.val % 8, 0] ∧ win0_13.index t = ![t.val / 8, t.val % 8, 0] ∧
    win0_14.index t = ![0, 0] ∧ win0_15.index t = ![0, 0] ∧ win0_16.index t = ![t.val / 8, 0, 0] :=
  (by decide +kernel : ∀ t : Fin grid0.N, _)

/-- The batch row of a point. -/
abbrev bt : Fin 4 := ⟨t.val / 8, by have := (idx t).1; omega⟩

/-- The tile of a point. -/
abbrev nt : Fin 8 := ⟨t.val % 8, by omega⟩

/-- A block of an argument at a point, as a piece of the whole array. -/
theorem x_blk (r : Fin 256) (k : Fin 1024) : iblk m c 0 t (ix3 0 r k) = (arr m c).x (ix3 (bt t) (tok (nt t) r) k) := by
  show _ = m ((c : Thread nD τ).loc main_arg0) _
  blk_ext [iblk, V, idx t]

@[inherit_doc x_blk] theorem mod_blk (k : Fin 6144) : iblk m c 1 t (ix3 0 0 k) = (arr m c).mod (ix2 (bt t) k) := by
  rw [← mod_host]
  blk_ext [iblk, idx t]

@[inherit_doc x_blk] theorem wup_blk (q : Fin 4) (k : Fin 1024) (f : Fin 1408) : iblk m c 2 t (ix3 q k f) = (arr m c).wup (ix3 0 k ⟨1408 * q + f, by omega⟩) := by
  rw [← wup_host]
  blk_ext [iblk, idx t]

@[inherit_doc x_blk] theorem cw_blk (k : Fin 3) (f : Fin 2816) : iblk m c 3 t (ix2 k f) = (arr m c).cw (ix3 0 k f) := by
  rw [← cw_host]
  blk_ext [iblk, idx t]

@[inherit_doc x_blk] theorem cb_blk (f : Fin 2816) : iblk m c 4 t (ix2 0 f) = (arr m c).cb (ix2 0 f) := by
  show _ = m ((c : Thread nD τ).loc main_arg4) _
  blk_ext [iblk, V, idx t]

@[inherit_doc x_blk] theorem wdn_blk (f : Fin 2816) (k : Fin 1024) : iblk m c 5 t (ix2 f k) = (arr m c).wdn (ix3 0 f k) := by
  rw [← wdn_host]
  blk_ext [iblk, idx t]

@[inherit_doc x_blk] theorem g2_blk (f : Fin 1024) : iblk m c 6 t (ix2 0 f) = (arr m c).g2 (ix2 0 f) := by
  show _ = m ((c : Thread nD τ).loc main_arg6) _
  blk_ext [iblk, V, idx t]

@[inherit_doc x_blk] theorem b2_blk (f : Fin 1024) : iblk m c 7 t (ix2 0 f) = (arr m c).b2 (ix2 0 f) := by
  show _ = m ((c : Thread nD τ).loc main_arg7) _
  blk_ext [iblk, V, idx t]

@[inherit_doc x_blk] theorem tg_blk (r : Fin 256) (k : Fin 1024) : iblk m c 8 t (ix3 0 r k) = (arr m c).tg (ix3 (bt t) (tok (nt t) r) k) := by
  show _ = m ((c : Thread nD τ).loc main_arg8) _
  blk_ext [iblk, V, idx t]

/-- The blocks of a point are the pieces of the arrays for its batch row and tile. -/
theorem is_blk : Is (arr m c) (bt t) (nt t) (blk m c t) :=
  ⟨x_blk m c t, mod_blk m c t, wup_blk m c t, cw_blk m c t, cb_blk m c t, wdn_blk m c t, g2_blk m c t, b2_blk m c t, tg_blk m c t⟩

/-- The rows a point starts from are the two before its tile. -/
theorem behind : Behind (arr m c) (bt t) (nt t) (rowsAt m c t.val t.isLt) := by
  obtain ⟨n, hn⟩ := t
  cases n with
  | zero => exact zero_is _ rfl
  | succ n =>
    simp only [rowsAt]
    split
    · rename_i h0; exact zero_is _ h0
    · rename_i h0
      have e : bt ⟨n + 1, hn⟩ = bt ⟨n, by omega⟩ := Fin.ext (by show (n + 1) / 8 = n / 8; omega)
      rw [e]
      exact next_is (is_blk m c ⟨n, by omega⟩) _ (by show (n + 1) % 8 = n % 8 + 1; omega)

end Cert.Kernel3Ideal.Fwd

end
-- ==== Proof.FwdFinal.lean ====
/- What the forward call leaves in the arrays of its results: the formulas. -/
module

public import proofs.«01_k».proof.Proof.FwdBlk

@[expose] public section

set_option maxRecDepth 16384

noncomputable section

namespace Cert.Kernel3Ideal.Fwd

open Idealize.ShloMosaic Idealize.ShloMosaic.TcCoe Idealize.SL.Sem Cert.Kernel3Ideal Cert.Kernel3Ideal.Gen Cert.Fwd
open Cert.KernelIdeal.Points (ld2 ld3 eta2 eta3)

variable (m : (ℓ : Loc nD τ sig) → Buf (Elt Ideal) ℓ) (c : Dev nD) (t : Fin cfg0.N)

attribute [local irreducible] u Cert.Fwd.h gc fv y dz se dln rowsAt blk

/-! ## The results written tile by tile -/

/-- The modulated input. -/
theorem final_u : (dats m 0 c).arrAt 9 cfg0.N = fun i : S4x2048x1024.Idx => u (arr m c) (i 0) (i 1) (i 2) := by
  refine (dats m 0 c).arrAt_eq_of_covers 9 _ (by decide +kernel) fun t hf y => ?_
  blk_simp
  rw [after_9]
  obtain ⟨r, k, rfl⟩ := eta3 y
  refine (uP_is (is_blk m c t) r k).trans ?_
  exact congrArg (fun i : S4x2048x1024.Idx => u (arr m c) (i 0) (i 1) (i 2)) (show ix3 (bt t) (tok (nt t) r) k = _ by blk_ext [idx t])

/-- The up projection. -/
theorem final_h : (dats m 0 c).arrAt 10 cfg0.N = fun i : S4x2048x5632.Idx => h (arr m c) (i 0) (i 1) (i 2) := by
  refine (dats m 0 c).arrAt_eq_of_covers 10 _ (by decide +kernel) fun t hf y => ?_
  blk_simp
  rw [after_10]
  obtain ⟨r, k, rfl⟩ := eta3 y
  refine (hP_is (is_blk m c t) r k).trans ?_
  exact congrArg (fun i : S4x2048x5632.Idx => h (arr m c) (i 0) (i 1) (i 2)) (show ix3 (bt t) (tok (nt t) r) k = _ by blk_ext [idx t])

/-- The gated product. -/
theorem final_f : (dats m 0 c).arrAt 11 cfg0.N = fun i : S4x2048x2816.Idx => fv (arr m c) (i 0) (i 1) (i 2) := by
  refine (dats m 0 c).arrAt_eq_of_covers 11 _ (by decide +kernel) fun t hf y => ?_
  blk_simp
  rw [after_11]
  obtain ⟨r, k, rfl⟩ := eta3 y
  refine (fP_is (is_blk m c t) (behind m c t) r k).trans ?_
  exact congrArg (fun i : S4x2048x2816.Idx => fv (arr m c) (i 0) (i 1) (i 2)) (show ix3 (bt t) (tok (nt t) r) k = _ by blk_ext [idx t])

/-- The convolution. -/
theorem final_gc : (dats m 0 c).arrAt 12 cfg0.N = fun i : S4x2048x2816.Idx => gc (arr m c) (i 0) (i 1) (i 2) := by
  refine (dats m 0 c).arrAt_eq_of_covers 12 _ (by decide +kernel) fun t hf y => ?_
  blk_simp
  rw [after_12]
  obtain ⟨r, k, rfl⟩ := eta3 y
  refine (gP_is (is_blk m c t) (behind m c t) r k).trans ?_
  exact congrArg (fun i : S4x2048x2816.Idx => gc (arr m c) (i 0) (i 1) (i 2)) (show ix3 (bt t) (tok (nt t) r) k = _ by blk_ext [idx t])

/-- The gradient at the norm's argument. -/
theorem final_dz : (dats m 0 c).arrAt 13 cfg0.N = fun i : S4x2048x1024.Idx => dz (arr m c) (i 0) (i 1) (i 2) := by
  refine (dats m 0 c).arrAt_eq_of_covers 13 _ (by decide +kernel) fun t hf y => ?_
  blk_simp
  rw [after_13]
  obtain ⟨r, k, rfl⟩ := eta3 y
  refine (zP_is (is_blk m c t) (behind m c t) r k).trans ?_
  exact congrArg (fun i : S4x2048x1024.Idx => dz (arr m c) (i 0) (i 1) (i 2)) (show ix3 (bt t) (tok (nt t) r) k = _ by blk_ext [idx t])

/-! ## The accumulated results -/

/-- A sum over the tiles and over the rows of each is the sum over the tokens. -/
theorem sum_tiles (g : Fin 2048 → EReal) : ∑ j ∈ Finset.range 8, ∑ r : Fin 256, g (tok ⟨j % 8, by omega⟩ r) = ∑ t, g t := by
  rw [← Equiv.sum_comp (finProdFinEquiv : Fin 8 × Fin 256 ≃ Fin 2048), Fintype.sum_prod_type, Finset.sum_range]
  refine Finset.sum_congr rfl fun j _ => Finset.sum_congr rfl fun r _ => congrArg g (Fin.ext ?_)
  show 256 * (j.val % 8) + r.val = r.val + 256 * j.val
  omega

/-- The same over the batch rows. -/
theorem sum_points (g : Fin 4 → Fin 2048 → EReal) :
    ∑ n ∈ Finset.range 32, ∑ r : Fin 256, g ⟨n / 8 % 4, by omega⟩ (tok ⟨n % 8, by omega⟩ r) = ∑ b, ∑ t, g b t := by
  rw [Finset.sum_range, ← Equiv.sum_comp (finProdFinEquiv : Fin 4 × Fin 8 ≃ Fin 32), Fintype.sum_prod_type]
  refine Finset.sum_congr rfl fun b _ => ?_
  rw [← sum_tiles, Finset.sum_range]
  refine Finset.sum_congr rfl fun j _ => Finset.sum_congr rfl fun r _ => ?_
  refine congrArg₂ g (Fin.ext ?_) (congrArg (tok · r) (Fin.ext ?_))
  · show (j.val + 8 * b.val) / 8 % 4 = b.val
    omega
  · show (j.val + 8 * b.val) % 8 = j.val % 8
    omega

/-- A quantity that starts over from zero at the first point and grows by each point's rows is, at the last, the sum over all tokens. -/
theorem sum_all {ι : Type} (S : (n : ℕ) → n < cfg0.N → ι → EReal) (g : ι → Fin 4 → Fin 2048 → EReal)
    (h0 : ∀ (h : 0 < cfg0.N) i, S 0 h i = 0 + ∑ r : Fin 256, g i (bt ⟨0, h⟩) (tok (nt ⟨0, h⟩) r))
    (hs : ∀ n (h : n + 1 < cfg0.N) i, S (n + 1) h i = S n (by omega) i + ∑ r : Fin 256, g i (bt ⟨n + 1, h⟩) (tok (nt ⟨n + 1, h⟩) r))
    (hl : t.val % 32 = 31) (i : ι) : S t.val t.isLt i = ∑ b, ∑ s, g i b s := by
  have key : ∀ n (h : n < cfg0.N), S n h i = ∑ k ∈ Finset.range (n + 1), ∑ r : Fin 256, g i ⟨k / 8 % 4, by omega⟩ (tok ⟨k % 8, by omega⟩ r) := by
    intro n
    have e : ∀ (n : ℕ) (h : n < cfg0.N), bt ⟨n, h⟩ = ⟨n / 8 % 4, by omega⟩ := fun n h =>
      Fin.ext (by have h32 : n < 32 := (idx ⟨n, h⟩).1; show n / 8 = n / 8 % 4; omega)
    induction n with
    | zero => intro h; rw [h0, zero_add, e, Finset.sum_range_one]
    | succ n ih => intro h; rw [hs, ih, e, Finset.sum_range_succ _ (n + 1)]
  have h31 : t.val = 31 := by have := (idx t).1; omega
  rw [key, h31]
  exact sum_points (g i)

/-- The same within each batch row. -/
theorem sum_rows {ι : Type} (S : (n : ℕ) → n < cfg0.N → ι → EReal) (g : ι → Fin 4 → Fin 2048 → EReal)
    (h0 : ∀ n (h : n < cfg0.N) i, n % 8 = 0 → S n h i = 0 + ∑ r : Fin 256, g i (bt ⟨n, h⟩) (tok (nt ⟨n, h⟩) r))
    (hs : ∀ n (h : n + 1 < cfg0.N) i, ¬(n + 1) % 8 = 0 → S (n + 1) h i = S n (by omega) i + ∑ r : Fin 256, g i (bt ⟨n + 1, h⟩) (tok (nt ⟨n + 1, h⟩) r))
    (hl : t.val % 8 = 7) (i : ι) : S t.val t.isLt i = ∑ s, g i (bt t) s := by
  have key : ∀ n (h : n < cfg0.N), S n h i = ∑ k ∈ Finset.range (n % 8 + 1), ∑ r : Fin 256, g i (bt ⟨n, h⟩) (tok ⟨k % 8, by omega⟩ r) := by
    intro n
    induction n with
    | zero =>
      intro h
      rw [h0 0 h i rfl, zero_add]
      show _ = ∑ k ∈ Finset.range 1, ∑ r : Fin 256, g i (bt ⟨0, h⟩) (tok ⟨k % 8, by omega⟩ r)
      rw [Finset.sum_range_one]
    | succ n ih =>
      intro h
      by_cases h8 : (n + 1) % 8 = 0
      · rw [h0 _ h i h8, zero_add, h8, Finset.sum_range_one]
        refine Finset.sum_congr rfl fun r _ => congrArg (fun q => g i _ (tok q r)) (Fin.ext h8)
      · have e : (n + 1) % 8 = n % 8 + 1 := by omega
        have eb : bt ⟨n + 1, h⟩ = bt ⟨n, by omega⟩ := Fin.ext (by show (n + 1) / 8 = n / 8; omega)
        rw [hs n h i h8, ih, eb, e, Finset.sum_range_succ _ (n % 8 + 1)]
        refine congrArg _ (Finset.sum_congr rfl fun r _ => congrArg (fun q => g i _ (tok q r)) (Fin.ext ?_))
        show (n + 1) % 8 = (n % 8 + 1) % 8
        omega
  rw [key, hl]
  exact sum_tiles (g i (bt t))

/-- The loss: the sum of all squared errors in every lane. -/
theorem final_loss : (dats m 0 c).arrAt 14 cfg0.N = fun _ : S1x1024.Idx => ∑ b, ∑ s, se (arr m c) b s := by
  refine (dats m 0 c).arrAt_eq_of_covers 14 _ (by decide +kernel) fun t hf y => ?_
  blk_simp
  rw [after_14]
  obtain ⟨k, rfl⟩ := eta2 y
  refine sum_all t (fun n hn k => lossAt m c n hn (ix2 0 k)) (fun _ b s => se (arr m c) b s) (fun h k => ?_) (fun n h k => ?_) ((flush0_14 t).mp hf) k
  · have e : k0_pay6 (F := Ideal) (ix2 0 k) = 0 := by pointwise [k0_pay6]
    rw [lossAt]
    have key := lP_is (is_blk m c ⟨0, h⟩) (behind m c ⟨0, h⟩) (k0_pay6 (F := Ideal)) k
    rw [e] at key
    exact key
  · rw [lossAt]
    exact lP_is (is_blk m c ⟨n + 1, h⟩) (behind m c ⟨n + 1, h⟩) _ k

/-- The norm's gradients. -/
theorem final_dln : (dats m 0 c).arrAt 15 cfg0.N = fun i : S2x1024.Idx => ∑ b, ∑ s, dln (arr m c) b s (i 0) (i 1) := by
  refine (dats m 0 c).arrAt_eq_of_covers 15 _ (by decide +kernel) fun t hf y => ?_
  blk_simp
  rw [after_15]
  obtain ⟨j, k, rfl⟩ : ∃ (j : Fin 2) (k : Fin 1024), y = ix2 j k := ⟨y 0, y 1, funext fun a => by
    match a with
    | 0 => rfl
    | 1 => rfl⟩
  refine (sum_all t (fun n hn (i : Fin 2 × Fin 1024) => normAt m c n hn (ix2 i.1 i.2)) (fun i b s => dln (arr m c) b s i.1 i.2) (fun h i => ?_) (fun n h i => ?_)
    ((flush0_15 t).mp hf) (j, k)).trans ?_
  · have e : k0_pay7 (F := Ideal) (ix2 i.1 i.2) = 0 := by pointwise [k0_pay7]
    rw [normAt]
    have key := nP_is (is_blk m c ⟨0, h⟩) (behind m c ⟨0, h⟩) (k0_pay7 (F := Ideal)) i.1 i.2
    rw [e] at key
    exact key
  · rw [normAt]
    exact nP_is (is_blk m c ⟨n + 1, h⟩) (behind m c ⟨n + 1, h⟩) _ i.1 i.2
  · exact congrArg (fun i : S2x1024.Idx => ∑ b, ∑ s, dln (arr m c) b s (i 0) (i 1)) (show ix2 j k = _ by blk_ext [idx t])

/-- The modulation gate's gradient. -/
theorem final_dgt : (dats m 0 c).arrAt 16 cfg0.N = fun i : S4x1x1024.Idx => ∑ s, dz (arr m c) (i 0) s (i 2) * y (arr m c) (i 0) s (i 2) := by
  refine (dats m 0 c).arrAt_eq_of_covers 16 _ (by decide +kernel) fun t hf w => ?_
  blk_simp
  rw [after_16]
  obtain ⟨z, k, rfl⟩ := eta3 w
  obtain rfl : z = 0 := Subsingleton.elim _ _
  have e : ∀ k, k0_pay5 (F := Ideal) (ix3 0 0 k) = 0 := fun k => by pointwise [k0_pay5]
  refine (sum_rows t (fun n hn k => gateAt m c n hn (ix3 0 0 k)) (fun k b s => dz (arr m c) b s k * y (arr m c) b s k) (fun n h k h8 => ?_) (fun n h k h8 => ?_)
    ((flush0_16 t).mp hf) k).trans ?_
  · cases n with
    | zero =>
      rw [gateAt]
      have key := mP_is (is_blk m c ⟨0, h⟩) (behind m c ⟨0, h⟩) (k0_pay5 (F := Ideal)) k
      rw [e k] at key
      exact key
    | succ n =>
      rw [gateAt, if_pos h8]
      have key := mP_is (is_blk m c ⟨n + 1, h⟩) (behind m c ⟨n + 1, h⟩) (k0_pay5 (F := Ideal)) k
      rw [e k] at key
      exact key
  · rw [gateAt, if_neg h8]
    exact mP_is (is_blk m c ⟨n + 1, h⟩) (behind m c ⟨n + 1, h⟩) _ k
  · exact congrArg (fun i : S4x1x1024.Idx => ∑ s, dz (arr m c) (i 0) s (i 2) * y (arr m c) (i 0) s (i 2)) (show ix3 (bt t) 0 k = _ by blk_ext [idx t])

end Cert.Kernel3Ideal.Fwd

end
-- ==== Proof.FwdEqual.lean ====
/- The forward call's runs: the kernel's results and the reference's are the formulas at the same arrays. -/
module

public import proofs.«01_k».proof.Defs
public import proofs.«01_k».proof.Proof.Gen.Reference3Ideal.Run
public import proofs.«01_k».proof.Proof.FwdGrad
public import proofs.«01_k».proof.Proof.FwdFinal
public import proofs.«01_k».proof.Proof.Equal

@[expose] public section

set_option maxRecDepth 16384

noncomputable section

namespace Cert.Pre_head_finite

open Idealize.ShloMosaic

/-- The side conditions of the precondition's broadcasts. -/
theorem facts : Facts where
  bcast_S_S1x1024 := by decide
  bcast_S_S4x2048x1024 := by decide

end Cert.Pre_head_finite

namespace Cert.Reference3Ideal.Fwd

open Cert.Reference3Ideal Cert.Reference3Ideal.Gen Cert.Reference3Ideal.Read Cert.Fwd
open Idealize.ShloMosaic Idealize.ShloMosaic.TcCoe Idealize.SL.Sem

/-- The arrays of the formulas, from the reference's arguments. -/
abbrev arr (m : (ℓ : Loc nD τ sig) → Buf (Elt Ideal) ℓ) (c : Dev nD) : Arr :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩

/-- Arrays that agree one by one are equal. -/
theorem arr_ext {A B : Arr} (e : A.x = B.x ∧ A.mod = B.mod ∧ A.wup = B.wup ∧ A.cw = B.cw ∧ A.cb = B.cb ∧ A.wdn = B.wdn ∧ A.g2 = B.g2 ∧ A.b2 = B.b2 ∧ A.tg = B.tg) :
    A = B := by
  cases A
  cases B
  rw [Arr.mk.injEq]
  exact e

/-- The reference's results in their order, whole, are the formulas at any arrays equal to its arguments. -/
theorem whole {A B : Arr} (e : A = B) (R : Reals B) :
    val_main_v178 (F := Ideal) A.x A.mod = (fun i => u B (i 0) (i 1) (i 2)) ∧
    val_main_v25 (F := Ideal) A.x A.mod A.wup = (fun i => h B (i 0) (i 1) (i 2)) ∧
    val_main_v181 (F := Ideal) A.x A.mod A.wup A.cw A.cb = (fun i => fv B (i 0) (i 1) (i 2)) ∧
    val_main_v56 (F := Ideal) A.x A.mod A.wup A.cw A.cb = (fun i => gc B (i 0) (i 1) (i 2)) ∧
    val_main_v177 (F := Ideal) A.x A.mod A.wup A.cw A.cb A.wdn A.g2 A.b2 A.tg = (fun i => dz B (i 0) (i 1) (i 2)) ∧
    val_main_v183 (F := Ideal) A.x A.mod A.wup A.cw A.cb A.wdn A.g2 A.b2 A.tg = (fun _ => ∑ b, ∑ s, se B b s) ∧
    val_main_v186 (F := Ideal) A.x A.mod A.wup A.cw A.cb A.wdn A.g2 A.b2 A.tg = (fun i => ∑ b, ∑ s, dln B b s (i 0) (i 1)) ∧
    val_main_v189 (F := Ideal) A.x A.mod A.wup A.cw A.cb A.wdn A.g2 A.b2 A.tg = fun i => ∑ s, dz B (i 0) s (i 2) * y B (i 0) s (i 2) := by
  subst e
  refine ⟨funext fun i => ?_, funext fun i => ?_, funext fun i => ?_, funext fun i => ?_, funext fun i => ?_, funext fun i => ?_, funext fun i => ?_, funext fun i => ?_⟩
  · exact (congrArg _ (ix3_eta i).symm).trans (v178_at A _ _ _)
  · exact (congrArg _ (ix3_eta i).symm).trans (v25_at A _ _ _)
  · exact (congrArg _ (ix3_eta i).symm).trans (v181_at A _ _ _)
  · exact (congrArg _ (ix3_eta i).symm).trans (v56_at A _ _ _)
  · exact (congrArg _ (ix3_eta i).symm).trans (v177_at _ _ R _)
  · obtain ⟨k, rfl⟩ := Cert.KernelIdeal.Points.eta2 i
    exact v183_at R k
  · exact (congrArg _ (ix2_eta i).symm).trans (v186_at A _ _)
  · refine (congrArg _ ((ix3_eta i).symm.trans ?_)).trans (v189_at (i 0) R (i 2))
    exact congrArg (ix3 (i 0) · (i 2)) (Subsingleton.elim (α := Fin 1) _ _)

end Cert.Reference3Ideal.Fwd

namespace Cert.Kernel3Ideal.Fwd

open Idealize.ShloMosaic Idealize.ShloMosaic.TcCoe Idealize.SL.Sem Cert.Kernel3Ideal Cert.Kernel3Ideal.Gen Cert.Fwd Cert.Mixer

variable (m : (ℓ : Loc nD τ sig) → Buf (Elt Ideal) ℓ) (ρ : Dev nD → PrngReg)

/-- What the precondition says. -/
theorem reals (hm : Cert.Pre_Kernel3Ideal_head_finite (hPre_head_finite := Cert.Pre_head_finite.facts) m) (c : Dev nD) : Reals (arr m c) := by
  obtain ⟨h6, h7, h8⟩ := hm c
  exact ⟨fun i => Real.of_cmp _ (congrFun h6 i), fun i => Real.of_cmp _ (congrFun h7 i), fun i => Real.of_cmp _ (congrFun h8 i)⟩

/-- The run ends with the formulas in the results and the arguments as they were. -/
theorem run_results : θ_run defs (onTc (τ := τ) (main (F := Ideal))) ⟨m, fun _ => 0, ρ⟩ (fun r => ∀ c : Dev nD,
      r.2.mem ((c.tc : Thread nD τ).loc main_v8_0) = (fun i => u (arr m c) (i 0) (i 1) (i 2))
      ∧ r.2.mem ((c.tc : Thread nD τ).loc main_v8_1) = (fun i => Cert.Fwd.h (arr m c) (i 0) (i 1) (i 2))
      ∧ r.2.mem ((c.tc : Thread nD τ).loc main_v8_2) = (fun i => fv (arr m c) (i 0) (i 1) (i 2))
      ∧ r.2.mem ((c.tc : Thread nD τ).loc main_v8_3) = (fun i => gc (arr m c) (i 0) (i 1) (i 2))
      ∧ r.2.mem ((c.tc : Thread nD τ).loc main_v8_4) = (fun i => dz (arr m c) (i 0) (i 1) (i 2))
      ∧ r.2.mem ((c.tc : Thread nD τ).loc main_v8_5) = (fun _ => ∑ b, ∑ s, se (arr m c) b s)
      ∧ r.2.mem ((c.tc : Thread nD τ).loc main_v8_6) = (fun i => ∑ b, ∑ s, dln (arr m c) b s (i 0) (i 1))
      ∧ r.2.mem ((c.tc : Thread nD τ).loc main_v8_7) = (fun i => ∑ s, dz (arr m c) (i 0) s (i 2) * y (arr m c) (i 0) s (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 9).trans (final_u m c), ((h.1 c).1 10).trans (final_h m c), ((h.1 c).1 11).trans (final_f m c),
    ((h.1 c).1 12).trans (final_gc m c), ((h.1 c).1 13).trans (final_dz m c), ((h.1 c).1 14).trans (final_loss m c),
    ((h.1 c).1 15).trans (final_dln m c), ((h.1 c).1 16).trans (final_dgt m c), h.2.1 c⟩) (θ_run_and (run_main m ρ) (frame m ρ))

end Cert.Kernel3Ideal.Fwd

end
-- ==== Proof.FwdSame.lean ====
/- The program of the forward call over bits has the text of its idealization, so the run proved of the one is the run of the other. -/
module

public import proofs.«01_k».proof.Defs
public import proofs.«01_k».proof.Proof.Gen.Kernel3
public import proofs.«01_k».proof.Proof.FwdFrame

@[expose] public section

set_option maxRecDepth 16384

noncomputable section

namespace Cert.Kernel3.Fwd

open Idealize.ShloMosaic Idealize.ShloMosaic.TcCoe Idealize.SL.Sem

/-- The kernel's body is the idealization's. -/
theorem body_eq : Cert.Kernel3.defs₀ (F := Bits) = Cert.Kernel3Ideal.defs₀ := by
  refine congrArg Defs.onTc (funext fun l => ?_)
  obtain ⟨k, hk⟩ := l
  obtain rfl : k = 0 := Nat.lt_one_iff.mp hk
  rfl

/-- So is the pipeline around the body. -/
theorem defs_eq : Cert.Kernel3.defs (F := Bits) = Cert.Kernel3Ideal.defs := congrArg (Pipeline.defs Cert.Kernel3Ideal.pcfgs) body_eq

/-- So is the host's program. -/
theorem main_eq : Cert.Kernel3.main (F := Bits) = Cert.Kernel3Ideal.main := rfl

/-- The kernel of the forward call leaves its arguments as they were and every counter at zero. -/
theorem frame : Cert.quiescent_Kernel3 (hKernel3 := Cert.Kernel3.Gen.facts) := by
  intro m g _
  rw [defs_eq, main_eq]
  exact Cert.Kernel3Ideal.Fwd.frame (F := Bits) m g

end Cert.Kernel3.Fwd

end
-- ==== Proof.lean ====
/- The claims of the four calls: both frames, the reference's, that the idealization keeps the kernel's operations, and
   that the kernel and the reference compute the same numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.ReferenceIdeal.Read
public import proofs.«01_k».proof.Proof.Final
public import proofs.«01_k».proof.Proof.Pre
public import proofs.«01_k».proof.Proof.Equal
public import proofs.«01_k».proof.Proof.Up
public import proofs.«01_k».proof.Proof.Ada
public import proofs.«01_k».proof.Proof.FwdEqual
public import proofs.«01_k».proof.Proof.FwdSame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel Cert.Mixer Cert.KernelIdeal.Points Cert.KernelIdeal.Tile Cert.ReferenceIdeal.Mixer Cert.ReferenceIdeal.Read

/-- The reference runs, leaves its arguments as they were and every counter at zero. -/
theorem reference_frame : Cert.quiescent_ReferenceIdeal (hReferenceIdeal := Cert.ReferenceIdeal.Gen.facts) := by
  intro m g _
  exact (θ_run Cert.ReferenceIdeal.defs _ _).mono (fun r h => ⟨fun c => (h c).2.2.2.2.2, sem_eq_zero_of_no_sems (by decide) r.2⟩)
    (Cert.ReferenceIdeal.Value.run m g)

/-- The kernel and the reference compute the same five results. -/
theorem results : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hm hagree
  refine ⟨fun c i => dx (arr m c) (i 0) (i 1) (i 2), fun c i => dy (arr m c) (i 0) (i 1) (i 2), fun c i => dh (arr m c) (i 0) (i 1) (i 2),
    fun c i => dfc (arr m c) (i 0) (i 1), fun c i => dmod (arr m c) (i 0) (i 1) (i 2), ?_, ?_⟩
  · refine (θ_run Cert.KernelIdeal.defs _ _).mono (fun r h c => ?_) (Cert.KernelIdeal.Value.run_blocks m g)
    obtain ⟨h0, h1, h2, h3, h4, hr⟩ := h c
    exact ⟨h0.trans (final_dx m c), h1.trans (final_dy m c), h2.trans (final_dh m c), h3.trans (final_dfc m c), h4.trans (final_dmod m c), hr⟩
  · refine (θ_run Cert.ReferenceIdeal.defs _ _).mono (fun r h c => ?_) (Cert.ReferenceIdeal.Value.run m' g')
    obtain ⟨h0, h1, h2, h3, h4, hr⟩ := h c
    obtain ⟨a0, a1, a2, a3, a4, a5, a6⟩ := hagree c
    have h77 := v77_pre m hm c
    exact ⟨(h0.trans (val_main_v125_eq _)).trans (v125_eq a0 a1 a2 a3 a4 a5 a6 h77),
      (h1.trans (val_main_v126_eq _)).trans (v126_eq a0 a1 a2 a3 a4 a5 a6 h77),
      (h2.trans (val_main_v127_eq _)).trans (v127_eq a0 a1 a2 a3 a4 a5 a6 h77),
      (h3.trans (val_main_v129_eq _)).trans (v129_eq a0 a1 a2 a3 a4 a5 a6 h77),
      (h4.trans (val_main_v130_eq _)).trans (v130_eq a0 a1 a2 a3 a4 a5 a6 h77), hr⟩

/-- The reference of the up projection's gradient runs, leaves its arguments as they were and every counter at zero. -/
theorem reference2_frame : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

/-- The kernel and the reference compute the same gradient of `w_up`. -/
theorem results2 : Cert.algebraic_Kernel2Ideal_Reference2Ideal (hKernel2Ideal := Cert.Kernel2Ideal.Gen.facts)
    (hReference2Ideal := Cert.Reference2Ideal.Gen.facts) := by
  intro m g m' g' _ hagree
  refine ⟨fun c i => Cert.Up.gw (Cert.Kernel2Ideal.Up.ax m c) (Cert.Kernel2Ideal.Up.amod m c) (Cert.Kernel2Ideal.Up.adh m c) (i 0) (i 1) (i 2), ?_, ?_⟩
  · refine (θ_run Cert.Kernel2Ideal.defs _ _).mono (fun r h c => ?_) (Cert.Kernel2Ideal.Value.run_blocks m g)
    obtain ⟨h0, hr⟩ := h c
    exact ⟨h0.trans (Cert.Kernel2Ideal.Up.final m c), hr⟩
  · refine (θ_run Cert.Reference2Ideal.defs _ _).mono (fun r h c => ?_) (Cert.Reference2Ideal.Value.run m' g')
    obtain ⟨h0, hr⟩ := h c
    obtain ⟨a0, a1, a2⟩ := hagree c
    exact ⟨(h0.trans (Cert.Reference2Ideal.Read.val_main_v24_eq _ _ _)).trans (Cert.Reference2Ideal.Up.result_eq a0 a1 a2), hr⟩

/-- The reference of the forward call runs, leaves its arguments as they were and every counter at zero. -/
theorem reference3_frame : Cert.quiescent_Reference3Ideal (hReference3Ideal := Cert.Reference3Ideal.Gen.facts) := by
  intro m g _
  exact (θ_run Cert.Reference3Ideal.defs _ _).mono (fun r h => ⟨fun c => (h c).2.2.2.2.2.2.2.2, sem_eq_zero_of_no_sems (by decide) r.2⟩)
    (Cert.Reference3Ideal.Value.run m g)

/-- The kernel and the reference of the forward call compute the same eight results. -/
theorem results3 : Cert.algebraic_Kernel3Ideal_Reference3Ideal_pre_head_finite (hKernel3Ideal := Cert.Kernel3Ideal.Gen.facts)
    (hReference3Ideal := Cert.Reference3Ideal.Gen.facts) (hPre_head_finite := Cert.Pre_head_finite.facts) := by
  intro m g m' g' hm hagree
  let A := fun (c : Dev Cert.Kernel3Ideal.nD) => Cert.Kernel3Ideal.Fwd.arr m c
  refine ⟨fun c i => Cert.Fwd.u (A c) (i 0) (i 1) (i 2), fun c i => Cert.Fwd.h (A c) (i 0) (i 1) (i 2), fun c i => Cert.Fwd.fv (A c) (i 0) (i 1) (i 2),
    fun c i => Cert.Fwd.gc (A c) (i 0) (i 1) (i 2), fun c i => Cert.Fwd.dz (A c) (i 0) (i 1) (i 2), fun c _ => (∑ b, ∑ s, Cert.Fwd.se (A c) b s : EReal),
    fun c i => (∑ b, ∑ s, Cert.Fwd.dln (A c) b s (i 0) (i 1) : EReal),
    fun c i => (∑ s, Cert.Fwd.dz (A c) (i 0) s (i 2) * Cert.Fwd.y (A c) (i 0) s (i 2) : EReal),
    Cert.Kernel3Ideal.Fwd.run_results m g, ?_⟩
  refine (θ_run Cert.Reference3Ideal.defs _ _).mono (fun r h c => ?_) (Cert.Reference3Ideal.Value.run m' g')
  obtain ⟨h0, h1, h2, h3, h4, h5, h6, h7, hr⟩ := h c
  have e : Cert.Reference3Ideal.Fwd.arr m' c = Cert.Kernel3Ideal.Fwd.arr m c := Cert.Reference3Ideal.Fwd.arr_ext (hagree c)
  obtain ⟨w0, w1, w2, w3, w4, w5, w6, w7⟩ := Cert.Reference3Ideal.Fwd.whole e (Cert.Kernel3Ideal.Fwd.reals m hm c)
  exact ⟨(h0.trans (Cert.Reference3Ideal.Read.val_main_v178_eq _)).trans w0, (h1.trans (Cert.Reference3Ideal.Read.val_main_v25_eq _)).trans w1,
    (h2.trans (Cert.Reference3Ideal.Read.val_main_v181_eq _)).trans w2, (h3.trans (Cert.Reference3Ideal.Read.val_main_v56_eq _)).trans w3,
    (h4.trans (Cert.Reference3Ideal.Read.val_main_v177_eq _)).trans w4, (h5.trans (Cert.Reference3Ideal.Read.val_main_v183_eq _)).trans w5,
    (h6.trans (Cert.Reference3Ideal.Read.val_main_v186_eq _)).trans w6, (h7.trans (Cert.Reference3Ideal.Read.val_main_v189_eq _)).trans w7, hr⟩

/-- The reference of the modulation's backward call runs, leaves its arguments as they were and every counter at zero. -/
theorem reference4_frame : Cert.quiescent_Reference4Ideal (hReference4Ideal := Cert.Reference4Ideal.Gen.facts) := by
  intro m g _
  exact (θ_run Cert.Reference4Ideal.defs _ _).mono (fun r h => ⟨fun c => (h c).2.2.2.2, sem_eq_zero_of_no_sems (by decide) r.2⟩)
    (Cert.Reference4Ideal.Value.run m g)

/-- The kernel and the reference compute the same gradient of `w_ada`, step and moments. -/
theorem results4 : Cert.algebraic_Kernel4Ideal_Reference4Ideal (hKernel4Ideal := Cert.Kernel4Ideal.Gen.facts)
    (hReference4Ideal := Cert.Reference4Ideal.Gen.facts) := by
  intro m g m' g' _ hagree
  let gr := fun (c : Dev Cert.Kernel4Ideal.nD) => Cert.Ada.gw (Cert.Kernel4Ideal.Ada.ac m c) (Cert.Kernel4Ideal.Ada.ad m c)
  refine ⟨fun c i => gr c (i 0) (i 1),
    fun c i => Cert.Ada.delta (gr c (i 0) (i 1)) (Cert.Kernel4Ideal.Ada.aw m c i) (Cert.Kernel4Ideal.Ada.am m c i) (Cert.Kernel4Ideal.Ada.av m c i),
    fun c i => Cert.Ada.newM (gr c (i 0) (i 1)) (Cert.Kernel4Ideal.Ada.am m c i),
    fun c i => Cert.Ada.newV (gr c (i 0) (i 1)) (Cert.Kernel4Ideal.Ada.av m c i), ?_, ?_⟩
  · refine (θ_run Cert.Kernel4Ideal.defs _ _).mono (fun r h c => ?_) (Cert.Kernel4Ideal.Value.run_blocks m g)
    obtain ⟨h0, h1, h2, h3, hr⟩ := h c
    exact ⟨h0.trans (Cert.Kernel4Ideal.Ada.final_g m c), h1.trans (Cert.Kernel4Ideal.Ada.final_delta m c),
      h2.trans (Cert.Kernel4Ideal.Ada.final_m m c), h3.trans (Cert.Kernel4Ideal.Ada.final_v m c), hr⟩
  · refine (θ_run Cert.Reference4Ideal.defs _ _).mono (fun r h c => ?_) (Cert.Reference4Ideal.Value.run m' g')
    obtain ⟨h0, h1, h2, h3, hr⟩ := h c
    obtain ⟨a0, a1, a2, a3, a4⟩ := hagree c
    exact ⟨(h0.trans (Cert.Reference4Ideal.Read.val_main_v3_eq _ _)).trans (Cert.Reference4Ideal.Ada.v3_eq a0 a1),
      (h1.trans (Cert.Reference4Ideal.Read.val_main_v27_eq _ _ _ _ _)).trans (Cert.Reference4Ideal.Ada.v27_eq a0 a1 a2 a3 a4),
      (h2.trans (Cert.Reference4Ideal.Read.val_main_v8_eq _ _ _)).trans (Cert.Reference4Ideal.Ada.v8_eq a0 a1 a3),
      (h3.trans (Cert.Reference4Ideal.Read.val_main_v14_eq _ _ _)).trans (Cert.Reference4Ideal.Ada.v14_eq a0 a1 a4), hr⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts, Cert.Pre_head_finite.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  Cert.Kernel3.Fwd.frame, fun m g _ => Cert.Kernel3Ideal.Fwd.frame m g, fun m g _ => Cert.Kernel3Ideal.Fwd.frame m g,
  reference3_frame, fun m g _ => reference3_frame m g trivial,
  fun m g _ => Cert.Kernel4.Gen.frame m g, fun m g _ => Cert.Kernel4Ideal.Gen.frame m g, reference4_frame,
  trivial, results, trivial, results2, trivial, results3, trivial, results4⟩

end Cert.Proof

end
